-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_attn_finite [hPre_attn_finite : Cert.Pre_attn_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_attn_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).1 = (fun _ => 1#1)
    ∧ (Cert.Pre_attn_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.1 = (fun _ => 1#1)
    ∧ (Cert.Pre_attn_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_attn_finite [hPre_attn_finite : Cert.Pre_attn_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_attn_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).1 = (fun _ => 1#1)
    ∧ (Cert.Pre_attn_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.1 = (fun _ => 1#1)
    ∧ (Cert.Pre_attn_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Kernel18Ideal_attnf_finite [hPre_attnf_finite : Cert.Pre_attnf_finite.Facts] (m : (ℓ : Loc Cert.Kernel18Ideal.nD Cert.Kernel18Ideal.τ Cert.Kernel18Ideal.sig) → Buf (Elt Ideal) ℓ) : Prop :=
  ∀ c : Dev Cert.Kernel18Ideal.nD,
    (Cert.Pre_attnf_finite.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1))).1 = (fun _ => 1#1)
    ∧ (Cert.Pre_attnf_finite.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1))).2 = (fun _ => 1#1)

def Pre_Reference18Ideal (m : (ℓ : Loc Cert.Reference18Ideal.nD Cert.Reference18Ideal.τ Cert.Reference18Ideal.sig) → Buf (Elt Ideal) ℓ) : Prop :=
  True

def Pre_Reference18Ideal_attnf_finite [hPre_attnf_finite : Cert.Pre_attnf_finite.Facts] (m : (ℓ : Loc Cert.Reference18Ideal.nD Cert.Reference18Ideal.τ Cert.Reference18Ideal.sig) → Buf (Elt Ideal) ℓ) : Prop :=
  ∀ c : Dev Cert.Reference18Ideal.nD,
    (Cert.Pre_attnf_finite.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1))).1 = (fun _ => 1#1)
    ∧ (Cert.Pre_attnf_finite.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1))).2 = (fun _ => 1#1)

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_attn_finite [hKernel2Ideal : Cert.Kernel2Ideal.Facts] [hPre_attn_finite : Cert.Pre_attn_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_attn_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_attn_finite [hReference2Ideal : Cert.Reference2Ideal.Facts] [hPre_attn_finite : Cert.Pre_attn_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_attn_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Kernel18Ideal_pre_attnf_finite [hKernel18Ideal : Cert.Kernel18Ideal.Facts] [hPre_attnf_finite : Cert.Pre_attnf_finite.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal_attnf_finite m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Reference18Ideal_pre_attnf_finite [hReference18Ideal : Cert.Reference18Ideal.Facts] [hPre_attnf_finite : Cert.Pre_attnf_finite.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal_attnf_finite m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def preserves_Kernel2_Kernel2Ideal : Prop :=
  True

def algebraic_Kernel2Ideal_Reference2Ideal_pre_attn_finite [hKernel2Ideal : Cert.Kernel2Ideal.Facts] [hReference2Ideal : Cert.Reference2Ideal.Facts] [hPre_attn_finite : Cert.Pre_attn_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_attn_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v75) = v0 c
          ∧ r.2.mem ((c.tc : Thread Cert.Reference2Ideal.nD Cert.Reference2Ideal.τ).loc Cert.Reference2Ideal.main_v73) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v14) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v5_0)) (v1 : (c : Dev Cert.Kernel6Ideal.nD) → Buf (Elt Ideal) ((c.tc : Thread Cert.Kernel6Ideal.nD Cert.Kernel6Ideal.τ).loc Cert.Kernel6Ideal.main_v5_1)) (v2 : (c : Dev Cert.Kernel6Ideal.nD) → Buf (Elt Ideal) ((c.tc : Thread Cert.Kernel6Ideal.nD Cert.Kernel6Ideal.τ).loc Cert.Kernel6Ideal.main_v5_2)) (v3 : (c : Dev Cert.Kernel6Ideal.nD) → Buf (Elt Ideal) ((c.tc : Thread Cert.Kernel6Ideal.nD Cert.Kernel6Ideal.τ).loc Cert.Kernel6Ideal.main_v5_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5_0) = v0 c
          ∧ r.2.mem ((c.tc : Thread Cert.Kernel6Ideal.nD Cert.Kernel6Ideal.τ).loc Cert.Kernel6Ideal.main_v5_1) = v1 c
          ∧ r.2.mem ((c.tc : Thread Cert.Kernel6Ideal.nD Cert.Kernel6Ideal.τ).loc Cert.Kernel6Ideal.main_v5_2) = v2 c
          ∧ r.2.mem ((c.tc : Thread Cert.Kernel6Ideal.nD Cert.Kernel6Ideal.τ).loc Cert.Kernel6Ideal.main_v5_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v37) = v0 c
          ∧ r.2.mem ((c.tc : Thread Cert.Reference6Ideal.nD Cert.Reference6Ideal.τ).loc Cert.Reference6Ideal.main_v41) = v1 c
          ∧ r.2.mem ((c.tc : Thread Cert.Reference6Ideal.nD Cert.Reference6Ideal.τ).loc Cert.Reference6Ideal.main_v42) = v2 c
          ∧ r.2.mem ((c.tc : Thread Cert.Reference6Ideal.nD Cert.Reference6Ideal.τ).loc Cert.Reference6Ideal.main_v20) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v2_0)) (v1 : (c : Dev Cert.Kernel7Ideal.nD) → Buf (Elt Ideal) ((c.tc : Thread Cert.Kernel7Ideal.nD Cert.Kernel7Ideal.τ).loc Cert.Kernel7Ideal.main_v2_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2_0) = v0 c
          ∧ r.2.mem ((c.tc : Thread Cert.Kernel7Ideal.nD Cert.Kernel7Ideal.τ).loc Cert.Kernel7Ideal.main_v2_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v39) = v0 c
          ∧ r.2.mem ((c.tc : Thread Cert.Reference7Ideal.nD Cert.Reference7Ideal.τ).loc Cert.Reference7Ideal.main_v22) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v8) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v6_0)) (v1 : (c : Dev Cert.Kernel9Ideal.nD) → Buf (Elt Ideal) ((c.tc : Thread Cert.Kernel9Ideal.nD Cert.Kernel9Ideal.τ).loc Cert.Kernel9Ideal.main_v6_1)) (v2 : (c : Dev Cert.Kernel9Ideal.nD) → Buf (Elt Ideal) ((c.tc : Thread Cert.Kernel9Ideal.nD Cert.Kernel9Ideal.τ).loc Cert.Kernel9Ideal.main_v6_2)) (v3 : (c : Dev Cert.Kernel9Ideal.nD) → Buf (Elt Ideal) ((c.tc : Thread Cert.Kernel9Ideal.nD Cert.Kernel9Ideal.τ).loc Cert.Kernel9Ideal.main_v6_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v6_0) = v0 c
          ∧ r.2.mem ((c.tc : Thread Cert.Kernel9Ideal.nD Cert.Kernel9Ideal.τ).loc Cert.Kernel9Ideal.main_v6_1) = v1 c
          ∧ r.2.mem ((c.tc : Thread Cert.Kernel9Ideal.nD Cert.Kernel9Ideal.τ).loc Cert.Kernel9Ideal.main_v6_2) = v2 c
          ∧ r.2.mem ((c.tc : Thread Cert.Kernel9Ideal.nD Cert.Kernel9Ideal.τ).loc Cert.Kernel9Ideal.main_v6_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v56) = v0 c
          ∧ r.2.mem ((c.tc : Thread Cert.Reference9Ideal.nD Cert.Reference9Ideal.τ).loc Cert.Reference9Ideal.main_v57) = v1 c
          ∧ r.2.mem ((c.tc : Thread Cert.Reference9Ideal.nD Cert.Reference9Ideal.τ).loc Cert.Reference9Ideal.main_v31) = v2 c
          ∧ r.2.mem ((c.tc : Thread Cert.Reference9Ideal.nD Cert.Reference9Ideal.τ).loc Cert.Reference9Ideal.main_v40) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)) →
    ∃ (v0 : (c : Dev Cert.Kernel12Ideal.nD) → Buf (Elt Ideal) ((c.tc : Thread Cert.Kernel12Ideal.nD Cert.Kernel12Ideal.τ).loc Cert.Kernel12Ideal.main_v2_0)) (v1 : (c : Dev Cert.Kernel12Ideal.nD) → Buf (Elt Ideal) ((c.tc : Thread Cert.Kernel12Ideal.nD Cert.Kernel12Ideal.τ).loc Cert.Kernel12Ideal.main_v2_1)) (v2 : (c : Dev Cert.Kernel12Ideal.nD) → Buf (Elt Ideal) ((c.tc : Thread Cert.Kernel12Ideal.nD Cert.Kernel12Ideal.τ).loc Cert.Kernel12Ideal.main_v2_2)) (v3 : (c : Dev Cert.Kernel12Ideal.nD) → Buf (Elt Ideal) ((c.tc : Thread Cert.Kernel12Ideal.nD Cert.Kernel12Ideal.τ).loc Cert.Kernel12Ideal.main_v2_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2_0) = v0 c
          ∧ r.2.mem ((c.tc : Thread Cert.Kernel12Ideal.nD Cert.Kernel12Ideal.τ).loc Cert.Kernel12Ideal.main_v2_1) = v1 c
          ∧ r.2.mem ((c.tc : Thread Cert.Kernel12Ideal.nD Cert.Kernel12Ideal.τ).loc Cert.Kernel12Ideal.main_v2_2) = v2 c
          ∧ r.2.mem ((c.tc : Thread Cert.Kernel12Ideal.nD Cert.Kernel12Ideal.τ).loc Cert.Kernel12Ideal.main_v2_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v37) = v0 c
          ∧ r.2.mem ((c.tc : Thread Cert.Reference12Ideal.nD Cert.Reference12Ideal.τ).loc Cert.Reference12Ideal.main_v41) = v1 c
          ∧ r.2.mem ((c.tc : Thread Cert.Reference12Ideal.nD Cert.Reference12Ideal.τ).loc Cert.Reference12Ideal.main_v44) = v2 c
          ∧ r.2.mem ((c.tc : Thread Cert.Reference12Ideal.nD Cert.Reference12Ideal.τ).loc Cert.Reference12Ideal.main_v20) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v6) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v8) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v6) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v11) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v3) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v18) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal_pre_attnf_finite [hKernel18Ideal : Cert.Kernel18Ideal.Facts] [hReference18Ideal : Cert.Reference18Ideal.Facts] [hPre_attnf_finite : Cert.Pre_attnf_finite.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal_attnf_finite m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v26) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)) →
    ∃ (v0 : (c : Dev Cert.Kernel19Ideal.nD) → Buf (Elt Ideal) ((c.tc : Thread Cert.Kernel19Ideal.nD Cert.Kernel19Ideal.τ).loc Cert.Kernel19Ideal.main_v2_0)) (v1 : (c : Dev Cert.Kernel19Ideal.nD) → Buf (Elt Ideal) ((c.tc : Thread Cert.Kernel19Ideal.nD Cert.Kernel19Ideal.τ).loc Cert.Kernel19Ideal.main_v2_1)) (v2 : (c : Dev Cert.Kernel19Ideal.nD) → Buf (Elt Ideal) ((c.tc : Thread Cert.Kernel19Ideal.nD Cert.Kernel19Ideal.τ).loc Cert.Kernel19Ideal.main_v2_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v2_0) = v0 c
          ∧ r.2.mem ((c.tc : Thread Cert.Kernel19Ideal.nD Cert.Kernel19Ideal.τ).loc Cert.Kernel19Ideal.main_v2_1) = v1 c
          ∧ r.2.mem ((c.tc : Thread Cert.Kernel19Ideal.nD Cert.Kernel19Ideal.τ).loc Cert.Kernel19Ideal.main_v2_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v4) = v0 c
          ∧ r.2.mem ((c.tc : Thread Cert.Reference19Ideal.nD Cert.Reference19Ideal.τ).loc Cert.Reference19Ideal.main_v17) = v1 c
          ∧ r.2.mem ((c.tc : Thread Cert.Reference19Ideal.nD Cert.Reference19Ideal.τ).loc Cert.Reference19Ideal.main_v19) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v3_0)) (v1 : (c : Dev Cert.Kernel20Ideal.nD) → Buf (Elt Ideal) ((c.tc : Thread Cert.Kernel20Ideal.nD Cert.Kernel20Ideal.τ).loc Cert.Kernel20Ideal.main_v3_1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v3_0) = v0 c
          ∧ r.2.mem ((c.tc : Thread Cert.Kernel20Ideal.nD Cert.Kernel20Ideal.τ).loc Cert.Kernel20Ideal.main_v3_1) = v1 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v15) = v0 c
          ∧ r.2.mem ((c.tc : Thread Cert.Reference20Ideal.nD Cert.Reference20Ideal.τ).loc Cert.Reference20Ideal.main_v16) = v1 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v1_0)) (v1 : (c : Dev Cert.Kernel21Ideal.nD) → Buf (Elt Ideal) ((c.tc : Thread Cert.Kernel21Ideal.nD Cert.Kernel21Ideal.τ).loc Cert.Kernel21Ideal.main_v1_1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v1_0) = v0 c
          ∧ r.2.mem ((c.tc : Thread Cert.Kernel21Ideal.nD Cert.Kernel21Ideal.τ).loc Cert.Kernel21Ideal.main_v1_1) = v1 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v2) = v0 c
          ∧ r.2.mem ((c.tc : Thread Cert.Reference21Ideal.nD Cert.Reference21Ideal.τ).loc Cert.Reference21Ideal.main_v15) = v1 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v1) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v12) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def Claim : Prop :=
  ∃ (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hPre_attn_finite : Cert.Pre_attn_finite.Facts) (hPre_attnf_finite : Cert.Pre_attnf_finite.Facts),
    quiescent_Kernel2 (hKernel2 := hKernel2)
    ∧ quiescent_Kernel2Ideal (hKernel2Ideal := hKernel2Ideal)
    ∧ quiescent_Kernel2Ideal_pre_attn_finite (hKernel2Ideal := hKernel2Ideal) (hPre_attn_finite := hPre_attn_finite)
    ∧ quiescent_Reference2Ideal (hReference2Ideal := hReference2Ideal)
    ∧ quiescent_Reference2Ideal_pre_attn_finite (hReference2Ideal := hReference2Ideal) (hPre_attn_finite := hPre_attn_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Kernel18Ideal_pre_attnf_finite (hKernel18Ideal := hKernel18Ideal) (hPre_attnf_finite := hPre_attnf_finite)
    ∧ quiescent_Reference18Ideal (hReference18Ideal := hReference18Ideal)
    ∧ quiescent_Reference18Ideal_pre_attnf_finite (hReference18Ideal := hReference18Ideal) (hPre_attnf_finite := hPre_attnf_finite)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ preserves_Kernel2_Kernel2Ideal
    ∧ algebraic_Kernel2Ideal_Reference2Ideal_pre_attn_finite (hKernel2Ideal := hKernel2Ideal) (hReference2Ideal := hReference2Ideal) (hPre_attn_finite := hPre_attn_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal_pre_attnf_finite (hKernel18Ideal := hKernel18Ideal) (hReference18Ideal := hReference18Ideal) (hPre_attnf_finite := hPre_attnf_finite)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
-- ==== Pre_attn_finite.lean ====
abbrev S8192x1024 : Shape := ⟨2, ![8192, 1024]⟩
abbrev S2x512x1024 : Shape := ⟨3, ![2, 512, 1024]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S2x512x1024 : S_.BroadcastsInDim S2x512x1024 (![] : Fin 0 → Fin S2x512x1024.rank)

variable [Facts]

def fn {F : FTy → Type} [FloatOps F] (main_arg0 : FVec F S8192x1024 .bf16) (main_arg1 : FVec F S2x512x1024 .bf16) (main_arg2 : FVec F S8192x1024 .bf16) : IVec S8192x1024 1 × IVec S2x512x1024 1 × IVec S8192x1024 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S2x512x1024 .f32 := (extf .f32 · bitsLt_bf16_f32) main_arg1
  let main_v5 : FVec F S2x512x1024 .f32 := Host.absf main_v4
  let main_cst_0 : FVec F S_ .f32 := constant S_ .f32 0x7F800000#32
  let main_v6 : FVec F S2x512x1024 .f32 := broadcastInDim S2x512x1024 ![] bcast_S_S2x512x1024 main_cst_0
  let main_v7 : IVec S2x512x1024 1 := cmpf .olt main_v5 main_v6
  let main_v8 : FVec F S8192x1024 .f32 := (extf .f32 · bitsLt_bf16_f32) main_arg2
  let main_v9 : FVec F S8192x1024 .f32 := Host.absf main_v8
  let main_cst_1 : FVec F S_ .f32 := constant S_ .f32 0x7F800000#32
  let main_v10 : FVec F S8192x1024 .f32 := broadcastInDim S8192x1024 ![] bcast_S_S8192x1024 main_cst_1
  let main_v11 : IVec S8192x1024 1 := cmpf .olt main_v9 main_v10
  (main_v3, main_v7, main_v11)
-- ==== Pre_attnf_finite.lean ====
abbrev S8192x1024 : Shape := ⟨2, ![8192, 1024]⟩
abbrev S2x512x1024 : Shape := ⟨3, ![2, 512, 1024]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S2x512x1024 : S_.BroadcastsInDim S2x512x1024 (![] : Fin 0 → Fin S2x512x1024.rank)

variable [Facts]

def fn {F : FTy → Type} [FloatOps F] (main_arg0 : FVec F S8192x1024 .bf16) (main_arg1 : FVec F S2x512x1024 .bf16) : IVec S8192x1024 1 × IVec S2x512x1024 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S2x512x1024 .f32 := (extf .f32 · bitsLt_bf16_f32) main_arg1
  let main_v5 : FVec F S2x512x1024 .f32 := Host.absf main_v4
  let main_cst_0 : FVec F S_ .f32 := constant S_ .f32 0x7F800000#32
  let main_v6 : FVec F S2x512x1024 .f32 := broadcastInDim S2x512x1024 ![] bcast_S_S2x512x1024 main_cst_0
  let main_v7 : IVec S2x512x1024 1 := cmpf .olt main_v5 main_v6
  (main_v3, main_v7)
-- ==== Kernel2.lean ====
abbrev S8192x1024 : Shape := ⟨2, ![8192, 1024]⟩
abbrev S2x512x1024 : Shape := ⟨3, ![2, 512, 1024]⟩
abbrev S1024x1024 : Shape := ⟨2, ![1024, 1024]⟩
abbrev S2x256x1024 : Shape := ⟨3, ![2, 256, 1024]⟩
abbrev S1024x256 : Shape := ⟨2, ![1024, 256]⟩
abbrev S1x256x256 : Shape := ⟨3, ![1, 256, 256]⟩
abbrev S256x256 : Shape := ⟨2, ![256, 256]⟩
abbrev S1024 : Shape := ⟨1, ![1024]⟩
abbrev S1024x1 : Shape := ⟨2, ![1024, 1]⟩

abbrev nBuf : Space → Nat
  | .hbm => 5
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S2x512x1024, .bf16⟩
  | .hbm, ⟨2, _⟩ => ⟨S8192x1024, .bf16⟩
  | .hbm, ⟨3, _⟩ => ⟨S8192x1024, .bf16⟩
  | .hbm, ⟨4, _⟩ => ⟨S2x512x1024, .f32⟩
  | .local _ .vmem, ⟨0, _⟩ => ⟨S1024x1024, .bf16⟩
  | .local _ .vmem, ⟨1, _⟩ => ⟨S1024x1024, .bf16⟩
  | .local _ .vmem, ⟨2, _⟩ => ⟨S2x256x1024, .bf16⟩
  | .local _ .vmem, ⟨3, _⟩ => ⟨S2x256x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S2x256x1024, .f32⟩
  | .local _ .vmem, ⟨9, _⟩ => ⟨S2x256x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S8192x1024 : Shape := ⟨2, ![8192, 1024]⟩
abbrev S2x512x1024 : Shape := ⟨3, ![2, 512, 1024]⟩
abbrev S2x4096x4x256 : Shape := ⟨4, ![2, 4096, 4, 256]⟩
abbrev S1x512x1024 : Shape := ⟨3, ![1, 512, 1024]⟩
abbrev S512x1024 : Shape := ⟨2, ![512, 1024]⟩
abbrev S2x256x4x256 : Shape := ⟨4, ![2, 256, 4, 256]⟩
abbrev S2x4x4096x256 : Shape := ⟨4, ![2, 4, 4096, 256]⟩
abbrev S_ : Shape := ⟨0, ![]⟩
abbrev S2x4x4096 : Shape := ⟨3, ![2, 4, 4096]⟩
abbrev S2x4x4096x1 : Shape := ⟨4, ![2, 4, 4096, 1]⟩
abbrev S2x4x256x4096 : Shape := ⟨4, ![2, 4, 256, 4096]⟩
abbrev S2x4x256x256 : Shape := ⟨4, ![2, 4, 256, 256]⟩

abbrev nBuf : Space → Nat
  | .hbm => 95
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x512x1024, .bf16⟩
  | .hbm, ⟨2, _⟩ => ⟨S8192x1024, .bf16⟩
  | .hbm, ⟨3, _⟩ => ⟨S8192x1024, .f32⟩
  | .hbm, ⟨4, _⟩ => ⟨S2x512x1024, .f32⟩
  | .hbm, ⟨5, _⟩ => ⟨S2x4096x4x256, .f32⟩
  | .hbm, ⟨6, _⟩ => ⟨S1x512x1024, .f32⟩
  | .hbm, ⟨7, _⟩ => ⟨S512x1024, .f32⟩
  | .hbm, ⟨8, _⟩ => ⟨S2x256x4x256, .f32⟩
  | .hbm, ⟨9, _⟩ => ⟨S1x512x1024, .f32⟩
  | .hbm, ⟨10, _⟩ => ⟨S512x1024, .f32⟩
  | .hbm, ⟨11, _⟩ => ⟨S2x256x4x256, .f32⟩
  | .hbm, ⟨12, _⟩ => ⟨S2x4x4096x256, .f32⟩
  | .hbm, ⟨13, _⟩ => ⟨S_, .f32⟩
  | .hbm, ⟨14, _⟩ => ⟨S2x4x4096x256, .f32⟩
  | .hbm, ⟨15, _⟩ => ⟨S2x4x4096x256, .f32⟩
  | .hbm, ⟨16, _⟩ => ⟨S_, .f32⟩
  | .hbm, ⟨17, _⟩ => ⟨S2x4x4096, .f32⟩
  | .hbm, ⟨18, _⟩ => ⟨S2x4x4096x1, .f32⟩
  | .hbm, ⟨19, _⟩ => ⟨S2x4x4096x256, .f32⟩
  | .hbm, ⟨20, _⟩ => ⟨S2x4x4096x256, .i1⟩
  | .hbm, ⟨21, _⟩ => ⟨S2x4x4096x256, .f32⟩
  | .hbm, ⟨22, _⟩ => ⟨S_, .f32⟩
  | .hbm, ⟨23, _⟩ => ⟨S2x4x4096, .f32⟩
  | .hbm, ⟨24, _⟩ => ⟨S_, .f32⟩
  | .hbm, ⟨25, _⟩ => ⟨S2x4x4096, .f32⟩
  | .hbm, ⟨26, _⟩ => ⟨S2x4x4096, .f32⟩
  | .hbm, ⟨27, _⟩ => ⟨S_, .f32⟩
  | .hbm, ⟨28, _⟩ => ⟨S2x4x4096, .f32⟩
  | .hbm, ⟨29, _⟩ => ⟨S2x4x4096, .i1⟩
  | .hbm, ⟨30, _⟩ => ⟨S_, .f32⟩
  | .hbm, ⟨31, _⟩ => ⟨S2x4x4096, .f32⟩
  | .hbm, ⟨32, _⟩ => ⟨S2x4x4096, .i1⟩
  | .hbm, ⟨33, _⟩ => ⟨S_, .f32⟩
  | .hbm, ⟨34, _⟩ => ⟨S2x4x4096, .f32⟩
  | .hbm, ⟨35, _⟩ => ⟨S_, .f32⟩
  | .hbm, ⟨36, _⟩ => ⟨S2x4x4096, .f32⟩
  | .hbm, ⟨37, _⟩ => ⟨S_, .f32⟩
  | .hbm, ⟨38, _⟩ => ⟨S2x4x4096, .f32⟩
  | .hbm, ⟨39, _⟩ => ⟨S2x4x4096, .f32⟩
  | .hbm, ⟨40, _⟩ => ⟨S2x4x4096, .f32⟩
  | .hbm, ⟨41, _⟩ => ⟨S2x4x4096x1, .f32⟩
  | .hbm, ⟨42, _⟩ => ⟨S2x4x4096x256, .f32⟩
  | .hbm, ⟨43, _⟩ => ⟨S2x4x4096x256, .f32⟩
  | .hbm, ⟨44, _⟩ => ⟨S2x4x4096x256, .f32⟩
  | .hbm, ⟨45, _⟩ => ⟨S_, .f32⟩
  | .hbm, ⟨46, _⟩ => ⟨S2x4x4096, .f32⟩
  | .hbm, ⟨47, _⟩ => ⟨S2x4x4096x1, .f32⟩
  | .hbm, ⟨48, _⟩ => ⟨S2x4x4096x256, .f32⟩
  | .hbm, ⟨49, _⟩ => ⟨S2x4x4096x256, .f32⟩
  | .hbm, ⟨50, _⟩ => ⟨S2x4x4096x1, .f32⟩
  | .hbm, ⟨51, _⟩ => ⟨S_, .f32⟩
  | .hbm, ⟨52, _⟩ => ⟨S2x4x4096x1, .f32⟩
  | .hbm, ⟨53, _⟩ => ⟨S2x4x4096x1, .f32⟩
  | .hbm, ⟨54, _⟩ => ⟨S2x4x256x4096, .f32⟩
  | .hbm, ⟨55, _⟩ => ⟨S2x4096x4x256, .f32⟩
  | .hbm, ⟨56, _⟩ => ⟨S8192x1024, .f32⟩
  | .hbm, ⟨57, _⟩ => ⟨S8192x1024, .f32⟩
  | .hbm, ⟨58, _⟩ => ⟨S2x4096x4x256, .f32⟩
  | .hbm, ⟨59, _⟩ => ⟨S2x4x256x4096, .f32⟩
  | .hbm, ⟨60, _⟩ => ⟨S2x4x4096x256, .f32⟩
  | .hbm, ⟨61, _⟩ => ⟨S2x4x256x256, .f32⟩
  | .hbm, ⟨62, _⟩ => ⟨S2x256x4x256, .f32⟩
  | .hbm, ⟨63, _⟩ => ⟨S2x4x4096x256, .f32⟩
  | .hbm, ⟨64, _⟩ => ⟨S2x4x4096x256, .f32⟩
  | .hbm, ⟨65, _⟩ => ⟨S2x4x4096x256, .f32⟩
  | .hbm, ⟨66, _⟩ => ⟨S_, .f32⟩
  | .hbm, ⟨67, _⟩ => ⟨S2x4x4096, .f32⟩
  | .hbm, ⟨68, _⟩ => ⟨S2x4x4096x1, .f32⟩
  | .hbm, ⟨69, _⟩ => ⟨S2x4x4096x1, .f32⟩
  | .hbm, ⟨70, _⟩ => ⟨S2x4x4096x256, .f32⟩
  | .hbm, ⟨71, _⟩ => ⟨S2x4x4096x256, .f32⟩
  | .hbm, ⟨72, _⟩ => ⟨S_, .f32⟩
  | .hbm, ⟨73, _⟩ => ⟨S2x4x4096, .f32⟩
  | .hbm, ⟨74, _⟩ => ⟨S2x4x4096x256, .f32⟩
  | .hbm, ⟨75, _⟩ => ⟨S2x4x4096x256, .f32⟩
  | .hbm, ⟨76, _⟩ => ⟨S2x4x4096x256, .f32⟩
  | .hbm, ⟨77, _⟩ => ⟨S_, .f32⟩
  | .hbm, ⟨78, _⟩ => ⟨S2x4x4096x256, .f32⟩
  | .hbm, ⟨79, _⟩ => ⟨S2x4x4096x256, .f32⟩
  | .hbm, ⟨80, _⟩ => ⟨S2x4x256x256, .f32⟩
  | .hbm, ⟨81, _⟩ => ⟨S2x256x4x256, .f32⟩
  | .hbm, ⟨82, _⟩ => ⟨S2x4x4096x256, .f32⟩
  | .hbm, ⟨83, _⟩ => ⟨S2x4096x4x256, .f32⟩
  | .hbm, ⟨84, _⟩ => ⟨S512x1024, .f32⟩
  | .hbm, ⟨85, _⟩ => ⟨S1x512x1024, .f32⟩
  | .hbm, ⟨86, _⟩ => ⟨S_, .f32⟩
  | .hbm, ⟨87, _⟩ => ⟨S2x512x1024, .f32⟩
  | .hbm, ⟨88, _⟩ => ⟨S512x1024, .f32⟩
  | .hbm, ⟨89, _⟩ => ⟨S1x512x1024, .f32⟩
  | .hbm, ⟨90, _⟩ => ⟨S_, .f32⟩
  | .hbm, ⟨91, _⟩ => ⟨S2x512x1024, .f32⟩
  | .hbm, ⟨92, _⟩ => ⟨S2x512x1024, .f32⟩
  | .hbm, ⟨93, _⟩ => ⟨S8192x1024, .f32⟩
  | .hbm, ⟨94, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_cst_7 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_8 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_9 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_10 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_11 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_12 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_cst_13 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_cst_14 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩

abbrev nD : Nat := 1
abbrev τ : Topo := Topo.v7x

variable {F : FTy → Type} [FloatOps F]
-- ==== Kernel3.lean ====
abbrev S8192x1024 : Shape := ⟨2, ![8192, 1024]⟩
abbrev S1024x4096 : Shape := ⟨2, ![1024, 4096]⟩
abbrev S4096x1024 : Shape := ⟨2, ![4096, 1024]⟩
abbrev S8192x4096 : Shape := ⟨2, ![8192, 4096]⟩
abbrev S_ : Shape := ⟨0, ![]⟩
abbrev S512x1024 : Shape := ⟨2, ![512, 1024]⟩
abbrev S512x4096 : Shape := ⟨2, ![512, 4096]⟩
abbrev S512x512 : Shape := ⟨2, ![512, 512]⟩

abbrev nBuf : Space → Nat
  | .hbm => 14
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .f32⟩
  | .hbm, ⟨2, _⟩ => ⟨S4096x1024, .f32⟩
  | .hbm, ⟨3, _⟩ => ⟨S8192x1024, .f32⟩
  | .hbm, ⟨4, _⟩ => ⟨S8192x1024, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S8192x1024, .bf16⟩
  | .hbm, ⟨10, _⟩ => ⟨S4096x1024, .bf16⟩
  | .hbm, ⟨11, _⟩ => ⟨S8192x4096, .f32⟩
  | .hbm, ⟨12, _⟩ => ⟨S8192x4096, .bf16⟩
  | .hbm, ⟨13, _⟩ => ⟨S8192x4096, .bf16⟩
  | .local _ .vmem, ⟨0, _⟩ => ⟨S512x1024, .bf16⟩
  | .local _ .vmem, ⟨1, _⟩ => ⟨S512x1024, .bf16⟩
  | .local _ .vmem, ⟨2, _⟩ => ⟨S4096x1024, .bf16⟩
  | .local _ .vmem, ⟨3, _⟩ => ⟨S512x4096, .bf16⟩
  | .local _ .vmem, ⟨4, _⟩ => ⟨S512x4096, .bf16⟩
  | .local _ .vmem, ⟨5, _⟩ => ⟨S512x4096, .bf16⟩
  | .local _ .vmem, ⟨6, _⟩ => ⟨S512x4096, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S8192x1024 : Shape := ⟨2, ![8192, 1024]⟩
abbrev S1024x4096 : Shape := ⟨2, ![1024, 4096]⟩
abbrev S4096x1024 : Shape := ⟨2, ![4096, 1024]⟩
abbrev S8192x4096 : Shape := ⟨2, ![8192, 4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .f32⟩
  | .hbm, ⟨2, _⟩ => ⟨S4096x1024, .f32⟩
  | .hbm, ⟨3, _⟩ => ⟨S8192x1024, .f32⟩
  | .hbm, ⟨4, _⟩ => ⟨S8192x1024, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .i1⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S8192x1024, .f32⟩
  | .hbm, ⟨16, _⟩ => ⟨S8192x4096, .f32⟩
  | .hbm, ⟨17, _⟩ => ⟨S8192x4096, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x4096, .f32⟩
  | .hbm, ⟨22, _⟩ => ⟨S8192x4096, .f32⟩
  | .hbm, ⟨23, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Kernel4.lean ====
abbrev S8192x1024 : Shape := ⟨2, ![8192, 1024]⟩
abbrev S1024x4096 : Shape := ⟨2, ![1024, 4096]⟩
abbrev S8192x4096 : Shape := ⟨2, ![8192, 4096]⟩
abbrev S_ : Shape := ⟨0, ![]⟩
abbrev S4096x1024 : Shape := ⟨2, ![4096, 1024]⟩
abbrev S512x4096 : Shape := ⟨2, ![512, 4096]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 12
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .f32⟩
  | .hbm, ⟨2, _⟩ => ⟨S8192x1024, .f32⟩
  | .hbm, ⟨3, _⟩ => ⟨S8192x1024, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x4096, .bf16⟩
  | .hbm, ⟨10, _⟩ => ⟨S8192x1024, .bf16⟩
  | .hbm, ⟨11, _⟩ => ⟨S4096x1024, .bf16⟩
  | .local _ .vmem, ⟨0, _⟩ => ⟨S512x4096, .bf16⟩
  | .local _ .vmem, ⟨1, _⟩ => ⟨S512x4096, .bf16⟩
  | .local _ .vmem, ⟨2, _⟩ => ⟨S512x1024, .bf16⟩
  | .local _ .vmem, ⟨3, _⟩ => ⟨S512x1024, .bf16⟩
  | .local _ .vmem, ⟨4, _⟩ => ⟨S4096x1024, .bf16⟩
  | .local _ .vmem, ⟨5, _⟩ => ⟨S1024x4096, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v70 : BitVec 1 := Scalar.cmpi .eq arg0 c15_i32
  let v71 : BitVec 32 := Scalar.extui v70
  let c0_i32_50 : BitVec 32 := 0#32
  let v72 : BitVec 1 := Scalar.cmpi .ne v71 c0_i32_50
  v72

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference4Ideal.lean ====
abbrev S8192x1024 : Shape := ⟨2, ![8192, 1024]⟩
abbrev S1024x4096 : Shape := ⟨2, ![1024, 4096]⟩
abbrev S_ : Shape := ⟨0, ![]⟩
abbrev S4096x1024 : Shape := ⟨2, ![4096, 1024]⟩
abbrev S8192x4096 : Shape := ⟨2, ![8192, 4096]⟩

abbrev nBuf : Space → Nat
  | .hbm => 15
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .f32⟩
  | .hbm, ⟨2, _⟩ => ⟨S8192x1024, .f32⟩
  | .hbm, ⟨3, _⟩ => ⟨S_, .f32⟩
  | .hbm, ⟨4, _⟩ => ⟨S4096x1024, .f32⟩
  | .hbm, ⟨5, _⟩ => ⟨S8192x1024, .f32⟩
  | .hbm, ⟨6, _⟩ => ⟨S8192x4096, .f32⟩
  | .hbm, ⟨7, _⟩ => ⟨S_, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S8192x1024, .f32⟩
  | .hbm, ⟨12, _⟩ => ⟨S1024x4096, .f32⟩
  | .hbm, ⟨13, _⟩ => ⟨S4096x1024, .f32⟩
  | .hbm, ⟨14, _⟩ => ⟨S4096x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Kernel5.lean ====
abbrev S8192x1024 : Shape := ⟨2, ![8192, 1024]⟩
abbrev S8192x4096 : Shape := ⟨2, ![8192, 4096]⟩
abbrev S8x1024x512 : Shape := ⟨3, ![8, 1024, 512]⟩
abbrev S512x1024 : Shape := ⟨2, ![512, 1024]⟩
abbrev S512x4096 : Shape := ⟨2, ![512, 4096]⟩
abbrev S1024x4096 : Shape := ⟨2, ![1024, 4096]⟩
abbrev S1024x512 : Shape := ⟨2, ![1024, 512]⟩
abbrev S512x512 : Shape := ⟨2, ![512, 512]⟩
abbrev S1x1024x512 : Shape := ⟨3, ![1, 1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S8x1024x512, .bf16⟩
  | .local _ .vmem, ⟨0, _⟩ => ⟨S512x1024, .bf16⟩
  | .local _ .vmem, ⟨1, _⟩ => ⟨S512x1024, .bf16⟩
  | .local _ .vmem, ⟨2, _⟩ => ⟨S512x4096, .bf16⟩
  | .local _ .vmem, ⟨3, _⟩ => ⟨S512x4096, .bf16⟩
  | .local _ .vmem, ⟨4, _⟩ => ⟨S8x1024x512, .bf16⟩
  | .local _ .vmem, ⟨5, _⟩ => ⟨S1024x4096, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v61 : BitVec 1 := Scalar.cmpi .eq arg0 c15_i32
  let v62 : BitVec 32 := Scalar.extui v61
  let c0_i32_50 : BitVec 32 := 0#32
  let v63 : BitVec 1 := Scalar.cmpi .ne v62 c0_i32_50
  v63

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference5Ideal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S_, .f32⟩
  | .hbm, ⟨3, _⟩ => ⟨S1024x4096, .f32⟩
  | .hbm, ⟨4, _⟩ => ⟨S8192x1024, .f32⟩
  | .hbm, ⟨5, _⟩ => ⟨S8192x4096, .f32⟩
  | .hbm, ⟨6, _⟩ => ⟨S8192x4096, .f32⟩
  | .hbm, ⟨7, _⟩ => ⟨S4096x1024, .f32⟩
  | .hbm, ⟨8, _⟩ => ⟨S1024x4096, .f32⟩
  | .hbm, ⟨9, _⟩ => ⟨S1024x4096, .bf16⟩
  | .hbm, ⟨10, _⟩ => ⟨S1024x8x512, .bf16⟩
  | .hbm, ⟨11, _⟩ => ⟨S8x1024x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel6.lean ====
abbrev S8192x4096 : Shape := ⟨2, ![8192, 4096]⟩
abbrev S1024x4096 : Shape := ⟨2, ![1024, 4096]⟩
abbrev S8192x1024 : Shape := ⟨2, ![8192, 1024]⟩
abbrev S1x1024 : Shape := ⟨2, ![1, 1024]⟩
abbrev S1024x1024 : Shape := ⟨2, ![1024, 1024]⟩
abbrev S1024x8x512 : Shape := ⟨3, ![1024, 8, 512]⟩
abbrev S8x1024x512 : Shape := ⟨3, ![8, 1024, 512]⟩
abbrev S_ : Shape := ⟨0, ![]⟩
abbrev S8x128 : Shape := ⟨2, ![8, 128]⟩
abbrev S512x4096 : Shape := ⟨2, ![512, 4096]⟩
abbrev S512x1024 : Shape := ⟨2, ![512, 1024]⟩
abbrev S512x512 : Shape := ⟨2, ![512, 512]⟩
abbrev S1x1024x512 : Shape := ⟨3, ![1, 1024, 512]⟩
abbrev S1024x512 : Shape := ⟨2, ![1024, 512]⟩
abbrev S512 : Shape := ⟨1, ![512]⟩
abbrev S512x1 : Shape := ⟨2, ![512, 1]⟩
abbrev S1024 : Shape := ⟨1, ![1024]⟩

abbrev nBuf : Space → Nat
  | .hbm => 16
  | .vmem => 17
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1024x1024, .f32⟩
  | .hbm, ⟨6, _⟩ => ⟨S1024x8x512, .f32⟩
  | .hbm, ⟨7, _⟩ => ⟨S8x1024x512, .f32⟩
  | .hbm, ⟨8, _⟩ => ⟨S8x1024x512, .bf16⟩
  | .hbm, ⟨9, _⟩ => ⟨S1024x1024, .bf16⟩
  | .hbm, ⟨10, _⟩ => ⟨S_, .f32⟩
  | .hbm, ⟨11, _⟩ => ⟨S8x128, .f32⟩
  | .hbm, ⟨12, _⟩ => ⟨S8192x1024, .f32⟩
  | .hbm, ⟨13, _⟩ => ⟨S8192x1024, .bf16⟩
  | .hbm, ⟨14, _⟩ => ⟨S8192x1024, .bf16⟩
  | .hbm, ⟨15, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S8x1024x512, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S8x128, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v53 : BitVec 1 := Scalar.cmpi .eq arg0 c0_i32
  let v54 : BitVec 32 := Scalar.extui v53
  let c0_i32_38 : BitVec 32 := 0#32
  let v55 : BitVec 1 := Scalar.cmpi .ne v54 c0_i32_38
  v55

def k0_cond2 (i : grid0.Coords) : BitVec 1 :=
  let arg0 : BitVec 32 := BitVec.ofNat 32 (i 0).val
  let c0_i32_39 : BitVec 32 := 0#32
  let v56 : BitVec 1 := Scalar.cmpi .sgt arg0 c0_i32_39
  let v57 : BitVec 32 := Scalar.extui v56
  let c0_i32_40 : BitVec 32 := 0#32
  let v58 : BitVec 1 := Scalar.cmpi .ne v57 c0_i32_40
  v58

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference6Ideal.lean ====
abbrev S8192x4096 : Shape := ⟨2, ![8192, 4096]⟩
abbrev S1024x4096 : Shape := ⟨2, ![1024, 4096]⟩
abbrev S8192x1024 : Shape := ⟨2, ![8192, 1024]⟩
abbrev S1x1024 : Shape := ⟨2, ![1, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 58
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1024x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x4096, .f32⟩
  | .hbm, ⟨26, _⟩ => ⟨S8192x4096, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .bf16⟩
  | .hbm, ⟨57, _⟩ => ⟨S8192x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== Kernel7.lean ====
abbrev S5x8192x512 : Shape := ⟨3, ![5, 8192, 512]⟩
abbrev S1024x2560 : Shape := ⟨2, ![1024, 2560]⟩
abbrev S8192x1024 : Shape := ⟨2, ![8192, 1024]⟩
abbrev S1x1024 : Shape := ⟨2, ![1, 1024]⟩
abbrev S_ : Shape := ⟨0, ![]⟩
abbrev S8x128 : Shape := ⟨2, ![8, 128]⟩
abbrev S5x1024x512 : Shape := ⟨3, ![5, 1024, 512]⟩
abbrev S1024x1024 : Shape := ⟨2, ![1024, 1024]⟩
abbrev S1x1024x512 : Shape := ⟨3, ![1, 1024, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 10
  | .vmem => 12
  | .smem => 0
  | _ => 0

abbrev bufTy : (tb : Table) → Fin (tcTables nBuf tb) → BufTy
  | .hbm, ⟨0, _⟩ => ⟨S5x8192x512, .bf16⟩
  | .hbm, ⟨1, _⟩ => ⟨S1024x2560, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1024x2560, .bf16⟩
  | .hbm, ⟨6, _⟩ => ⟨S_, .f32⟩
  | .hbm, ⟨7, _⟩ => ⟨S8x128, .f32⟩
  | .hbm, ⟨8, _⟩ => ⟨S8192x1024, .f32⟩
  | .hbm, ⟨9, _⟩ => ⟨S1x1024, .f32⟩
  | .local _ .vmem, ⟨0, _⟩ => ⟨S5x1024x512, .bf16⟩
  | .local _ .vmem, ⟨1, _⟩ => ⟨S5x1024x512, .bf16⟩
  | .local _ .vmem, ⟨2, _⟩ => ⟨S1024x2560, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S8x128, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | _, _ => ⟨S5x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v28 : BitVec 1 := Scalar.cmpi .eq arg0 c0_i32
  let v29 : BitVec 32 := Scalar.extui v28
  let c0_i32_18 : BitVec 32 := 0#32
  let v30 : BitVec 1 := Scalar.cmpi .ne v29 c0_i32_18
  v30

def k0_cond2 (i : grid0.Coords) : BitVec 1 :=
  let arg0 : BitVec 32 := BitVec.ofNat 32 (i 0).val
  let c0_i32_19 : BitVec 32 := 0#32
  let v31 : BitVec 1 := Scalar.cmpi .sgt arg0 c0_i32_19
  let v32 : BitVec 32 := Scalar.extui v31
  let c0_i32_20 : BitVec 32 := 0#32
  let v33 : BitVec 1 := Scalar.cmpi .ne v32 c0_i32_20
  v33

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference7Ideal.lean ====
abbrev S5x8192x512 : Shape := ⟨3, ![5, 8192, 512]⟩
abbrev S1024x2560 : Shape := ⟨2, ![1024, 2560]⟩
abbrev S8192x1024 : Shape := ⟨2, ![8192, 1024]⟩
abbrev S1x1024 : Shape := ⟨2, ![1, 1024]⟩
abbrev S8192x5x512 : Shape := ⟨3, ![8192, 5, 512]⟩
abbrev S8192x2560 : Shape := ⟨2, ![8192, 2560]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S5x8192x512, .bf16⟩
  | .hbm, ⟨1, _⟩ => ⟨S1024x2560, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x5x512, .bf16⟩
  | .hbm, ⟨6, _⟩ => ⟨S8192x2560, .bf16⟩
  | .hbm, ⟨7, _⟩ => ⟨S8192x2560, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x2560, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | _, _ => ⟨S5x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel8.lean ====
abbrev S8192x1024 : Shape := ⟨2, ![8192, 1024]⟩
abbrev S5x8192x512 : Shape := ⟨3, ![5, 8192, 512]⟩
abbrev S1024x2560 : Shape := ⟨2, ![1024, 2560]⟩
abbrev S1024x1024 : Shape := ⟨2, ![1024, 1024]⟩
abbrev S5x1024x512 : Shape := ⟨3, ![5, 1024, 512]⟩
abbrev S1024x512 : Shape := ⟨2, ![1024, 512]⟩
abbrev S1x1024x512 : Shape := ⟨3, ![1, 1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S5x8192x512, .bf16⟩
  | .hbm, ⟨2, _⟩ => ⟨S1024x2560, .bf16⟩
  | .local _ .vmem, ⟨0, _⟩ => ⟨S1024x1024, .bf16⟩
  | .local _ .vmem, ⟨1, _⟩ => ⟨S1024x1024, .bf16⟩
  | .local _ .vmem, ⟨2, _⟩ => ⟨S5x1024x512, .bf16⟩
  | .local _ .vmem, ⟨3, _⟩ => ⟨S5x1024x512, .bf16⟩
  | .local _ .vmem, ⟨4, _⟩ => ⟨S1024x2560, .bf16⟩
  | .local _ .vmem, ⟨5, _⟩ => ⟨S1024x2560, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v45 : BitVec 1 := Scalar.cmpi .eq arg0 c7_i32
  let v46 : BitVec 32 := Scalar.extui v45
  let c0_i32_33 : BitVec 32 := 0#32
  let v47 : BitVec 1 := Scalar.cmpi .ne v46 c0_i32_33
  v47

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference8Ideal.lean ====
abbrev S8192x1024 : Shape := ⟨2, ![8192, 1024]⟩
abbrev S5x8192x512 : Shape := ⟨3, ![5, 8192, 512]⟩
abbrev S8192x5x512 : Shape := ⟨3, ![8192, 5, 512]⟩
abbrev S8192x2560 : Shape := ⟨2, ![8192, 2560]⟩
abbrev S_ : Shape := ⟨0, ![]⟩
abbrev S1024x2560 : Shape := ⟨2, ![1024, 2560]⟩
abbrev S2560x1024 : Shape := ⟨2, ![2560, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S5x8192x512, .bf16⟩
  | .hbm, ⟨2, _⟩ => ⟨S8192x5x512, .bf16⟩
  | .hbm, ⟨3, _⟩ => ⟨S8192x2560, .bf16⟩
  | .hbm, ⟨4, _⟩ => ⟨S8192x2560, .f32⟩
  | .hbm, ⟨5, _⟩ => ⟨S_, .f32⟩
  | .hbm, ⟨6, _⟩ => ⟨S1024x2560, .f32⟩
  | .hbm, ⟨7, _⟩ => ⟨S8192x1024, .f32⟩
  | .hbm, ⟨8, _⟩ => ⟨S8192x2560, .f32⟩
  | .hbm, ⟨9, _⟩ => ⟨S2560x1024, .f32⟩
  | .hbm, ⟨10, _⟩ => ⟨S1024x2560, .f32⟩
  | .hbm, ⟨11, _⟩ => ⟨S1024x2560, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel9.lean ====
abbrev S8192x1024 : Shape := ⟨2, ![8192, 1024]⟩
abbrev S1024x4096 : Shape := ⟨2, ![1024, 4096]⟩
abbrev S4096x1024 : Shape := ⟨2, ![4096, 1024]⟩
abbrev S1x1024 : Shape := ⟨2, ![1, 1024]⟩
abbrev S8192x4096 : Shape := ⟨2, ![8192, 4096]⟩
abbrev S_ : Shape := ⟨0, ![]⟩
abbrev S512x4096 : Shape := ⟨2, ![512, 4096]⟩
abbrev S512x1024 : Shape := ⟨2, ![512, 1024]⟩
abbrev S256x4096 : Shape := ⟨2, ![256, 4096]⟩
abbrev S256x512 : Shape := ⟨2, ![256, 512]⟩
abbrev S4096x512 : Shape := ⟨2, ![4096, 512]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 18
  | .vmem => 14
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .f32⟩
  | .hbm, ⟨2, _⟩ => ⟨S4096x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S8192x4096, .bf16⟩
  | .hbm, ⟨13, _⟩ => ⟨S4096x1024, .bf16⟩
  | .hbm, ⟨14, _⟩ => ⟨S8192x1024, .f32⟩
  | .hbm, ⟨15, _⟩ => ⟨S8192x1024, .bf16⟩
  | .hbm, ⟨16, _⟩ => ⟨S1x1024, .f32⟩
  | .hbm, ⟨17, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_cst : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v113 : BitVec 1 := Scalar.cmpi .eq arg0 c0_i32
  let v114 : BitVec 32 := Scalar.extui v113
  let c0_i32_64 : BitVec 32 := 0#32
  let v115 : BitVec 1 := Scalar.cmpi .ne v114 c0_i32_64
  v115

def k0_cond2 (i : grid0.Coords) : BitVec 1 :=
  let arg0 : BitVec 32 := BitVec.ofNat 32 (i 0).val
  let c0_i32_65 : BitVec 32 := 0#32
  let v116 : BitVec 1 := Scalar.cmpi .sgt arg0 c0_i32_65
  let v117 : BitVec 32 := Scalar.extui v116
  let c0_i32_66 : BitVec 32 := 0#32
  let v118 : BitVec 1 := Scalar.cmpi .ne v117 c0_i32_66
  v118

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference9Ideal.lean ====
abbrev S8192x1024 : Shape := ⟨2, ![8192, 1024]⟩
abbrev S1024x4096 : Shape := ⟨2, ![1024, 4096]⟩
abbrev S4096x1024 : Shape := ⟨2, ![4096, 1024]⟩
abbrev S1x1024 : Shape := ⟨2, ![1, 1024]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 83
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .f32⟩
  | .hbm, ⟨2, _⟩ => ⟨S4096x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S_, .f32⟩
  | .hbm, ⟨41, _⟩ => ⟨S8192, .f32⟩
  | .hbm, ⟨42, _⟩ => ⟨S8192, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S8192, .f32⟩
  | .hbm, ⟨54, _⟩ => ⟨S_, .f32⟩
  | .hbm, ⟨55, _⟩ => ⟨S8192, .f32⟩
  | .hbm, ⟨56, _⟩ => ⟨S8192, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S_, .f32⟩
  | .hbm, ⟨67, _⟩ => ⟨S8192, .f32⟩
  | .hbm, ⟨68, _⟩ => ⟨S8192x1, .f32⟩
  | .hbm, ⟨69, _⟩ => ⟨S8192x1024, .f32⟩
  | .hbm, ⟨70, _⟩ => ⟨S8192x1024, .f32⟩
  | .hbm, ⟨71, _⟩ => ⟨S8192x1, .f32⟩
  | .hbm, ⟨72, _⟩ => ⟨S_, .f32⟩
  | .hbm, ⟨73, _⟩ => ⟨S8192x1, .f32⟩
  | .hbm, ⟨74, _⟩ => ⟨S8192x1, .f32⟩
  | .hbm, ⟨75, _⟩ => ⟨S_, .f32⟩
  | .hbm, ⟨76, _⟩ => ⟨S8192, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_cst : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_cst_6 : Ref sig .tc := ⟨.hbm, 43, rfl⟩
abbrev main_v28 : Ref sig .tc := ⟨.hbm, 44, rfl⟩
abbrev main_cst_7 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_cst_9 : Ref sig .tc := ⟨.hbm, 50, rfl⟩
abbrev main_cst_10 : Ref sig .tc := ⟨.hbm, 51, rfl⟩
abbrev main_v32 : Ref sig .tc := ⟨.hbm, 52, rfl⟩
abbrev main_v33 : Ref sig .tc := ⟨.hbm, 53, rfl⟩
abbrev main_cst_11 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_12 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_13 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_14 : Ref sig .tc := ⟨.hbm, 72, rfl⟩
abbrev main_v49 : Ref sig .tc := ⟨.hbm, 73, rfl⟩
abbrev main_v50 : Ref sig .tc := ⟨.hbm, 74, rfl⟩
abbrev main_cst_15 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩

abbrev nD : Nat := 1
abbrev τ : Topo := Topo.v7x

variable {F : FTy → Type} [FloatOps F]
-- ==== Kernel10.lean ====
abbrev S8192x1024 : Shape := ⟨2, ![8192, 1024]⟩
abbrev S1024x4096 : Shape := ⟨2, ![1024, 4096]⟩
abbrev S1024x8x512 : Shape := ⟨3, ![1024, 8, 512]⟩
abbrev S8x1024x512 : Shape := ⟨3, ![8, 1024, 512]⟩
abbrev S8192x4096 : Shape := ⟨2, ![8192, 4096]⟩
abbrev S512x1024 : Shape := ⟨2, ![512, 1024]⟩
abbrev S512x4096 : Shape := ⟨2, ![512, 4096]⟩
abbrev S1x1024x512 : Shape := ⟨3, ![1, 1024, 512]⟩
abbrev S1024x512 : Shape := ⟨2, ![1024, 512]⟩
abbrev S512x512 : Shape := ⟨2, ![512, 512]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .f32⟩
  | .hbm, ⟨2, _⟩ => ⟨S1024x8x512, .f32⟩
  | .hbm, ⟨3, _⟩ => ⟨S8x1024x512, .f32⟩
  | .hbm, ⟨4, _⟩ => ⟨S8x1024x512, .bf16⟩
  | .hbm, ⟨5, _⟩ => ⟨S8192x4096, .bf16⟩
  | .local _ .vmem, ⟨0, _⟩ => ⟨S512x1024, .bf16⟩
  | .local _ .vmem, ⟨1, _⟩ => ⟨S512x1024, .bf16⟩
  | .local _ .vmem, ⟨2, _⟩ => ⟨S8x1024x512, .bf16⟩
  | .local _ .vmem, ⟨3, _⟩ => ⟨S512x4096, .bf16⟩
  | .local _ .vmem, ⟨4, _⟩ => ⟨S512x4096, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference10Ideal.lean ====
abbrev S8192x1024 : Shape := ⟨2, ![8192, 1024]⟩
abbrev S1024x4096 : Shape := ⟨2, ![1024, 4096]⟩
abbrev S8192x4096 : Shape := ⟨2, ![8192, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .f32⟩
  | .hbm, ⟨2, _⟩ => ⟨S8192x1024, .f32⟩
  | .hbm, ⟨3, _⟩ => ⟨S8192x4096, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel11.lean ====
abbrev S8192x1024 : Shape := ⟨2, ![8192, 1024]⟩
abbrev S1024x2560 : Shape := ⟨2, ![1024, 2560]⟩
abbrev S5x8192x512 : Shape := ⟨3, ![5, 8192, 512]⟩
abbrev S1024x1024 : Shape := ⟨2, ![1024, 1024]⟩
abbrev S5x1024x512 : Shape := ⟨3, ![5, 1024, 512]⟩
abbrev S1024x512 : Shape := ⟨2, ![1024, 512]⟩
abbrev S1x1024x512 : Shape := ⟨3, ![1, 1024, 512]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x2560, .f32⟩
  | .hbm, ⟨2, _⟩ => ⟨S1024x2560, .bf16⟩
  | .hbm, ⟨3, _⟩ => ⟨S5x8192x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x2560, .bf16⟩
  | .local _ .vmem, ⟨3, _⟩ => ⟨S5x1024x512, .f32⟩
  | .local _ .vmem, ⟨4, _⟩ => ⟨S5x1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference11Ideal.lean ====
abbrev S8192x1024 : Shape := ⟨2, ![8192, 1024]⟩
abbrev S1024x2560 : Shape := ⟨2, ![1024, 2560]⟩
abbrev S8192x2560 : Shape := ⟨2, ![8192, 2560]⟩
abbrev S8192x5x512 : Shape := ⟨3, ![8192, 5, 512]⟩
abbrev S5x8192x512 : Shape := ⟨3, ![5, 8192, 512]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2560, .f32⟩
  | .hbm, ⟨2, _⟩ => ⟨S8192x1024, .f32⟩
  | .hbm, ⟨3, _⟩ => ⟨S8192x2560, .f32⟩
  | .hbm, ⟨4, _⟩ => ⟨S8192x5x512, .f32⟩
  | .hbm, ⟨5, _⟩ => ⟨S5x8192x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel12.lean ====
abbrev S8192x1024 : Shape := ⟨2, ![8192, 1024]⟩
abbrev S1024x1024 : Shape := ⟨2, ![1024, 1024]⟩
abbrev S1x1024 : Shape := ⟨2, ![1, 1024]⟩
abbrev S2x8192x512 : Shape := ⟨3, ![2, 8192, 512]⟩
abbrev S2x1024x512 : Shape := ⟨3, ![2, 1024, 512]⟩
abbrev S1024 : Shape := ⟨1, ![1024]⟩
abbrev S1024x1 : Shape := ⟨2, ![1024, 1]⟩
abbrev S512x1024 : Shape := ⟨2, ![512, 1024]⟩
abbrev S1024x512 : Shape := ⟨2, ![1024, 512]⟩
abbrev S1x1024x512 : Shape := ⟨3, ![1, 1024, 512]⟩

abbrev nBuf : Space → Nat
  | .hbm => 12
  | .vmem => 16
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1024x1024, .f32⟩
  | .hbm, ⟨6, _⟩ => ⟨S1024x1024, .bf16⟩
  | .hbm, ⟨7, _⟩ => ⟨S1024x1024, .bf16⟩
  | .hbm, ⟨8, _⟩ => ⟨S8192x1024, .f32⟩
  | .hbm, ⟨9, _⟩ => ⟨S8192x1024, .bf16⟩
  | .hbm, ⟨10, _⟩ => ⟨S2x8192x512, .bf16⟩
  | .hbm, ⟨11, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S2x1024x512, .bf16⟩
  | .local _ .vmem, ⟨14, _⟩ => ⟨S2x1024x512, .bf16⟩
  | .local _ .vmem, ⟨15, _⟩ => ⟨S1x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v18 : BitVec 1 := Scalar.cmpi .eq arg0 c0_i32
  let v19 : BitVec 32 := Scalar.extui v18
  let c0_i32_9 : BitVec 32 := 0#32
  let v20 : BitVec 1 := Scalar.cmpi .ne v19 c0_i32_9
  v20

def k0_cond2 (i : grid0.Coords) : BitVec 1 :=
  let arg0 : BitVec 32 := BitVec.ofNat 32 (i 0).val
  let c0_i32_10 : BitVec 32 := 0#32
  let v21 : BitVec 1 := Scalar.cmpi .sgt arg0 c0_i32_10
  let v22 : BitVec 32 := Scalar.extui v21
  let c0_i32_11 : BitVec 32 := 0#32
  let v23 : BitVec 1 := Scalar.cmpi .ne v22 c0_i32_11
  v23

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference12Ideal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S8192x2x512 : Shape := ⟨3, ![8192, 2, 512]⟩
abbrev S2x8192x512 : Shape := ⟨3, ![2, 8192, 512]⟩

abbrev nBuf : Space → Nat
  | .hbm => 60
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1024x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .bf16⟩
  | .hbm, ⟨57, _⟩ => ⟨S8192x1024, .bf16⟩
  | .hbm, ⟨58, _⟩ => ⟨S8192x2x512, .bf16⟩
  | .hbm, ⟨59, _⟩ => ⟨S2x8192x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== Kernel13.lean ====
abbrev S8192x1024 : Shape := ⟨2, ![8192, 1024]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v19 : BitVec 1 := Scalar.cmpi .eq arg0 c7_i32
  let v20 : BitVec 32 := Scalar.extui v19
  let c0_i32_14 : BitVec 32 := 0#32
  let v21 : BitVec 1 := Scalar.cmpi .ne v20 c0_i32_14
  v21

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference13Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel14.lean ====
abbrev S2x8192x512 : Shape := ⟨3, ![2, 8192, 512]⟩
abbrev S8192x1024 : Shape := ⟨2, ![8192, 1024]⟩
abbrev S1024x1024 : Shape := ⟨2, ![1024, 1024]⟩
abbrev S2x1024x512 : Shape := ⟨3, ![2, 1024, 512]⟩
abbrev S1x1024x512 : Shape := ⟨3, ![1, 1024, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2x8192x512, .bf16⟩
  | .hbm, ⟨1, _⟩ => ⟨S8192x1024, .bf16⟩
  | .hbm, ⟨2, _⟩ => ⟨S1024x1024, .bf16⟩
  | .local _ .vmem, ⟨0, _⟩ => ⟨S2x1024x512, .bf16⟩
  | .local _ .vmem, ⟨1, _⟩ => ⟨S2x1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S2x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v23 : BitVec 1 := Scalar.cmpi .eq arg0 c7_i32
  let v24 : BitVec 32 := Scalar.extui v23
  let c0_i32_17 : BitVec 32 := 0#32
  let v25 : BitVec 1 := Scalar.cmpi .ne v24 c0_i32_17
  v25

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference14Ideal.lean ====
abbrev S2x8192x512 : Shape := ⟨3, ![2, 8192, 512]⟩
abbrev S8192x1024 : Shape := ⟨2, ![8192, 1024]⟩
abbrev S_ : Shape := ⟨0, ![]⟩
abbrev S1024x1024 : Shape := ⟨2, ![1024, 1024]⟩
abbrev S8192x2x512 : Shape := ⟨3, ![8192, 2, 512]⟩

abbrev nBuf : Space → Nat
  | .hbm => 12
  | .vmem => 0
  | .smem => 0
  | _ => 0

abbrev bufTy : (tb : Table) → Fin (tcTables nBuf tb) → BufTy
  | .hbm, ⟨0, _⟩ => ⟨S2x8192x512, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x2x512, .bf16⟩
  | .hbm, ⟨5, _⟩ => ⟨S8192x1024, .bf16⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S1024x1024, .f32⟩
  | .hbm, ⟨10, _⟩ => ⟨S1024x1024, .f32⟩
  | .hbm, ⟨11, _⟩ => ⟨S1024x1024, .bf16⟩
  | _, _ => ⟨S2x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel15.lean ====
abbrev S8192x1024 : Shape := ⟨2, ![8192, 1024]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v19 : BitVec 1 := Scalar.cmpi .eq arg0 c7_i32
  let v20 : BitVec 32 := Scalar.extui v19
  let c0_i32_14 : BitVec 32 := 0#32
  let v21 : BitVec 1 := Scalar.cmpi .ne v20 c0_i32_14
  v21

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference15Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel16.lean ====
abbrev S512x1024 : Shape := ⟨2, ![512, 1024]⟩
abbrev S2x512x1024 : Shape := ⟨3, ![2, 512, 1024]⟩
abbrev S8x1024x256 : Shape := ⟨3, ![8, 1024, 256]⟩
abbrev S1024x2048 : Shape := ⟨2, ![1024, 2048]⟩
abbrev S1024x512 : Shape := ⟨2, ![1024, 512]⟩
abbrev S1024x256 : Shape := ⟨2, ![1024, 256]⟩
abbrev S1x512x256 : Shape := ⟨3, ![1, 512, 256]⟩
abbrev S512x256 : Shape := ⟨2, ![512, 256]⟩
abbrev S1x1024x256 : Shape := ⟨3, ![1, 1024, 256]⟩

abbrev nBuf : Space → Nat
  | .hbm => 3
  | .vmem => 4
  | .smem => 0
  | _ => 0

abbrev bufTy : (tb : Table) → Fin (tcTables nBuf tb) → BufTy
  | .hbm, ⟨0, _⟩ => ⟨S512x1024, .bf16⟩
  | .hbm, ⟨1, _⟩ => ⟨S2x512x1024, .f32⟩
  | .hbm, ⟨2, _⟩ => ⟨S8x1024x256, .bf16⟩
  | .local _ .vmem, ⟨0, _⟩ => ⟨S512x1024, .bf16⟩
  | .local _ .vmem, ⟨1, _⟩ => ⟨S2x512x1024, .f32⟩
  | .local _ .vmem, ⟨2, _⟩ => ⟨S8x1024x256, .bf16⟩
  | .local _ .vmem, ⟨3, _⟩ => ⟨S1024x2048, .f32⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def k0_cond2 (i : grid0.Coords) : BitVec 1 :=
  let arg0 : BitVec 32 := BitVec.ofNat 32 (i 0).val
  let c0_i32_57 : BitVec 32 := 0#32
  let v77 : BitVec 1 := Scalar.cmpi .eq arg0 c0_i32_57
  let v78 : BitVec 32 := Scalar.extui v77
  let c0_i32_58 : BitVec 32 := 0#32
  let v79 : BitVec 1 := Scalar.cmpi .ne v78 c0_i32_58
  v79

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference16Ideal.lean ====
abbrev S512x1024 : Shape := ⟨2, ![512, 1024]⟩
abbrev S2x512x1024 : Shape := ⟨3, ![2, 512, 1024]⟩
abbrev S512x2x1024 : Shape := ⟨3, ![512, 2, 1024]⟩
abbrev S512x2048 : Shape := ⟨2, ![512, 2048]⟩
abbrev S_ : Shape := ⟨0, ![]⟩
abbrev S1024x2048 : Shape := ⟨2, ![1024, 2048]⟩
abbrev S2048x1024 : Shape := ⟨2, ![2048, 1024]⟩
abbrev S1024x8x256 : Shape := ⟨3, ![1024, 8, 256]⟩
abbrev S8x1024x256 : Shape := ⟨3, ![8, 1024, 256]⟩

abbrev nBuf : Space → Nat
  | .hbm => 15
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S2x512x1024, .f32⟩
  | .hbm, ⟨2, _⟩ => ⟨S512x2x1024, .f32⟩
  | .hbm, ⟨3, _⟩ => ⟨S512x2048, .f32⟩
  | .hbm, ⟨4, _⟩ => ⟨S512x2048, .bf16⟩
  | .hbm, ⟨5, _⟩ => ⟨S512x2048, .f32⟩
  | .hbm, ⟨6, _⟩ => ⟨S_, .f32⟩
  | .hbm, ⟨7, _⟩ => ⟨S1024x2048, .f32⟩
  | .hbm, ⟨8, _⟩ => ⟨S512x1024, .f32⟩
  | .hbm, ⟨9, _⟩ => ⟨S512x2048, .f32⟩
  | .hbm, ⟨10, _⟩ => ⟨S2048x1024, .f32⟩
  | .hbm, ⟨11, _⟩ => ⟨S1024x2048, .f32⟩
  | .hbm, ⟨12, _⟩ => ⟨S1024x2048, .bf16⟩
  | .hbm, ⟨13, _⟩ => ⟨S1024x8x256, .bf16⟩
  | .hbm, ⟨14, _⟩ => ⟨S8x1024x256, .bf16⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Kernel17.lean ====
abbrev S2x512x1024 : Shape := ⟨3, ![2, 512, 1024]⟩
abbrev S1024x2048 : Shape := ⟨2, ![1024, 2048]⟩
abbrev S512x1024 : Shape := ⟨2, ![512, 1024]⟩
abbrev S1x1024 : Shape := ⟨2, ![1, 1024]⟩
abbrev S1024x8x256 : Shape := ⟨3, ![1024, 8, 256]⟩
abbrev S8x1024x256 : Shape := ⟨3, ![8, 1024, 256]⟩
abbrev S1x512x256 : Shape := ⟨3, ![1, 512, 256]⟩
abbrev S512x256 : Shape := ⟨2, ![512, 256]⟩
abbrev S1x1024x256 : Shape := ⟨3, ![1, 1024, 256]⟩
abbrev S1024x256 : Shape := ⟨2, ![1024, 256]⟩
abbrev S512 : Shape := ⟨1, ![512]⟩
abbrev S512x1 : Shape := ⟨2, ![512, 1]⟩
abbrev S1024 : Shape := ⟨1, ![1024]⟩

abbrev nBuf : Space → Nat
  | .hbm => 8
  | .vmem => 5
  | .smem => 0
  | _ => 0

abbrev bufTy : (tb : Table) → Fin (tcTables nBuf tb) → BufTy
  | .hbm, ⟨0, _⟩ => ⟨S2x512x1024, .f32⟩
  | .hbm, ⟨1, _⟩ => ⟨S1024x2048, .f32⟩
  | .hbm, ⟨2, _⟩ => ⟨S512x1024, .f32⟩
  | .hbm, ⟨3, _⟩ => ⟨S1x1024, .f32⟩
  | .hbm, ⟨4, _⟩ => ⟨S1024x8x256, .f32⟩
  | .hbm, ⟨5, _⟩ => ⟨S8x1024x256, .f32⟩
  | .hbm, ⟨6, _⟩ => ⟨S8x1024x256, .bf16⟩
  | .hbm, ⟨7, _⟩ => ⟨S1x1024, .f32⟩
  | .local _ .vmem, ⟨0, _⟩ => ⟨S2x512x1024, .f32⟩
  | .local _ .vmem, ⟨1, _⟩ => ⟨S8x1024x256, .bf16⟩
  | .local _ .vmem, ⟨2, _⟩ => ⟨S512x1024, .f32⟩
  | .local _ .vmem, ⟨3, _⟩ => ⟨S1x1024, .f32⟩
  | .local _ .vmem, ⟨4, _⟩ => ⟨S1x1024, .f32⟩
  | _, _ => ⟨S2x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def k0_cond1 (i : grid0.Coords) : BitVec 1 :=
  let arg0 : BitVec 32 := BitVec.ofNat 32 (i 0).val
  let c0_i32 : BitVec 32 := 0#32
  let v69 : BitVec 1 := Scalar.cmpi .eq arg0 c0_i32
  let v70 : BitVec 32 := Scalar.extui v69
  let c0_i32_50 : BitVec 32 := 0#32
  let v71 : BitVec 1 := Scalar.cmpi .ne v70 c0_i32_50
  v71

def k0_cond2 (i : grid0.Coords) : BitVec 1 :=
  let arg0 : BitVec 32 := BitVec.ofNat 32 (i 0).val
  let c0_i32_51 : BitVec 32 := 0#32
  let v72 : BitVec 1 := Scalar.cmpi .sgt arg0 c0_i32_51
  let v73 : BitVec 32 := Scalar.extui v72
  let c0_i32_52 : BitVec 32 := 0#32
  let v74 : BitVec 1 := Scalar.cmpi .ne v73 c0_i32_52
  v74

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2x512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference17Ideal.lean ====
abbrev S2x512x1024 : Shape := ⟨3, ![2, 512, 1024]⟩
abbrev S1024x2048 : Shape := ⟨2, ![1024, 2048]⟩
abbrev S512x1024 : Shape := ⟨2, ![512, 1024]⟩
abbrev S1x1024 : Shape := ⟨2, ![1, 1024]⟩
abbrev S512x2x1024 : Shape := ⟨3, ![512, 2, 1024]⟩
abbrev S512x2048 : Shape := ⟨2, ![512, 2048]⟩
abbrev S_ : Shape := ⟨0, ![]⟩
abbrev S512 : Shape := ⟨1, ![512]⟩
abbrev S512x1 : Shape := ⟨2, ![512, 1]⟩
abbrev S1024 : Shape := ⟨1, ![1024]⟩

abbrev nBuf : Space → Nat
  | .hbm => 27
  | .vmem => 0
  | .smem => 0
  | _ => 0

abbrev bufTy : (tb : Table) → Fin (tcTables nBuf tb) → BufTy
  | .hbm, ⟨0, _⟩ => ⟨S2x512x1024, .f32⟩
  | .hbm, ⟨1, _⟩ => ⟨S1024x2048, .f32⟩
  | .hbm, ⟨2, _⟩ => ⟨S512x1024, .f32⟩
  | .hbm, ⟨3, _⟩ => ⟨S1x1024, .f32⟩
  | .hbm, ⟨4, _⟩ => ⟨S512x2x1024, .f32⟩
  | .hbm, ⟨5, _⟩ => ⟨S512x2048, .f32⟩
  | .hbm, ⟨6, _⟩ => ⟨S512x1024, .f32⟩
  | .hbm, ⟨7, _⟩ => ⟨S_, .f32⟩
  | .hbm, ⟨8, _⟩ => ⟨S512, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S_, .f32⟩
  | .hbm, ⟨14, _⟩ => ⟨S512x1, .f32⟩
  | .hbm, ⟨15, _⟩ => ⟨S512x1, .f32⟩
  | .hbm, ⟨16, _⟩ => ⟨S512x1, .f32⟩
  | .hbm, ⟨17, _⟩ => ⟨S512x1024, .f32⟩
  | .hbm, ⟨18, _⟩ => ⟨S512x1024, .f32⟩
  | .hbm, ⟨19, _⟩ => ⟨S512x1024, .f32⟩
  | .hbm, ⟨20, _⟩ => ⟨S512x1024, .f32⟩
  | .hbm, ⟨21, _⟩ => ⟨S512x2048, .f32⟩
  | .hbm, ⟨22, _⟩ => ⟨S512x1024, .f32⟩
  | .hbm, ⟨23, _⟩ => ⟨S512x1024, .f32⟩
  | .hbm, ⟨24, _⟩ => ⟨S_, .f32⟩
  | .hbm, ⟨25, _⟩ => ⟨S1024, .f32⟩
  | .hbm, ⟨26, _⟩ => ⟨S1x1024, .f32⟩
  | _, _ => ⟨S2x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Kernel18.lean ====
abbrev S8192x1024 : Shape := ⟨2, ![8192, 1024]⟩
abbrev S2x512x1024 : Shape := ⟨3, ![2, 512, 1024]⟩
abbrev S1024x1024 : Shape := ⟨2, ![1024, 1024]⟩
abbrev S2x256x1024 : Shape := ⟨3, ![2, 256, 1024]⟩
abbrev S1024x256 : Shape := ⟨2, ![1024, 256]⟩
abbrev S1x256x256 : Shape := ⟨3, ![1, 256, 256]⟩
abbrev S256x256 : Shape := ⟨2, ![256, 256]⟩
abbrev S1024 : Shape := ⟨1, ![1024]⟩
abbrev S1024x1 : Shape := ⟨2, ![1024, 1]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2x512x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S2x256x1024, .bf16⟩
  | .local _ .vmem, ⟨3, _⟩ => ⟨S2x256x1024, .bf16⟩
  | .local _ .vmem, ⟨4, _⟩ => ⟨S1024x1024, .bf16⟩
  | .local _ .vmem, ⟨5, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference18Ideal.lean ====
abbrev S8192x1024 : Shape := ⟨2, ![8192, 1024]⟩
abbrev S2x512x1024 : Shape := ⟨3, ![2, 512, 1024]⟩
abbrev S2x4096x4x256 : Shape := ⟨4, ![2, 4096, 4, 256]⟩
abbrev S1x512x1024 : Shape := ⟨3, ![1, 512, 1024]⟩
abbrev S512x1024 : Shape := ⟨2, ![512, 1024]⟩
abbrev S2x256x4x256 : Shape := ⟨4, ![2, 256, 4, 256]⟩
abbrev S2x4x4096x256 : Shape := ⟨4, ![2, 4, 4096, 256]⟩
abbrev S_ : Shape := ⟨0, ![]⟩
abbrev S2x4x4096 : Shape := ⟨3, ![2, 4, 4096]⟩
abbrev S2x4x4096x1 : Shape := ⟨4, ![2, 4, 4096, 1]⟩
abbrev S2x4x256x4096 : Shape := ⟨4, ![2, 4, 256, 4096]⟩

abbrev nBuf : Space → Nat
  | .hbm => 33
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x512x1024, .bf16⟩
  | .hbm, ⟨2, _⟩ => ⟨S8192x1024, .f32⟩
  | .hbm, ⟨3, _⟩ => ⟨S2x512x1024, .f32⟩
  | .hbm, ⟨4, _⟩ => ⟨S2x4096x4x256, .f32⟩
  | .hbm, ⟨5, _⟩ => ⟨S1x512x1024, .f32⟩
  | .hbm, ⟨6, _⟩ => ⟨S512x1024, .f32⟩
  | .hbm, ⟨7, _⟩ => ⟨S2x256x4x256, .f32⟩
  | .hbm, ⟨8, _⟩ => ⟨S1x512x1024, .f32⟩
  | .hbm, ⟨9, _⟩ => ⟨S512x1024, .f32⟩
  | .hbm, ⟨10, _⟩ => ⟨S2x256x4x256, .f32⟩
  | .hbm, ⟨11, _⟩ => ⟨S2x4x4096x256, .f32⟩
  | .hbm, ⟨12, _⟩ => ⟨S_, .f32⟩
  | .hbm, ⟨13, _⟩ => ⟨S2x4x4096x256, .f32⟩
  | .hbm, ⟨14, _⟩ => ⟨S2x4x4096x256, .f32⟩
  | .hbm, ⟨15, _⟩ => ⟨S_, .f32⟩
  | .hbm, ⟨16, _⟩ => ⟨S2x4x4096, .f32⟩
  | .hbm, ⟨17, _⟩ => ⟨S_, .f32⟩
  | .hbm, ⟨18, _⟩ => ⟨S2x4x4096, .f32⟩
  | .hbm, ⟨19, _⟩ => ⟨S2x4x4096, .f32⟩
  | .hbm, ⟨20, _⟩ => ⟨S2x4x4096x1, .f32⟩
  | .hbm, ⟨21, _⟩ => ⟨S2x4x4096x256, .f32⟩
  | .hbm, ⟨22, _⟩ => ⟨S2x4x4096x256, .f32⟩
  | .hbm, ⟨23, _⟩ => ⟨S2x4x4096x256, .f32⟩
  | .hbm, ⟨24, _⟩ => ⟨S_, .f32⟩
  | .hbm, ⟨25, _⟩ => ⟨S2x4x4096, .f32⟩
  | .hbm, ⟨26, _⟩ => ⟨S2x4x4096x1, .f32⟩
  | .hbm, ⟨27, _⟩ => ⟨S2x4x4096x256, .f32⟩
  | .hbm, ⟨28, _⟩ => ⟨S2x4x4096x256, .f32⟩
  | .hbm, ⟨29, _⟩ => ⟨S2x4x256x4096, .f32⟩
  | .hbm, ⟨30, _⟩ => ⟨S2x4096x4x256, .f32⟩
  | .hbm, ⟨31, _⟩ => ⟨S8192x1024, .f32⟩
  | .hbm, ⟨32, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩

abbrev nD : Nat := 1
abbrev τ : Topo := Topo.v7x

variable {F : FTy → Type} [FloatOps F]
-- ==== Kernel19.lean ====
abbrev S2x8192x512 : Shape := ⟨3, ![2, 8192, 512]⟩
abbrev S1024x1024 : Shape := ⟨2, ![1024, 1024]⟩
abbrev S8192x1024 : Shape := ⟨2, ![8192, 1024]⟩
abbrev S1x1024 : Shape := ⟨2, ![1, 1024]⟩
abbrev S2x1024x512 : Shape := ⟨3, ![2, 1024, 512]⟩
abbrev S1x1024x512 : Shape := ⟨3, ![1, 1024, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 10
  | .vmem => 13
  | .smem => 0
  | _ => 0

abbrev bufTy : (tb : Table) → Fin (tcTables nBuf tb) → BufTy
  | .hbm, ⟨0, _⟩ => ⟨S2x8192x512, .bf16⟩
  | .hbm, ⟨1, _⟩ => ⟨S1024x1024, .f32⟩
  | .hbm, ⟨2, _⟩ => ⟨S8192x1024, .f32⟩
  | .hbm, ⟨3, _⟩ => ⟨S1x1024, .f32⟩
  | .hbm, ⟨4, _⟩ => ⟨S1024x1024, .f32⟩
  | .hbm, ⟨5, _⟩ => ⟨S1024x1024, .bf16⟩
  | .hbm, ⟨6, _⟩ => ⟨S1024x1024, .bf16⟩
  | .hbm, ⟨7, _⟩ => ⟨S8192x1024, .f32⟩
  | .hbm, ⟨8, _⟩ => ⟨S8192x1024, .bf16⟩
  | .hbm, ⟨9, _⟩ => ⟨S8192x1024, .bf16⟩
  | .local _ .vmem, ⟨0, _⟩ => ⟨S2x1024x512, .bf16⟩
  | .local _ .vmem, ⟨1, _⟩ => ⟨S2x1024x512, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | _, _ => ⟨S2x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference19Ideal.lean ====
abbrev S2x8192x512 : Shape := ⟨3, ![2, 8192, 512]⟩
abbrev S1024x1024 : Shape := ⟨2, ![1024, 1024]⟩
abbrev S8192x1024 : Shape := ⟨2, ![8192, 1024]⟩
abbrev S1x1024 : Shape := ⟨2, ![1, 1024]⟩
abbrev S8192x2x512 : Shape := ⟨3, ![8192, 2, 512]⟩
abbrev S_ : Shape := ⟨0, ![]⟩
abbrev S8192 : Shape := ⟨1, ![8192]⟩
abbrev S8192x1 : Shape := ⟨2, ![8192, 1]⟩

abbrev nBuf : Space → Nat
  | .hbm => 28
  | .vmem => 0
  | .smem => 0
  | _ => 0

abbrev bufTy : (tb : Table) → Fin (tcTables nBuf tb) → BufTy
  | .hbm, ⟨0, _⟩ => ⟨S2x8192x512, .bf16⟩
  | .hbm, ⟨1, _⟩ => ⟨S1024x1024, .f32⟩
  | .hbm, ⟨2, _⟩ => ⟨S8192x1024, .f32⟩
  | .hbm, ⟨3, _⟩ => ⟨S1x1024, .f32⟩
  | .hbm, ⟨4, _⟩ => ⟨S1024x1024, .f32⟩
  | .hbm, ⟨5, _⟩ => ⟨S8192x2x512, .bf16⟩
  | .hbm, ⟨6, _⟩ => ⟨S8192x1024, .bf16⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .bf16⟩
  | .hbm, ⟨26, _⟩ => ⟨S8192x1024, .f32⟩
  | .hbm, ⟨27, _⟩ => ⟨S8192x1024, .bf16⟩
  | _, _ => ⟨S2x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Kernel20.lean ====
abbrev S512x1024 : Shape := ⟨2, ![512, 1024]⟩
abbrev S1x1024 : Shape := ⟨2, ![1, 1024]⟩
abbrev S1024x2048 : Shape := ⟨2, ![1024, 2048]⟩
abbrev S1024x8x256 : Shape := ⟨3, ![1024, 8, 256]⟩
abbrev S8x1024x256 : Shape := ⟨3, ![8, 1024, 256]⟩
abbrev S2x512x1024 : Shape := ⟨3, ![2, 512, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x512x256 : Shape := ⟨3, ![1, 512, 256]⟩

abbrev nBuf : Space → Nat
  | .hbm => 8
  | .vmem => 5
  | .smem => 0
  | _ => 0

abbrev bufTy : (tb : Table) → Fin (tcTables nBuf tb) → BufTy
  | .hbm, ⟨0, _⟩ => ⟨S512x1024, .f32⟩
  | .hbm, ⟨1, _⟩ => ⟨S1x1024, .f32⟩
  | .hbm, ⟨2, _⟩ => ⟨S1024x2048, .f32⟩
  | .hbm, ⟨3, _⟩ => ⟨S1024x8x256, .f32⟩
  | .hbm, ⟨4, _⟩ => ⟨S8x1024x256, .f32⟩
  | .hbm, ⟨5, _⟩ => ⟨S8x1024x256, .bf16⟩
  | .hbm, ⟨6, _⟩ => ⟨S2x512x1024, .bf16⟩
  | .hbm, ⟨7, _⟩ => ⟨S512x1024, .bf16⟩
  | .local _ .vmem, ⟨0, _⟩ => ⟨S512x1024, .f32⟩
  | .local _ .vmem, ⟨1, _⟩ => ⟨S1x1024, .f32⟩
  | .local _ .vmem, ⟨2, _⟩ => ⟨S8x1024x256, .bf16⟩
  | .local _ .vmem, ⟨3, _⟩ => ⟨S2x512x1024, .bf16⟩
  | .local _ .vmem, ⟨4, _⟩ => ⟨S512x1024, .bf16⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== Reference20Ideal.lean ====
abbrev S512x1024 : Shape := ⟨2, ![512, 1024]⟩
abbrev S1x1024 : Shape := ⟨2, ![1, 1024]⟩
abbrev S1024x2048 : Shape := ⟨2, ![1024, 2048]⟩
abbrev S_ : Shape := ⟨0, ![]⟩
abbrev S512 : Shape := ⟨1, ![512]⟩
abbrev S512x1 : Shape := ⟨2, ![512, 1]⟩
abbrev S512x2048 : Shape := ⟨2, ![512, 2048]⟩
abbrev S512x2x1024 : Shape := ⟨3, ![512, 2, 1024]⟩
abbrev S2x512x1024 : Shape := ⟨3, ![2, 512, 1024]⟩

abbrev nBuf : Space → Nat
  | .hbm => 23
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1x1024, .f32⟩
  | .hbm, ⟨2, _⟩ => ⟨S1024x2048, .f32⟩
  | .hbm, ⟨3, _⟩ => ⟨S512x1024, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S_, .f32⟩
  | .hbm, ⟨8, _⟩ => ⟨S512x1, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S512x1, .f32⟩
  | .hbm, ⟨14, _⟩ => ⟨S512x1024, .f32⟩
  | .hbm, ⟨15, _⟩ => ⟨S512x1024, .f32⟩
  | .hbm, ⟨16, _⟩ => ⟨S512x1024, .f32⟩
  | .hbm, ⟨17, _⟩ => ⟨S512x1024, .f32⟩
  | .hbm, ⟨18, _⟩ => ⟨S512x2048, .f32⟩
  | .hbm, ⟨19, _⟩ => ⟨S512x2048, .bf16⟩
  | .hbm, ⟨20, _⟩ => ⟨S512x2x1024, .bf16⟩
  | .hbm, ⟨21, _⟩ => ⟨S2x512x1024, .bf16⟩
  | .hbm, ⟨22, _⟩ => ⟨S512x1024, .bf16⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel21.lean ====
abbrev S8192x1024 : Shape := ⟨2, ![8192, 1024]⟩
abbrev S1024x1024 : Shape := ⟨2, ![1024, 1024]⟩
abbrev S1x1024 : Shape := ⟨2, ![1, 1024]⟩
abbrev S1024x512 : Shape := ⟨2, ![1024, 512]⟩
abbrev S1024 : Shape := ⟨1, ![1024]⟩
abbrev S1024x1 : Shape := ⟨2, ![1024, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S8192x1024, .f32⟩
  | .hbm, ⟨3, _⟩ => ⟨S1x1024, .f32⟩
  | .hbm, ⟨4, _⟩ => ⟨S1024x1024, .bf16⟩
  | .hbm, ⟨5, _⟩ => ⟨S8192x1024, .f32⟩
  | .hbm, ⟨6, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference21Ideal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel22.lean ====
abbrev S8192x1024 : Shape := ⟨2, ![8192, 1024]⟩
abbrev S1x1024 : Shape := ⟨2, ![1, 1024]⟩
abbrev S_ : Shape := ⟨0, ![]⟩
abbrev S8x128 : Shape := ⟨2, ![8, 128]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S_, .f32⟩
  | .hbm, ⟨3, _⟩ => ⟨S8x128, .f32⟩
  | .hbm, ⟨4, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S8x128, .f32⟩
  | .local _ .vmem, ⟨4, _⟩ => ⟨S1024x1024, .bf16⟩
  | .local _ .vmem, ⟨5, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference22Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.Reals.lean ====
/-
  Extended reals that are real numbers: sums, products, maxima and quotients of real numbers, computed at the
  extended reals, are the real numbers' own. The certificates lift a finite input to the reals by `lift`, push the
  coercion outwards by the lemmas below, and compare two real expressions.
-/
module

public import Idealize.ShloMosaic.PureOps.Ideal
public import Idealize.ShloMosaic.PureOps.Ideal.Laws
public import Idealize.ShloMosaic.Lib.IdealHost
public import Mathlib.Analysis.SpecialFunctions.Exp

@[expose] public section

noncomputable section

namespace Cert.Reals

open Idealize.ShloMosaic

/-- Neither infinity. -/
def Fin' (x : EReal) : Prop := x ≠ ⊤ ∧ x ≠ ⊥

theorem fin_coe (r : ℝ) : Fin' (r : EReal) := ⟨EReal.coe_ne_top r, EReal.coe_ne_bot r⟩

theorem Fin'.coe {x : EReal} (h : Fin' x) : ((x.toReal : ℝ) : EReal) = x := EReal.coe_toReal h.1 h.2

/-- A family of finite values is a family of real numbers. -/
theorem lift {ι : Type*} {x : ι → EReal} (h : ∀ i, Fin' (x i)) : ∃ r : ι → ℝ, x = fun i => (r i : EReal) :=
  ⟨fun i => (x i).toReal, funext fun i => (h i).coe.symm⟩

/-- A table of finite values is a table of real numbers. -/
theorem lift₂ {ι κ : Type*} {x : ι → κ → EReal} (h : ∀ i j, Fin' (x i j)) :
    ∃ r : ι → κ → ℝ, x = fun i j => (r i j : EReal) :=
  ⟨fun i j => (x i j).toReal, funext fun i => funext fun j => (h i j).coe.symm⟩

theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem fin_sum {ι : Type*} (s : Finset ι) (f : ι → EReal) (h : ∀ i, Fin' (f i)) : Fin' (∑ i ∈ s, f i) := by
  obtain ⟨r, rfl⟩ := lift h
  rw [coe_sum]; exact fin_coe _

theorem fin_mul {x y : EReal} (hx : Fin' x) (hy : Fin' y) : Fin' (x * y) := by
  rw [← hx.coe, ← hy.coe, ← EReal.coe_mul]; exact fin_coe _

theorem fin_add {x y : EReal} (hx : Fin' x) (hy : Fin' y) : Fin' (x + y) := by
  rw [← hx.coe, ← hy.coe, ← EReal.coe_add]; exact fin_coe _

theorem fin_sub {x y : EReal} (hx : Fin' x) (hy : Fin' y) : Fin' (x - y) := by
  rw [← hx.coe, ← hy.coe, ← EReal.coe_sub]; exact fin_coe _

/-- The maximum of a nonempty family of finite values, started at `-∞`, is finite. -/
theorem fin_fold_max {n : ℕ} (hn : 0 < n) (f : Fin n → EReal) (h : ∀ i, Fin' (f i)) :
    Fin' (Finset.univ.fold max ⊥ f) := by
  obtain ⟨i, -, hi⟩ : ∃ i ∈ (Finset.univ : Finset (Fin n)), (Finset.univ.fold max ⊥ f : EReal) = f i := by
    have hne : (Finset.univ : Finset (Fin n)).Nonempty := ⟨⟨0, hn⟩, Finset.mem_univ _⟩
    obtain ⟨i, hi, he⟩ := Finset.exists_max_image Finset.univ f hne
    refine ⟨i, hi, le_antisymm ?_ ?_⟩
    · exact (Finset.fold_max_le _).2 ⟨bot_le, fun j hj => he j hj⟩
    · exact (Finset.le_fold_max _).2 (.inr ⟨i, hi, le_rfl⟩)
  rw [hi]; exact h i

theorem div_coe' (x : ℝ) {y : ℝ} (hy : y ≠ 0) : Ideal.div (x : EReal) (y : EReal) = ((x / y : ℝ) : EReal) := by
  rw [Ideal.div_coe hy, ← EReal.coe_mul]; congr 1; field_simp

theorem exp_coe' (x : ℝ) : Ideal.exp (x : EReal) = ((Real.exp x : ℝ) : EReal) := rfl

/-- The pattern of one sixteenth. -/
theorem bits_sixteenth : Ideal.ofBits .f32 0x3D800000#32 = ((1 / 16 : ℝ) : EReal) := by
  simp [Ideal.ofBits, Ideal.ieee, -EReal.coe_mul]; norm_num

/-- The pattern of sixteen. -/
theorem bits_sixteen : Ideal.ofBits .f32 0x41800000#32 = ((16 : ℝ) : EReal) := by
  simp [Ideal.ofBits, Ideal.ieee, -EReal.coe_mul]; norm_num

/-- The pattern of negative infinity. -/
theorem bits_neg_inf : Ideal.ofBits .f32 0xFF800000#32 = (⊥ : EReal) := by
  simp [Ideal.ofBits, Ideal.ieee]

/-- The pattern of one. -/
theorem bits_one : Ideal.ofBits .f32 0x3F800000#32 = ((1 : ℝ) : EReal) := by
  simp [Ideal.ofBits, Ideal.ieee, -EReal.coe_mul]; norm_num

/-- The pattern of positive infinity. -/
theorem bits_pos_inf : Ideal.ofBits .f32 0x7F800000#32 = (⊤ : EReal) := by
  simp [Ideal.ofBits, Ideal.ieee]

/-- The bit of `|x| < ∞` is one only on a real number. -/
theorem fin_of_bit {x : EReal}
    (h : BitVec.ofBool (decide ((FloatOps.absf (F := Ideal) (φ := .f32) x : EReal) < Ideal.ofBits .f32 0x7F800000#32)) = 1#1) :
    Fin' x := by
  have h' : (FloatOps.absf (F := Ideal) (φ := .f32) x : EReal) < ⊤ := by
    rw [← bits_pos_inf]
    by_contra hn
    rw [decide_eq_false hn] at h
    exact absurd h (by decide)
  have h'' : max x (-x) < ⊤ := h'
  refine ⟨fun e => ?_, fun e => ?_⟩ <;> subst e <;> simp at h''

/-! ## One row of softmax attention, backwards -/

variable {n : ℕ}

/-- The exponentials of one row, the row's largest score subtracted. -/
def ex (s : Fin n → EReal) (j : Fin n) : EReal := Ideal.exp (s j - Finset.univ.fold max ⊥ s)

/-- The row's probabilities, the reciprocal of the total taken once. -/
def prob (s : Fin n → EReal) (j : Fin n) : EReal := ex s j * Ideal.div 1 (∑ i, ex s i)

/-- The row's score gradients: `p · (dp − Σ dp · p) / 16`. -/
def dscore (s dp : Fin n → EReal) (j : Fin n) : EReal :=
  prob s j * (dp j - ∑ i, dp i * prob s i) * ((1 / 16 : ℝ) : EReal)

/-- The probabilities as a quotient. -/
def prob' (s : Fin n → EReal) (j : Fin n) : EReal := Ideal.div (ex s j) (∑ i, ex s i)

/-- The score gradients as the transpose of the quotient rule has them. -/
def dscore' (s dp : Fin n → EReal) (j : Fin n) : EReal :=
  Ideal.div ((Ideal.div (dp j) (∑ i, ex s i)
    + -(∑ i, dp i * Ideal.div 1 ((∑ i, ex s i) * ∑ i, ex s i) * ex s i)) * ex s j) ((16 : ℝ) : EReal)

/-- On finite scores the exponentials are positive real numbers. -/
theorem ex_real (hn : 0 < n) (s : Fin n → EReal) (hs : ∀ j, Fin' (s j)) :
    ∃ e : Fin n → ℝ, (ex s = fun j => (e j : EReal)) ∧ ∀ j, 0 < e j := by
  have hM := fin_fold_max hn s hs
  obtain ⟨M, hM⟩ : ∃ M : ℝ, Finset.univ.fold max ⊥ s = (M : EReal) := ⟨_, hM.coe.symm⟩
  obtain ⟨r, rfl⟩ := lift hs
  refine ⟨fun j => Real.exp (r j - M), funext fun j => ?_, fun j => Real.exp_pos _⟩
  show Ideal.exp ((r j : EReal) - _) = _
  rw [hM, ← EReal.coe_sub, exp_coe']

theorem prob_eq (hn : 0 < n) (s : Fin n → EReal) (hs : ∀ j, Fin' (s j)) (j : Fin n) : prob' s j = prob s j := by
  obtain ⟨e, he, hp⟩ := ex_real hn s hs
  have hS : (∑ i, e i) ≠ 0 := (Finset.sum_pos (fun i _ => hp i) ⟨⟨0, hn⟩, Finset.mem_univ _⟩).ne'
  unfold prob prob'
  simp only [he, coe_sum]
  rw [show (1 : EReal) = ((1 : ℝ) : EReal) from rfl, div_coe' _ hS, div_coe' _ hS, ← EReal.coe_mul]
  congr 1; field_simp

theorem fin_prob (hn : 0 < n) (s : Fin n → EReal) (hs : ∀ j, Fin' (s j)) (j : Fin n) : Fin' (prob s j) := by
  obtain ⟨e, he, hp⟩ := ex_real hn s hs
  have hS : (∑ i, e i) ≠ 0 := (Finset.sum_pos (fun i _ => hp i) ⟨⟨0, hn⟩, Finset.mem_univ _⟩).ne'
  unfold prob
  simp only [he, coe_sum]
  rw [show (1 : EReal) = ((1 : ℝ) : EReal) from rfl, div_coe' _ hS, ← EReal.coe_mul]
  exact fin_coe _

theorem dscore_eq (hn : 0 < n) (s dp : Fin n → EReal) (hs : ∀ j, Fin' (s j)) (hd : ∀ j, Fin' (dp j)) (j : Fin n) :
    dscore' s dp j = dscore s dp j := by
  obtain ⟨e, he, hp⟩ := ex_real hn s hs
  obtain ⟨d, rfl⟩ := lift hd
  have hS : (∑ i, e i) ≠ 0 := (Finset.sum_pos (fun i _ => hp i) ⟨⟨0, hn⟩, Finset.mem_univ _⟩).ne'
  unfold dscore dscore' prob
  simp only [he, coe_sum]
  generalize hSe : (∑ i, e i) = S at hS ⊢
  have h1 : (1 : EReal) = ((1 : ℝ) : EReal) := rfl
  have h16 : (16 : ℝ) ≠ 0 := by norm_num
  simp only [h1, ← EReal.coe_mul, div_coe' _ hS, div_coe' _ (mul_ne_zero hS hS), coe_sum, ← EReal.coe_sub,
    ← EReal.coe_neg, ← EReal.coe_add, div_coe' _ h16]
  congr 1
  have e1 : (∑ i, d i * (1 / (S * S)) * e i) = (∑ i, d i * e i) / (S * S) := by
    rw [Finset.sum_div]; exact Finset.sum_congr rfl fun i _ => by field_simp
  have e2 : (∑ i, d i * (e i * (1 / S))) = (∑ i, d i * e i) / S := by
    rw [Finset.sum_div]; exact Finset.sum_congr rfl fun i _ => by field_simp
  rw [e1, e2]; field_simp; ring

end Cert.Reals

end
-- ==== Proof.AttnSpec.lean ====
/-
  The gradient of softmax attention over a short memory, as plain sums of its arrays: for one query row and one head the
  scores against the memory's keys, the probabilities, the gradients of the scores; from them the gradient of the
  queries (`gradQ`), and, summed over the rows of a sequence, of the keys and the values (`gradKV`).
-/
module

public import proofs.«01_k».proof.Proof.Reals

@[expose] public section

noncomputable section

namespace Cert.AttnSpec

open Idealize.ShloMosaic Cert.Reals

/-- Scaled scores of one query row. -/
def score (q : Fin 256 → EReal) (k : Fin 256 → Fin 256 → EReal) (j : Fin 256) : EReal :=
  (∑ d, q d * k j d) * ((1 / 16 : ℝ) : EReal)

/-- Products of one row with the rows of a table. -/
def prods (o : Fin 256 → EReal) (v : Fin 256 → Fin 256 → EReal) (j : Fin 256) : EReal := ∑ d, o d * v j d

/-- Column `d` of head `h`. -/
def col (h : Fin 4) (d : Fin 256) : Fin 1024 := ⟨h.val * 256 + d.val, by omega⟩
/-- The head a column belongs to. -/
def headOf (c : Fin 1024) : Fin 4 := ⟨c.val / 256, by omega⟩
/-- Memory row `j` of sequence `b`. -/
def mrow (b : Fin 2) (j : Fin 256) : Fin 512 := ⟨b.val * 256 + j.val, by omega⟩
/-- The sequence a query row belongs to. -/
def seqOf (R : Fin 8192) : Fin 2 := ⟨R.val / 4096, by omega⟩
/-- Row `t` of sequence `b`. -/
def pos (b : Fin 2) (t : Fin 4096) : Fin 8192 := ⟨b.val * 4096 + t.val, by omega⟩

variable (Q : Fin 8192 → Fin 1024 → EReal) (KV : Fin 2 → Fin 512 → Fin 1024 → EReal) (O : Fin 8192 → Fin 1024 → EReal)

/-- The scores of query row `R` in head `h`. -/
def sc (R : Fin 8192) (h : Fin 4) : Fin 256 → EReal :=
  score (fun d => Q R (col h d)) (fun j d => KV 0 (mrow (seqOf R) j) (col h d))

/-- The gradients of the probabilities of row `R` in head `h`. -/
def dp (R : Fin 8192) (h : Fin 4) : Fin 256 → EReal :=
  prods (fun d => O R (col h d)) (fun j d => KV 1 (mrow (seqOf R) j) (col h d))

/-- The gradient of the queries. -/
def gradQ (R : Fin 8192) (c : Fin 1024) : EReal :=
  ∑ j, dscore (sc Q KV R (headOf c)) (dp KV O R (headOf c)) j * KV 0 (mrow (seqOf R) j) c

/-- The gradient of the keys of memory row `j` of sequence `b`. -/
def gradK (b : Fin 2) (j : Fin 256) (c : Fin 1024) : EReal :=
  ∑ t, dscore (sc Q KV (pos b t) (headOf c)) (dp KV O (pos b t) (headOf c)) j * Q (pos b t) c

/-- The gradient of the values of memory row `j` of sequence `b`. -/
def gradV (b : Fin 2) (j : Fin 256) (c : Fin 1024) : EReal :=
  ∑ t, prob (sc Q KV (pos b t) (headOf c)) j * O (pos b t) c

/-- The gradient of keys (slot 0) and values (slot 1), as one array. -/
def gradKV (s : Fin 2) (J : Fin 512) (l : Fin 1024) : EReal :=
  if s.val = 0 then gradK Q KV O ⟨J.val / 256, by omega⟩ ⟨J.val % 256, by omega⟩ l else gradV Q KV O ⟨J.val / 256, by omega⟩ ⟨J.val % 256, by omega⟩ l

end Cert.AttnSpec

end
-- ==== Proof.AttnTile.lean ====
/-
  The attention gradient's kernel, one head of one tile at a time: what its named payloads are at an index, over the
  tiles they load. The four heads' payloads are one computation, written four times; the equations of the first section
  say so.
-/
module

public import proofs.«01_k».proof.Proof.Gen.Kernel2Ideal.Skeleton
public import Idealize.ShloMosaic.Lib.Pointwise
public import proofs.«01_k».proof.Proof.AttnSpec

@[expose] public section

set_option maxRecDepth 16384

noncomputable section

namespace Cert.Kernel2Ideal.Attn

open Cert.Kernel2Ideal Cert.Kernel2Ideal.Gen Idealize.ShloMosaic Idealize.ShloMosaic.TcCoe Idealize.SL.Sem Cert.Reals Cert.AttnSpec

/-! ## The heads compute alike -/

theorem prob1 (q k) : k0_pay7 (F := Ideal) (k0_pay5 q k) (k0_pay6 q k) = k0_pay4 q k := rfl
theorem prob2 (q k) : k0_pay8 (F := Ideal) q k = k0_pay4 q k := rfl
theorem prob3 (q k) : k0_pay9 (F := Ideal) q k = k0_pay4 q k := rfl
theorem ds1 (p o v) : k0_pay13 (F := Ideal) p o v = k0_pay12 p o v := rfl
theorem ds2 (p o v) : k0_pay15 (F := Ideal) p (k0_pay10 o v) (k0_pay14 p o v) = k0_pay12 p o v := rfl
theorem ds3 (p o v) : k0_pay16 (F := Ideal) p (k0_pay11 o v) = k0_pay12 p o v := rfl
theorem dq1 (s k) : k0_pay22 (F := Ideal) s k = k0_pay17 s k := rfl
theorem dq2 (s k) : k0_pay25 (F := Ideal) s k = k0_pay17 s k := rfl
theorem dq3 (s k) : k0_pay28 (F := Ideal) s k = k0_pay17 s k := rfl
theorem dk1 (s a q) : k0_pay23 (F := Ideal) s a q = k0_pay18 s a q := rfl
theorem dk2 (s a q) : k0_pay26 (F := Ideal) s a q = k0_pay18 s a q := rfl
theorem dk3 (s a q) : k0_pay1 (F := Ideal) s a q = k0_pay18 s a q := rfl
theorem dv0 (p a o) : k0_pay21 (F := Ideal) (k0_pay19 a) (k0_pay20 p) o (constant S256x256 .f32 0x00000000#32) = k0_pay2 p a o := rfl
theorem dv1 (p a o) : k0_pay24 (F := Ideal) p a o = k0_pay2 p a o := rfl
theorem dv2 (p a o) : k0_pay27 (F := Ideal) p a o = k0_pay2 p a o := rfl

/-! ## One head at an index -/

variable (q o : FVec Ideal S1024x256 .bf16) (k v : FVec Ideal S1x256x256 .bf16)

/-- The scores of row `r` of the tile. -/
abbrev tsc (r : Fin 1024) : Fin 256 → EReal := score (fun d => q (ix2 r d)) (fun j d => k (ix3 0 j d))
/-- The gradients of the probabilities of row `r` of the tile. -/
abbrev tdp (r : Fin 1024) : Fin 256 → EReal := prods (fun d => o (ix2 r d)) (fun j d => v (ix3 0 j d))

theorem prob_tile (r : Fin 1024) (j : Fin 256) : k0_pay4 (F := Ideal) q k (ix2 r j) = prob (tsc q k r) j := by
  pointwise [k0_pay4]
  rw [bits_sixteenth, bits_neg_inf]; rfl

theorem ds_tile (r : Fin 1024) (j : Fin 256) :
    k0_pay12 (F := Ideal) (k0_pay4 q k) o v (ix2 r j) = dscore (tsc q k r) (tdp o v r) j := by
  pointwise [k0_pay12, prob_tile]
  rw [bits_sixteenth]; rfl

theorem dq_tile (x : S1024x256.Idx) :
    k0_pay17 (F := Ideal) (k0_pay12 (k0_pay4 q k) o v) k x
      = ∑ j : Fin 256, dscore (tsc q k (x 0)) (tdp o v (x 0)) j * k (ix3 0 j (x 1)) := by
  pointwise [k0_pay17]
  exact Finset.sum_congr rfl fun j _ => congrArg (· * k (ix3 0 j (x 1))) (ds_tile q o k v (x 0) j)

theorem dk_tile (a : FVec Ideal S1x256x256 .f32) (x : S1x256x256.Idx) :
    k0_pay18 (F := Ideal) (k0_pay12 (k0_pay4 q k) o v) a q x
      = a x + ∑ r : Fin 1024, dscore (tsc q k r) (tdp o v r) (x 1) * q (ix2 r (x 2)) := by
  pointwise [k0_pay18]
  exact congrArg (a x + ·) (Finset.sum_congr rfl fun r _ => congrArg (· * q (ix2 r (x 2))) (ds_tile q o k v r (x 1)))

theorem dv_tile (a : FVec Ideal S1x256x256 .f32) (x : S1x256x256.Idx) :
    k0_pay2 (F := Ideal) (k0_pay4 q k) a o x
      = a x + ∑ r : Fin 1024, prob (tsc q k r) (x 1) * o (ix2 r (x 2)) := by
  pointwise [k0_pay2]
  exact congrArg (a x + ·) (Finset.sum_congr rfl fun r _ => congrArg (· * o (ix2 r (x 2))) (prob_tile q k r (x 1)))

/-! ## One head's payload, where its tiles hold columns of the arrays -/

section
variable {q o k v}
variable {Q : Fin 8192 → Fin 1024 → EReal} {KV : Fin 2 → Fin 512 → Fin 1024 → EReal} {O : Fin 8192 → Fin 1024 → EReal}

theorem tsc_eq (h : Fin 4) (R : Fin 8192) (r : Fin 1024) (hq : ∀ d, q (ix2 r d) = Q R (col h d))
    (hk : ∀ j d, k (ix3 0 j d) = KV 0 (mrow (seqOf R) j) (col h d)) : tsc q k r = sc Q KV R h := by
  unfold tsc sc
  rw [show (fun d => q (ix2 r d)) = fun d => Q R (col h d) from funext hq,
    show (fun j d => k (ix3 0 j d)) = fun j d => KV 0 (mrow (seqOf R) j) (col h d) from funext fun j => funext (hk j)]

theorem tdp_eq (h : Fin 4) (R : Fin 8192) (r : Fin 1024) (ho : ∀ d, o (ix2 r d) = O R (col h d))
    (hv : ∀ j d, v (ix3 0 j d) = KV 1 (mrow (seqOf R) j) (col h d)) : tdp o v r = dp KV O R h := by
  unfold tdp dp
  rw [show (fun d => o (ix2 r d)) = fun d => O R (col h d) from funext ho,
    show (fun j d => v (ix3 0 j d)) = fun j d => KV 1 (mrow (seqOf R) j) (col h d) from funext fun j => funext (hv j)]

theorem dq_head (h : Fin 4) (R : Fin 8192) (x : S1024x256.Idx) (c : Fin 1024)
    (hc : c.val = h.val * 256 + (x 1).val)
    (hq : ∀ d, q (ix2 (x 0) d) = Q R (col h d)) (hk : ∀ j d, k (ix3 0 j d) = KV 0 (mrow (seqOf R) j) (col h d))
    (ho : ∀ d, o (ix2 (x 0) d) = O R (col h d)) (hv : ∀ j d, v (ix3 0 j d) = KV 1 (mrow (seqOf R) j) (col h d)) :
    k0_pay17 (F := Ideal) (k0_pay12 (k0_pay4 q k) o v) k x = gradQ Q KV O R c := by
  have hx : (x 1).val < 256 := (x 1).isLt
  have hh : headOf c = h := Fin.ext (by show c.val / 256 = h.val; omega)
  have hcol : c = col h (x 1) := Fin.ext hc
  rw [dq_tile]
  unfold gradQ
  rw [hh, hcol]
  exact Finset.sum_congr rfl fun j _ => by
    rw [tsc_eq h R (x 0) hq hk, tdp_eq h R (x 0) ho hv]; exact congrArg _ (hk j (x 1))

theorem dk_head (h : Fin 4) (R : Fin 1024 → Fin 8192) (a : FVec Ideal S1x256x256 .f32) (x : S1x256x256.Idx) (c : Fin 1024)
    (j : Fin 256) (hj : j.val = (x 1).val) (hc : c.val = h.val * 256 + (x 2).val)
    (hq : ∀ r d, q (ix2 r d) = Q (R r) (col h d)) (hk : ∀ r j d, k (ix3 0 j d) = KV 0 (mrow (seqOf (R r)) j) (col h d))
    (ho : ∀ r d, o (ix2 r d) = O (R r) (col h d)) (hv : ∀ r j d, v (ix3 0 j d) = KV 1 (mrow (seqOf (R r)) j) (col h d)) :
    k0_pay18 (F := Ideal) (k0_pay12 (k0_pay4 q k) o v) a q x
      = a x + ∑ r : Fin 1024, dscore (sc Q KV (R r) (headOf c)) (dp KV O (R r) (headOf c)) j * Q (R r) c := by
  have hx : (x 2).val < 256 := (x 2).isLt
  have hh : headOf c = h := Fin.ext (by show c.val / 256 = h.val; omega)
  have hcol : c = col h (x 2) := Fin.ext hc
  have hj' : j = x 1 := Fin.ext hj
  rw [dk_tile, hh, hcol, hj']
  exact congrArg (a x + ·) (Finset.sum_congr rfl fun r _ => by
    rw [tsc_eq h (R r) r (hq r) (hk r), tdp_eq h (R r) r (ho r) (hv r)]; exact congrArg _ (hq r (x 2)))

theorem dv_head (h : Fin 4) (R : Fin 1024 → Fin 8192) (a : FVec Ideal S1x256x256 .f32) (x : S1x256x256.Idx) (c : Fin 1024)
    (j : Fin 256) (hj : j.val = (x 1).val) (hc : c.val = h.val * 256 + (x 2).val)
    (hq : ∀ r d, q (ix2 r d) = Q (R r) (col h d)) (hk : ∀ r j d, k (ix3 0 j d) = KV 0 (mrow (seqOf (R r)) j) (col h d))
    (ho : ∀ r d, o (ix2 r d) = O (R r) (col h d)) :
    k0_pay2 (F := Ideal) (k0_pay4 q k) a o x
      = a x + ∑ r : Fin 1024, prob (sc Q KV (R r) (headOf c)) j * O (R r) c := by
  have hx : (x 2).val < 256 := (x 2).isLt
  have hh : headOf c = h := Fin.ext (by show c.val / 256 = h.val; omega)
  have hcol : c = col h (x 2) := Fin.ext hc
  have hj' : j = x 1 := Fin.ext hj
  rw [dv_tile, hh, hcol, hj']
  exact congrArg (a x + ·) (Finset.sum_congr rfl fun r _ => by
    rw [tsc_eq h (R r) r (hq r) (hk r)]; exact congrArg _ (ho r (x 2)))

end

theorem zero_tile (x : S2x256x1024.Idx) : k0_pay3 (F := Ideal) x = 0 := by pointwise [k0_pay3]

end Cert.Kernel2Ideal.Attn

end
-- ==== Proof.AttnValue.lean ====
/-
  The attention gradient's kernel: the two arrays it leaves. A point's stores are one head's tile each; the gradients of
  keys and values are added up over the four tiles of a sequence's rows. No precondition: the sums are the kernel's own.
-/
module

public import proofs.«01_k».proof.Proof.Gen.Kernel2Ideal.Frame
public import Idealize.ShloMosaic.Lib.Pipeline.ValueKit
public import Idealize.ShloMosaic.Lib.Pipeline.ReadBack
public import proofs.«01_k».proof.Proof.AttnTile

@[expose] public section
set_option maxRecDepth 16384
noncomputable section
namespace Cert.Kernel2Ideal.Attn
open Cert.Kernel2Ideal Cert.Kernel2Ideal.Gen Idealize.ShloMosaic Idealize.ShloMosaic.TcCoe Idealize.SL.Sem
open Idealize.ShloMosaic.Pipeline (Dat)
open Cert.Reals Cert.AttnSpec

variable (m : (ℓ : Loc nD τ sig) → Buf (Elt Ideal) ℓ)

theorem idx : ∀ t : Fin cfg0.N,
    win0_0.index t = ![t.val, 0] ∧ win0_1.index t = ![0, t.val / 4, 0] ∧ win0_2.index t = ![t.val, 0]
      ∧ win0_3.index t = ![t.val, 0] ∧ win0_4.index t = ![0, t.val / 4, 0] :=
  (by decide +kernel : ∀ t : Fin grid0.N, _)

/-- The queries, at a row and a column. -/
abbrev Qa (c : Dev nD) (R : Fin 8192) (l : Fin 1024) : EReal := (show FVec Ideal S8192x1024 .bf16 from m ((c : Thread nD τ).loc main_arg0)) (ix2 R l)
/-- The keys and the values. -/
abbrev KVa (c : Dev nD) (s : Fin 2) (J : Fin 512) (l : Fin 1024) : EReal := (show FVec Ideal S2x512x1024 .bf16 from m ((c : Thread nD τ).loc main_arg1)) (ix3 s J l)
/-- The gradient that arrives. -/
abbrev Oa (c : Dev nD) (R : Fin 8192) (l : Fin 1024) : EReal := (show FVec Ideal S8192x1024 .bf16 from m ((c : Thread nD τ).loc main_arg2)) (ix2 R l)

/-- Row `r` of the tile of point `t`. -/
def at_ (t : Fin cfg0.N) (r : Fin 1024) : Fin 8192 := ⟨t.val * 1024 + r.val, by have := lt_of_lt_of_eq t.isLt N_0; omega⟩

theorem blk0 (c : Dev nD) (t : Fin cfg0.N) (r : Fin 1024) (l : Fin 1024) :
    (show FVec Ideal S1024x1024 .bf16 from iblk m c 0 t) (ix2 r l) = Qa m c (at_ t r) l := by
  blk_ext [iblk, V, idx t, Qa, at_]

theorem blk2 (c : Dev nD) (t : Fin cfg0.N) (r : Fin 1024) (l : Fin 1024) :
    (show FVec Ideal S1024x1024 .bf16 from iblk m c 2 t) (ix2 r l) = Oa m c (at_ t r) l := by
  blk_ext [iblk, V, idx t, Oa, at_]

theorem blk1 (c : Dev nD) (t : Fin cfg0.N) (r : Fin 1024) (s : Fin 2) (j : Fin 256) (l : Fin 1024) :
    (show FVec Ideal S2x256x1024 .bf16 from iblk m c 1 t) (ix3 s j l) = KVa m c s (mrow (seqOf (at_ t r)) j) l := by
  have : (t.val * 1024 + r.val) / 4096 = t.val / 4 := by omega
  blk_ext [iblk, V, idx t, KVa, at_, mrow, seqOf, this]

/-- Where the later stores cover, the earlier ones do not matter. -/
theorem canon_drop {S : Shape} {e : EltTy} : ∀ (L L' : List (View.Piece (Elt Ideal) S e)) (y : S.Idx)
    (_ : ∃ p ∈ L, y ∈ p.1.set), View.canon (L ++ L') y = View.canon L y
  | [], _, _, hc => by obtain ⟨p, hp, _⟩ := hc; simp at hp
  | p :: L, L', y, hc => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_drop L L' y ?_
      obtain ⟨q, hq, hyq⟩ := hc
      rcases List.mem_cons.mp hq with rfl | hq'
      · exact absurd hyq hm
      · exact ⟨q, hq', hyq⟩

/-- Of stores over an earlier fill only the later eight matter where they cover. -/
theorem canon_eight {S : Shape} {e : EltTy} (p1 p2 p3 p4 p5 p6 p7 p8 p9 : View.Piece (Elt Ideal) S e) (y : S.Idx)
    (hc : ∃ p ∈ [p1, p2, p3, p4, p5, p6, p7, p8], y ∈ p.1.set) :
    View.canon [p1, p2, p3, p4, p5, p6, p7, p8, p9] y = View.canon [p1, p2, p3, p4, p5, p6, p7, p8] y :=
  canon_drop [p1, p2, p3, p4, p5, p6, p7, p8] [p9] y hc

theorem pointq (c : Dev nD) (t : Fin cfg0.N) (y : S1024x1024.Idx) :
    (outsAt0 m c t.val t.isLt).1 y = gradQ (Qa m c) (KVa m c) (Oa m c) (at_ t (y 0)) (y 1) := by
  by_cases hA : t.val % 4 = 0
  · rw [outsAt0_A m c t hA]
    frame_out
    canon_tiles x h
    all_goals try simp only [prob1, prob2, prob3, ds1, ds2, ds3, dq1, dq2, dq3, dk1, dk2, dk3, dv0, dv1, dv2]
    · refine dq_head 3 (at_ t (y 0)) x (y 1) (by simp only [h1]; first | rfl | simp) (fun d => ?_) (fun j d => ?_) (fun d => ?_) (fun j d => ?_)
      · pointwise; exact (blk0 m c t (x 0) _).trans (congrArg₂ _ (congrArg _ (Fin.ext h0.symm)) (Fin.ext (by simp [col])))
      · pointwise; exact (blk1 m c t (y 0) _ _ _).trans (congrArg _ (Fin.ext (by simp [col])))
      · pointwise; exact (blk2 m c t (x 0) _).trans (congrArg₂ _ (congrArg _ (Fin.ext h0.symm)) (Fin.ext (by simp [col])))
      · pointwise; exact (blk1 m c t (y 0) _ _ _).trans (congrArg _ (Fin.ext (by simp [col])))
    · refine dq_head 2 (at_ t (y 0)) x (y 1) (by simp only [h1]; first | rfl | simp) (fun d => ?_) (fun j d => ?_) (fun d => ?_) (fun j d => ?_)
      · pointwise; exact (blk0 m c t (x 0) _).trans (congrArg₂ _ (congrArg _ (Fin.ext h0.symm)) (Fin.ext (by simp [col])))
      · pointwise; exact (blk1 m c t (y 0) _ _ _).trans (congrArg _ (Fin.ext (by simp [col])))
      · pointwise; exact (blk2 m c t (x 0) _).trans (congrArg₂ _ (congrArg _ (Fin.ext h0.symm)) (Fin.ext (by simp [col])))
      · pointwise; exact (blk1 m c t (y 0) _ _ _).trans (congrArg _ (Fin.ext (by simp [col])))
    · refine dq_head 1 (at_ t (y 0)) x (y 1) (by simp only [h1]; first | rfl | simp) (fun d => ?_) (fun j d => ?_) (fun d => ?_) (fun j d => ?_)
      · pointwise; exact (blk0 m c t (x 0) _).trans (congrArg₂ _ (congrArg _ (Fin.ext h0.symm)) (Fin.ext (by simp [col])))
      · pointwise; exact (blk1 m c t (y 0) _ _ _).trans (congrArg _ (Fin.ext (by simp [col])))
      · pointwise; exact (blk2 m c t (x 0) _).trans (congrArg₂ _ (congrArg _ (Fin.ext h0.symm)) (Fin.ext (by simp [col])))
      · pointwise; exact (blk1 m c t (y 0) _ _ _).trans (congrArg _ (Fin.ext (by simp [col])))
    · refine dq_head 0 (at_ t (y 0)) x (y 1) (by simp only [h1]; first | rfl | simp) (fun d => ?_) (fun j d => ?_) (fun d => ?_) (fun j d => ?_)
      · pointwise; exact (blk0 m c t (x 0) _).trans (congrArg₂ _ (congrArg _ (Fin.ext h0.symm)) (Fin.ext (by simp [col])))
      · pointwise; exact (blk1 m c t (y 0) _ _ _).trans (congrArg _ (Fin.ext (by simp [col])))
      · pointwise; exact (blk2 m c t (x 0) _).trans (congrArg₂ _ (congrArg _ (Fin.ext h0.symm)) (Fin.ext (by simp [col])))
      · pointwise; exact (blk1 m c t (y 0) _ _ _).trans (congrArg _ (Fin.ext (by simp [col])))
  · rw [outsAt0_B m c t hA]
    frame_out
    canon_tiles x h
    all_goals try simp only [prob1, prob2, prob3, ds1, ds2, ds3, dq1, dq2, dq3, dk1, dk2, dk3, dv0, dv1, dv2]
    · refine dq_head 3 (at_ t (y 0)) x (y 1) (by simp only [h1]; first | rfl | simp) (fun d => ?_) (fun j d => ?_) (fun d => ?_) (fun j d => ?_)
      · pointwise; exact (blk0 m c t (x 0) _).trans (congrArg₂ _ (congrArg _ (Fin.ext h0.symm)) (Fin.ext (by simp [col])))
      · pointwise; exact (blk1 m c t (y 0) _ _ _).trans (congrArg _ (Fin.ext (by simp [col])))
      · pointwise; exact (blk2 m c t (x 0) _).trans (congrArg₂ _ (congrArg _ (Fin.ext h0.symm)) (Fin.ext (by simp [col])))
      · pointwise; exact (blk1 m c t (y 0) _ _ _).trans (congrArg _ (Fin.ext (by simp [col])))
    · refine dq_head 2 (at_ t (y 0)) x (y 1) (by simp only [h1]; first | rfl | simp) (fun d => ?_) (fun j d => ?_) (fun d => ?_) (fun j d => ?_)
      · pointwise; exact (blk0 m c t (x 0) _).trans (congrArg₂ _ (congrArg _ (Fin.ext h0.symm)) (Fin.ext (by simp [col])))
      · pointwise; exact (blk1 m c t (y 0) _ _ _).trans (congrArg _ (Fin.ext (by simp [col])))
      · pointwise; exact (blk2 m c t (x 0) _).trans (congrArg₂ _ (congrArg _ (Fin.ext h0.symm)) (Fin.ext (by simp [col])))
      · pointwise; exact (blk1 m c t (y 0) _ _ _).trans (congrArg _ (Fin.ext (by simp [col])))
    · refine dq_head 1 (at_ t (y 0)) x (y 1) (by simp only [h1]; first | rfl | simp) (fun d => ?_) (fun j d => ?_) (fun d => ?_) (fun j d => ?_)
      · pointwise; exact (blk0 m c t (x 0) _).trans (congrArg₂ _ (congrArg _ (Fin.ext h0.symm)) (Fin.ext (by simp [col])))
      · pointwise; exact (blk1 m c t (y 0) _ _ _).trans (congrArg _ (Fin.ext (by simp [col])))
      · pointwise; exact (blk2 m c t (x 0) _).trans (congrArg₂ _ (congrArg _ (Fin.ext h0.symm)) (Fin.ext (by simp [col])))
      · pointwise; exact (blk1 m c t (y 0) _ _ _).trans (congrArg _ (Fin.ext (by simp [col])))
    · refine dq_head 0 (at_ t (y 0)) x (y 1) (by simp only [h1]; first | rfl | simp) (fun d => ?_) (fun j d => ?_) (fun d => ?_) (fun j d => ?_)
      · pointwise; exact (blk0 m c t (x 0) _).trans (congrArg₂ _ (congrArg _ (Fin.ext h0.symm)) (Fin.ext (by simp [col])))
      · pointwise; exact (blk1 m c t (y 0) _ _ _).trans (congrArg _ (Fin.ext (by simp [col])))
      · pointwise; exact (blk2 m c t (x 0) _).trans (congrArg₂ _ (congrArg _ (Fin.ext h0.symm)) (Fin.ext (by simp [col])))
      · pointwise; exact (blk1 m c t (y 0) _ _ _).trans (congrArg _ (Fin.ext (by simp [col])))

/-- What point `t` adds to the gradient of the keys (slot 0) and of the values (slot 1). -/
def part (c : Dev nD) (t : Fin cfg0.N) (y : S2x256x1024.Idx) : EReal :=
  if (y 0).val = 0 then
    ∑ r : Fin 1024, dscore (sc (Qa m c) (KVa m c) (at_ t r) (headOf (y 2))) (dp (KVa m c) (Oa m c) (at_ t r) (headOf (y 2))) (y 1) * Qa m c (at_ t r) (y 2)
  else ∑ r : Fin 1024, prob (sc (Qa m c) (KVa m c) (at_ t r) (headOf (y 2))) (y 1) * Oa m c (at_ t r) (y 2)

theorem stepA (c : Dev nD) (t : Fin cfg0.N) (hA : t.val % 4 = 0) (y : S2x256x1024.Idx) :
    (outsAt0 m c t.val t.isLt).2 y = (0 : EReal) + part m c t y := by
  rw [outsAt0_A m c t hA]
  frame_open
  simp (disch := decide) only [↓ View.readCov_skip, ↓ View.readCov_cons_toLoadRect, ↓ View.readCov_fill]
  frame_out
  rw [canon_eight _ _ _ _ _ _ _ _ _ _ (View.cover_of_tiled_head _ _ _ rfl _)]
  canon_tiles x h
  all_goals try simp only [prob1, prob2, prob3, ds1, ds2, ds3, dq1, dq2, dq3, dk1, dk2, dk3, dv0, dv1, dv2]
  · refine (dv_head (Q := Qa m c) (KV := KVa m c) (O := Oa m c) 3 (at_ t) _ x (y 2) (y 1) h1 (by simp only [h2]; first | rfl | simp) ?_ ?_ ?_).trans ?_
    · intro r d; pointwise; exact (blk0 m c t r _).trans (congrArg _ (Fin.ext (by simp [col])))
    · intro r j d; pointwise; exact (blk1 m c t r _ _ _).trans (congrArg _ (Fin.ext (by simp [col])))
    · intro r d; pointwise; exact (blk2 m c t r _).trans (congrArg _ (Fin.ext (by simp [col])))
    · unfold part; rw [if_neg (by omega)]; refine congrArg (· + _) ?_; pointwise; exact zero_tile _
  · refine (dk_head (Q := Qa m c) (KV := KVa m c) (O := Oa m c) 3 (at_ t) _ x (y 2) (y 1) h1 (by simp only [h2]; first | rfl | simp) ?_ ?_ ?_ ?_).trans ?_
    · intro r d; pointwise; exact (blk0 m c t r _).trans (congrArg _ (Fin.ext (by simp [col])))
    · intro r j d; pointwise; exact (blk1 m c t r _ _ _).trans (congrArg _ (Fin.ext (by simp [col])))
    · intro r d; pointwise; exact (blk2 m c t r _).trans (congrArg _ (Fin.ext (by simp [col])))
    · intro r j d; pointwise; exact (blk1 m c t r _ _ _).trans (congrArg _ (Fin.ext (by simp [col])))
    · unfold part; rw [if_pos (by omega)]; refine congrArg (· + _) ?_; pointwise; exact zero_tile _
  · refine (dv_head (Q := Qa m c) (KV := KVa m c) (O := Oa m c) 2 (at_ t) _ x (y 2) (y 1) h1 (by simp only [h2]; first | rfl | simp) ?_ ?_ ?_).trans ?_
    · intro r d; pointwise; exact (blk0 m c t r _).trans (congrArg _ (Fin.ext (by simp [col])))
    · intro r j d; pointwise; exact (blk1 m c t r _ _ _).trans (congrArg _ (Fin.ext (by simp [col])))
    · intro r d; pointwise; exact (blk2 m c t r _).trans (congrArg _ (Fin.ext (by simp [col])))
    · unfold part; rw [if_neg (by omega)]; refine congrArg (· + _) ?_; pointwise; exact zero_tile _
  · refine (dk_head (Q := Qa m c) (KV := KVa m c) (O := Oa m c) 2 (at_ t) _ x (y 2) (y 1) h1 (by simp only [h2]; first | rfl | simp) ?_ ?_ ?_ ?_).trans ?_
    · intro r d; pointwise; exact (blk0 m c t r _).trans (congrArg _ (Fin.ext (by simp [col])))
    · intro r j d; pointwise; exact (blk1 m c t r _ _ _).trans (congrArg _ (Fin.ext (by simp [col])))
    · intro r d; pointwise; exact (blk2 m c t r _).trans (congrArg _ (Fin.ext (by simp [col])))
    · intro r j d; pointwise; exact (blk1 m c t r _ _ _).trans (congrArg _ (Fin.ext (by simp [col])))
    · unfold part; rw [if_pos (by omega)]; refine congrArg (· + _) ?_; pointwise; exact zero_tile _
  · refine (dv_head (Q := Qa m c) (KV := KVa m c) (O := Oa m c) 1 (at_ t) _ x (y 2) (y 1) h1 (by simp only [h2]; first | rfl | simp) ?_ ?_ ?_).trans ?_
    · intro r d; pointwise; exact (blk0 m c t r _).trans (congrArg _ (Fin.ext (by simp [col])))
    · intro r j d; pointwise; exact (blk1 m c t r _ _ _).trans (congrArg _ (Fin.ext (by simp [col])))
    · intro r d; pointwise; exact (blk2 m c t r _).trans (congrArg _ (Fin.ext (by simp [col])))
    · unfold part; rw [if_neg (by omega)]; refine congrArg (· + _) ?_; pointwise; exact zero_tile _
  · refine (dk_head (Q := Qa m c) (KV := KVa m c) (O := Oa m c) 1 (at_ t) _ x (y 2) (y 1) h1 (by simp only [h2]; first | rfl | simp) ?_ ?_ ?_ ?_).trans ?_
    · intro r d; pointwise; exact (blk0 m c t r _).trans (congrArg _ (Fin.ext (by simp [col])))
    · intro r j d; pointwise; exact (blk1 m c t r _ _ _).trans (congrArg _ (Fin.ext (by simp [col])))
    · intro r d; pointwise; exact (blk2 m c t r _).trans (congrArg _ (Fin.ext (by simp [col])))
    · intro r j d; pointwise; exact (blk1 m c t r _ _ _).trans (congrArg _ (Fin.ext (by simp [col])))
    · unfold part; rw [if_pos (by omega)]; refine congrArg (· + _) ?_; pointwise; exact zero_tile _
  · refine (dv_head (Q := Qa m c) (KV := KVa m c) (O := Oa m c) 0 (at_ t) _ x (y 2) (y 1) h1 (by simp only [h2]; first | rfl | simp) ?_ ?_ ?_).trans ?_
    · intro r d; pointwise; exact (blk0 m c t r _).trans (congrArg _ (Fin.ext (by simp [col])))
    · intro r j d; pointwise; exact (blk1 m c t r _ _ _).trans (congrArg _ (Fin.ext (by simp [col])))
    · intro r d; pointwise; exact (blk2 m c t r _).trans (congrArg _ (Fin.ext (by simp [col])))
    · unfold part; rw [if_neg (by omega)]; refine congrArg (· + _) ?_; pointwise; exact zero_tile _
  · refine (dk_head (Q := Qa m c) (KV := KVa m c) (O := Oa m c) 0 (at_ t) _ x (y 2) (y 1) h1 (by simp only [h2]; first | rfl | simp) ?_ ?_ ?_ ?_).trans ?_
    · intro r d; pointwise; exact (blk0 m c t r _).trans (congrArg _ (Fin.ext (by simp [col])))
    · intro r j d; pointwise; exact (blk1 m c t r _ _ _).trans (congrArg _ (Fin.ext (by simp [col])))
    · intro r d; pointwise; exact (blk2 m c t r _).trans (congrArg _ (Fin.ext (by simp [col])))
    · intro r j d; pointwise; exact (blk1 m c t r _ _ _).trans (congrArg _ (Fin.ext (by simp [col])))
    · unfold part; rw [if_pos (by omega)]; refine congrArg (· + _) ?_; pointwise; exact zero_tile _

theorem stepB (c : Dev nD) (t : Fin cfg0.N) (hA : ¬ t.val % 4 = 0) (y : S2x256x1024.Idx) :
    (outsAt0 m c t.val t.isLt).2 y = (show FVec Ideal S2x256x1024 .f32 from (outsAt0 m c (t.val - 1) (Nat.lt_of_le_of_lt (Nat.sub_le _ _) t.isLt)).2) y + part m c t y := by
  rw [outsAt0_B m c t hA]
  frame_out
  canon_tiles x h
  all_goals try simp only [prob1, prob2, prob3, ds1, ds2, ds3, dq1, dq2, dq3, dk1, dk2, dk3, dv0, dv1, dv2]
  · refine (dv_head (Q := Qa m c) (KV := KVa m c) (O := Oa m c) 3 (at_ t) _ x (y 2) (y 1) h1 (by simp only [h2]; first | rfl | simp) ?_ ?_ ?_).trans ?_
    · intro r d; pointwise; exact (blk0 m c t r _).trans (congrArg _ (Fin.ext (by simp [col])))
    · intro r j d; pointwise; exact (blk1 m c t r _ _ _).trans (congrArg _ (Fin.ext (by simp [col])))
    · intro r d; pointwise; exact (blk2 m c t r _).trans (congrArg _ (Fin.ext (by simp [col])))
    · unfold part; rw [if_neg (by omega)]; refine congrArg (· + _) ?_; pointwise; blk_ext
  · refine (dk_head (Q := Qa m c) (KV := KVa m c) (O := Oa m c) 3 (at_ t) _ x (y 2) (y 1) h1 (by simp only [h2]; first | rfl | simp) ?_ ?_ ?_ ?_).trans ?_
    · intro r d; pointwise; exact (blk0 m c t r _).trans (congrArg _ (Fin.ext (by simp [col])))
    · intro r j d; pointwise; exact (blk1 m c t r _ _ _).trans (congrArg _ (Fin.ext (by simp [col])))
    · intro r d; pointwise; exact (blk2 m c t r _).trans (congrArg _ (Fin.ext (by simp [col])))
    · intro r j d; pointwise; exact (blk1 m c t r _ _ _).trans (congrArg _ (Fin.ext (by simp [col])))
    · unfold part; rw [if_pos (by omega)]; refine congrArg (· + _) ?_; pointwise; blk_ext
  · refine (dv_head (Q := Qa m c) (KV := KVa m c) (O := Oa m c) 2 (at_ t) _ x (y 2) (y 1) h1 (by simp only [h2]; first | rfl | simp) ?_ ?_ ?_).trans ?_
    · intro r d; pointwise; exact (blk0 m c t r _).trans (congrArg _ (Fin.ext (by simp [col])))
    · intro r j d; pointwise; exact (blk1 m c t r _ _ _).trans (congrArg _ (Fin.ext (by simp [col])))
    · intro r d; pointwise; exact (blk2 m c t r _).trans (congrArg _ (Fin.ext (by simp [col])))
    · unfold part; rw [if_neg (by omega)]; refine congrArg (· + _) ?_; pointwise; blk_ext
  · refine (dk_head (Q := Qa m c) (KV := KVa m c) (O := Oa m c) 2 (at_ t) _ x (y 2) (y 1) h1 (by simp only [h2]; first | rfl | simp) ?_ ?_ ?_ ?_).trans ?_
    · intro r d; pointwise; exact (blk0 m c t r _).trans (congrArg _ (Fin.ext (by simp [col])))
    · intro r j d; pointwise; exact (blk1 m c t r _ _ _).trans (congrArg _ (Fin.ext (by simp [col])))
    · intro r d; pointwise; exact (blk2 m c t r _).trans (congrArg _ (Fin.ext (by simp [col])))
    · intro r j d; pointwise; exact (blk1 m c t r _ _ _).trans (congrArg _ (Fin.ext (by simp [col])))
    · unfold part; rw [if_pos (by omega)]; refine congrArg (· + _) ?_; pointwise; blk_ext
  · refine (dv_head (Q := Qa m c) (KV := KVa m c) (O := Oa m c) 1 (at_ t) _ x (y 2) (y 1) h1 (by simp only [h2]; first | rfl | simp) ?_ ?_ ?_).trans ?_
    · intro r d; pointwise; exact (blk0 m c t r _).trans (congrArg _ (Fin.ext (by simp [col])))
    · intro r j d; pointwise; exact (blk1 m c t r _ _ _).trans (congrArg _ (Fin.ext (by simp [col])))
    · intro r d; pointwise; exact (blk2 m c t r _).trans (congrArg _ (Fin.ext (by simp [col])))
    · unfold part; rw [if_neg (by omega)]; refine congrArg (· + _) ?_; pointwise; blk_ext
  · refine (dk_head (Q := Qa m c) (KV := KVa m c) (O := Oa m c) 1 (at_ t) _ x (y 2) (y 1) h1 (by simp only [h2]; first | rfl | simp) ?_ ?_ ?_ ?_).trans ?_
    · intro r d; pointwise; exact (blk0 m c t r _).trans (congrArg _ (Fin.ext (by simp [col])))
    · intro r j d; pointwise; exact (blk1 m c t r _ _ _).trans (congrArg _ (Fin.ext (by simp [col])))
    · intro r d; pointwise; exact (blk2 m c t r _).trans (congrArg _ (Fin.ext (by simp [col])))
    · intro r j d; pointwise; exact (blk1 m c t r _ _ _).trans (congrArg _ (Fin.ext (by simp [col])))
    · unfold part; rw [if_pos (by omega)]; refine congrArg (· + _) ?_; pointwise; blk_ext
  · refine (dv_head (Q := Qa m c) (KV := KVa m c) (O := Oa m c) 0 (at_ t) _ x (y 2) (y 1) h1 (by simp only [h2]; first | rfl | simp) ?_ ?_ ?_).trans ?_
    · intro r d; pointwise; exact (blk0 m c t r _).trans (congrArg _ (Fin.ext (by simp [col])))
    · intro r j d; pointwise; exact (blk1 m c t r _ _ _).trans (congrArg _ (Fin.ext (by simp [col])))
    · intro r d; pointwise; exact (blk2 m c t r _).trans (congrArg _ (Fin.ext (by simp [col])))
    · unfold part; rw [if_neg (by omega)]; refine congrArg (· + _) ?_; pointwise; blk_ext
  · refine (dk_head (Q := Qa m c) (KV := KVa m c) (O := Oa m c) 0 (at_ t) _ x (y 2) (y 1) h1 (by simp only [h2]; first | rfl | simp) ?_ ?_ ?_ ?_).trans ?_
    · intro r d; pointwise; exact (blk0 m c t r _).trans (congrArg _ (Fin.ext (by simp [col])))
    · intro r j d; pointwise; exact (blk1 m c t r _ _ _).trans (congrArg _ (Fin.ext (by simp [col])))
    · intro r d; pointwise; exact (blk2 m c t r _).trans (congrArg _ (Fin.ext (by simp [col])))
    · intro r j d; pointwise; exact (blk1 m c t r _ _ _).trans (congrArg _ (Fin.ext (by simp [col])))
    · unfold part; rw [if_pos (by omega)]; refine congrArg (· + _) ?_; pointwise; blk_ext

theorem finalq (c : Dev nD) : (dats m 0 c).arrAt 3 (cfgs 0).N
    = fun i : S8192x1024.Idx => gradQ (Qa m c) (KVa m c) (Oa m c) (i 0) (i 1) := by
  refine (dats m 0 c).arrAt_eq_of_covers 3 _ (by decide +kernel) fun t _ y => ?_
  blk_simp
  rw [after0_3]
  refine (pointq m c t y).trans ?_
  refine congrArg₂ _ (Fin.ext ?_) (Fin.ext ?_) <;> blk_simp [idx t, at_]

/-- The four tiles of a sequence, added. -/
theorem part_sum (c : Dev nD) (b : Fin 2) (P : Fin 4 → Fin cfg0.N) (hP : ∀ s, (P s).val = 4 * b.val + s.val) (y : S2x256x1024.Idx) (s₀ : Fin 2) (J : Fin 512)
    (l : Fin 1024) (h0 : s₀.val = (y 0).val) (h1 : J.val = b.val * 256 + (y 1).val) (h2 : l.val = (y 2).val) :
    ∑ s : Fin 4, part m c (P s) y = gradKV (Qa m c) (KVa m c) (Oa m c) s₀ J l := by
  have hy1 : (y 1).val < 256 := (y 1).isLt
  have eb : (⟨J.val / 256, by omega⟩ : Fin 2) = b := Fin.ext (by show J.val / 256 = b.val; omega)
  have ej : (⟨J.val % 256, by omega⟩ : Fin 256) = y 1 := Fin.ext (by show J.val % 256 = (y 1).val; omega)
  have el : l = y 2 := Fin.ext h2
  have er : ∀ (s : Fin 4) (r : Fin 1024) (hl : s.val * 1024 + r.val < 4096), at_ (P s) r = pos b ⟨s.val * 1024 + r.val, hl⟩ := fun s r hl =>
    Fin.ext (by show (P s).val * 1024 + r.val = b.val * 4096 + (s.val * 1024 + r.val); rw [hP s]; omega)
  unfold gradKV part
  rw [eb, ej, el, h0]
  split
  · unfold gradK
    refine Fin.sum_mul_add_congr fun s r hl => ?_
    rw [er s r hl]
  · unfold gradV
    refine Fin.sum_mul_add_congr fun s r hl => ?_
    rw [er s r hl]

theorem finalkv (c : Dev nD) : (dats m 0 c).arrAt 4 (cfgs 0).N
    = fun i : S2x512x1024.Idx => gradKV (Qa m c) (KVa m c) (Oa m c) (i 0) (i 1) (i 2) := by
  refine (dats m 0 c).arrAt_eq_of_covers 4 _ (by decide +kernel) fun t hf y => ?_
  blk_simp
  rw [after0_4, Pipeline.eq_sum_fin_of_reset_step_apply_of_flush (fun n h => (outsAt0 m c n h).2) 4 (fun _ => (0 : EReal)) (part m c)
    (fun t h j => stepA m c t h j) (fun t h j => stepB m c t h j) t ((flush0_4 t).mp hf) _, zero_add]
  have hN := lt_of_lt_of_eq t.isLt N_0
  refine part_sum m c ⟨t.val / 4, by omega⟩ _ (fun s => rfl) y _ _ _ ?_ ?_ ?_ <;> blk_simp [idx t]

end Cert.Kernel2Ideal.Attn

end
-- ==== Proof.AttnRef.lean ====
/-
  The attention gradient's reference, read at an index: scores, probabilities and score gradients of a row, then the
  gradients of queries, keys and values. On finite inputs they are `AttnSpec`'s sums.
-/
module

public import proofs.«01_k».proof.Proof.Gen.Reference2Ideal.Read
public import Idealize.ShloMosaic.Lib.Pointwise
public import Idealize.ShloMosaic.Lib.Pipeline.ValueKit
public import proofs.«01_k».proof.Proof.AttnSpec

@[expose] public section
set_option maxRecDepth 16384
noncomputable section
namespace Cert.Reference2Ideal.Attn
open Cert.Reference2Ideal Cert.Reference2Ideal.Gen Cert.Reference2Ideal.Read Idealize.ShloMosaic Idealize.ShloMosaic.TcCoe Idealize.SL.Sem
open Cert.Reals Cert.AttnSpec

variable (x0 x2 : FVec Ideal S8192x1024 .bf16) (x1 : FVec Ideal S2x512x1024 .bf16)

abbrev Qr (R : Fin 8192) (l : Fin 1024) : EReal := x0 (ix2 R l)
abbrev KVr (s : Fin 2) (J : Fin 512) (l : Fin 1024) : EReal := x1 (ix3 s J l)

theorem div16 (x : EReal) : Ideal.div x (Ideal.ofBits .f32 0x41800000#32) = x * ((1 / 16 : ℝ) : EReal) := by
  rw [bits_sixteen, Ideal.div_coe (by norm_num : (16 : ℝ) ≠ 0)]
  try norm_num

/-- Scores divided by sixteen. -/
theorem scores (b : Fin 2) (h : Fin 4) (t : Fin 4096) (j : Fin 256) :
    val_main_v11 (F := Ideal) x0 x1 (ix4 b h t j) = sc (Qr x0) (KVr x1) (pos b t) h j := by
  pointwise [val_main_v11, val_main_v10, val_main_v9, val_main_v2, val_main_v0, val_main_v5, val_main_v4, val_main_v3, val_main_v1, val_main_cst]
  rw [div16]
  have e : seqOf (pos b t) = b := Fin.ext (by show (b.val * 4096 + t.val) / 4096 = b.val; omega)
  unfold sc score
  rw [e]; rfl

theorem dps (b : Fin 2) (h : Fin 4) (t : Fin 4096) (j : Fin 256) :
    val_main_v46 (F := Ideal) x1 x2 (ix4 b h t j) = dp (KVr x1) (Qr x2) (pos b t) h j := by
  pointwise [val_main_v46, val_main_v45, val_main_v44, val_main_v43, val_main_v8, val_main_v7, val_main_v6, val_main_v1]
  have e : seqOf (pos b t) = b := Fin.ext (by show (b.val * 4096 + t.val) / 4096 = b.val; omega)
  unfold dp prods
  rw [e]; rfl

theorem maxs (b : Fin 2) (h : Fin 4) (t : Fin 4096) :
    val_main_v12 (F := Ideal) x0 x1 (ix3 b h t) = Finset.univ.fold max ⊥ (sc (Qr x0) (KVr x1) (pos b t) h) := by
  unfold val_main_v12
  pointwise
  rw [show val_main_cst_0 (F := Ideal) (Shape.Idx.first h_S_) = ⊥ from bits_neg_inf]
  exact congrArg (Finset.fold max ⊥ · Finset.univ) (funext fun j => scores x0 x1 b h t j)

theorem m19 (b : Fin 2) (h : Fin 4) (t : Fin 4096) :
    val_main_v19 (F := Ideal) x0 x1 (ix3 b h t) = Finset.univ.fold max ⊥ (sc (Qr x0) (KVr x1) (pos b t) h) := by
  rw [val_main_v19_apply, maxs]
  pointwise [val_main_v18, val_main_cst_2]
  rw [bits_neg_inf, max_eq_right bot_le]

theorem v31 (b : Fin 2) (h : Fin 4) (t : Fin 4096) (j : Fin 256) :
    val_main_v31 (F := Ideal) x0 x1 (ix4 b h t j) = sc (Qr x0) (KVr x1) (pos b t) h j - Finset.univ.fold max ⊥ (sc (Qr x0) (KVr x1) (pos b t) h) := by
  have e : idx_main_v29 (idx_main_v30 (ix4 b h t j)) = ix3 b h t := by
    blk_ext
  rw [val_main_v31_apply, val_main_v30_apply, val_main_v29_apply, scores, e, m19]
  rfl

theorem exps (b : Fin 2) (h : Fin 4) (t : Fin 4096) (j : Fin 256) :
    val_main_v32 (F := Ideal) x0 x1 (ix4 b h t j) = ex (sc (Qr x0) (KVr x1) (pos b t) h) j := by
  rw [val_main_v32_apply, v31]; rfl

theorem ds (b : Fin 2) (h : Fin 4) (t : Fin 4096) (j : Fin 256) :
    val_main_v62 (F := Ideal) x0 x1 x2 (ix4 b h t j) = dscore' (sc (Qr x0) (KVr x1) (pos b t) h) (dp (KVr x1) (Qr x2) (pos b t) h) j := by
  pointwise [val_main_v62, val_main_v61, val_main_v60, val_main_v59, val_main_v58, val_main_v57, val_main_v56, val_main_v55, val_main_v54, val_main_v53, val_main_v52, val_main_v51, val_main_v50, val_main_v49, val_main_v39, val_main_v38, val_main_v37, val_main_v34, val_main_v33, val_main_cst_8, val_main_cst_9, val_main_cst_10,val_main_cst_11,val_main_cst_12, exps, dps]
  rw [bits_sixteen]
  simp only [Finset.univ_unique, Finset.sum_const, Finset.card_singleton, one_smul]
  rfl

theorem probs (b : Fin 2) (h : Fin 4) (t : Fin 4096) (j : Fin 256) :
    val_main_v36 (F := Ideal) x0 x1 (ix4 b h t j) = prob' (sc (Qr x0) (KVr x1) (pos b t) h) j := by
  pointwise [val_main_v36, val_main_v35, val_main_v34, val_main_v33, val_main_cst_8, exps]
  rfl

section
variable {x0 x2 x1}
variable (h0 : ∀ R l, Fin' (Qr x0 R l)) (h1 : ∀ s J l, Fin' (KVr x1 s J l)) (h2 : ∀ R l, Fin' (Qr x2 R l))
include h0 h1

theorem fin_sc (R : Fin 8192) (h : Fin 4) (j : Fin 256) : Fin' (sc (Qr x0) (KVr x1) R h j) :=
  fin_mul (fin_sum _ _ fun d => fin_mul (h0 _ _) (h1 _ _ _)) (fin_coe _)

include h2

theorem fin_dp (R : Fin 8192) (h : Fin 4) (j : Fin 256) : Fin' (dp (KVr x1) (Qr x2) R h j) :=
  by unfold dp prods; exact fin_sum _ _ fun d => fin_mul (h2 _ _) (h1 _ _ _)

theorem ds_at (b : Fin 2) (h : Fin 4) (t : Fin 4096) (j : Fin 256) :
    val_main_v62 (F := Ideal) x0 x1 x2 (ix4 b h t j) = dscore (sc (Qr x0) (KVr x1) (pos b t) h) (dp (KVr x1) (Qr x2) (pos b t) h) j := by
  rw [ds, dscore_eq (by norm_num) _ _ (fin_sc h0 h1 _ _) (fin_dp h0 h1 h2 _ _)]

omit h2 in
theorem prob_at (b : Fin 2) (h : Fin 4) (t : Fin 4096) (j : Fin 256) :
    val_main_v36 (F := Ideal) x0 x1 (ix4 b h t j) = prob (sc (Qr x0) (KVr x1) (pos b t) h) j := by
  rw [probs, prob_eq (by norm_num) _ (fin_sc h0 h1 _ _)]

/-- The reference's gradient of the queries. -/
theorem dq_eq (R : Fin 8192) (l : Fin 1024) :
    val_main_v75 (F := Ideal) x0 x1 x2 (ix2 R l) = gradQ (Qr x0) (KVr x1) (Qr x2) R l := by
  pointwise [val_main_v75, val_main_v74, val_main_v66, val_main_v65, val_main_v5, val_main_v4, val_main_v3, val_main_v1]
  have e : pos ⟨R.val / 4096, by omega⟩ ⟨R.val % 4096, by omega⟩ = R := Fin.ext (by show R.val / 4096 * 4096 + R.val % 4096 = R.val; omega)
  refine Finset.sum_congr rfl fun j _ => ?_
  rw [ds_at h0 h1 h2, e]; rfl

/-- The reference's gradient of keys and values. -/
theorem dkv_eq (s : Fin 2) (J : Fin 512) (l : Fin 1024) :
    val_main_v73 (F := Ideal) x0 x1 x2 (ix3 s J l) = gradKV (Qr x0) (KVr x1) (Qr x2) s J l := by
  pointwise [val_main_v73, val_main_v72, val_main_v71, val_main_v70, val_main_v69, val_main_v68, val_main_v67, val_main_v64, val_main_v63, val_main_v48, val_main_v47, val_main_v45, val_main_v44, val_main_v43, val_main_v2, val_main_v0, val_main_cst_13, val_main_cst_14]
  unfold gradKV
  by_cases hs : s.val = 0
  · rw [dif_neg (by omega), dif_pos (by omega), if_pos hs, zero_add]
    unfold gradK
    exact Finset.sum_congr rfl fun t _ => by rw [ds_at h0 h1 h2]; rfl
  · rw [dif_pos (by omega), dif_neg (by omega), if_neg hs, add_zero]
    unfold gradV
    exact Finset.sum_congr rfl fun t _ => by rw [prob_at h0 h1, mul_comm]; rfl

end

end Cert.Reference2Ideal.Attn

end
-- ==== Proof.AttnPair.lean ====
/-
  The attention gradient: on finite inputs the kernel's two arrays are the reference's.
-/
module

public import proofs.«01_k».proof.Defs
public import proofs.«01_k».proof.Proof.Gen.Kernel2Ideal.Frame
public import proofs.«01_k».proof.Proof.Gen.Pre_attn_finite
public import proofs.«01_k».proof.Proof.AttnValue
public import proofs.«01_k».proof.Proof.AttnRef
public import Idealize.ShloMosaic.Lib.Claim

@[expose] public section

set_option maxRecDepth 16384

noncomputable section

namespace Cert.AttnPair

open Idealize.ShloMosaic Idealize.ShloMosaic.TcCoe Idealize.SL.Sem Cert.Reals Cert.AttnSpec

section
variable (m : (ℓ : Loc Cert.Kernel2Ideal.nD Cert.Kernel2Ideal.τ Cert.Kernel2Ideal.sig) → Buf (Elt Ideal) ℓ)
variable (hpre : Cert.Pre_Kernel2Ideal_attn_finite m) (c : Dev Cert.Kernel2Ideal.nD)
include hpre

theorem finQ (R : Fin 8192) (l : Fin 1024) : Fin' (Cert.Kernel2Ideal.Attn.Qa m c R l) := by
  have h := congrFun (hpre c).1 (ix2 R l)
  pointwise [Cert.Pre_attn_finite.fn] at h
  exact fin_of_bit h

theorem finO (R : Fin 8192) (l : Fin 1024) : Fin' (Cert.Kernel2Ideal.Attn.Oa m c R l) := by
  have h := congrFun (hpre c).2.2 (ix2 R l)
  pointwise [Cert.Pre_attn_finite.fn] at h
  exact fin_of_bit h

theorem finKV (s : Fin 2) (J : Fin 512) (l : Fin 1024) : Fin' (Cert.Kernel2Ideal.Attn.KVa m c s J l) := by
  have h := congrFun (hpre c).2.1 (ix3 s J l)
  pointwise [Cert.Pre_attn_finite.fn] at h
  exact fin_of_bit h

end

theorem eta2 (i : Cert.Kernel2Ideal.S8192x1024.Idx) : i = ix2 (i 0) (i 1) := by blk_ext
theorem eta3 (i : Cert.Kernel2Ideal.S2x512x1024.Idx) : i = ix3 (i 0) (i 1) (i 2) := by blk_ext

theorem algebraic : Cert.algebraic_Kernel2Ideal_Reference2Ideal_pre_attn_finite := by
  pair_intro
  · run_from Cert.Kernel2Ideal.Gen.run_main m g
  · run_from Cert.Reference2Ideal.Value.run m' g'
    · rw [Cert.Reference2Ideal.Read.val_main_v75_eq, (hagree c).1, (hagree c).2.1, (hagree c).2.2, Cert.Kernel2Ideal.Attn.finalq]
      funext i
      rw [eta2 i]
      exact Cert.Reference2Ideal.Attn.dq_eq (finQ m hpre c) (finKV m hpre c) (finO m hpre c) (i 0) (i 1)
    · rw [Cert.Reference2Ideal.Read.val_main_v73_eq, (hagree c).1, (hagree c).2.1, (hagree c).2.2, Cert.Kernel2Ideal.Attn.finalkv]
      funext i
      rw [eta3 i]
      exact Cert.Reference2Ideal.Attn.dkv_eq (finQ m hpre c) (finKV m hpre c) (finO m hpre c) (i 0) (i 1) (i 2)

end Cert.AttnPair

end
-- ==== Proof.DownPair.lean ====
/-
  The gradient in front of the squared rectifier: the kernel's array is the reference's, at every input. The kernel
  multiplies by twice the root of the squared value it is given; the reference adds the two terms of the product rule
  and selects where the value is positive.
-/
module

public import proofs.«01_k».proof.Defs
public import proofs.«01_k».proof.Proof.Gen.Kernel3Ideal.Frame
public import proofs.«01_k».proof.Proof.Gen.Reference3Ideal.Read
public import Idealize.ShloMosaic.Lib.Pipeline.ValueKit
public import Idealize.ShloMosaic.Lib.Pointwise
public import Idealize.ShloMosaic.Lib.Claim
public import proofs.«01_k».proof.Proof.Reals

@[expose] public section
set_option maxRecDepth 16384
noncomputable section
namespace Cert.Kernel3Ideal.Down
open Cert.Kernel3Ideal Cert.Kernel3Ideal.Gen Idealize.ShloMosaic Idealize.ShloMosaic.TcCoe Idealize.SL.Sem Cert.Reals
open Idealize.ShloMosaic.Pipeline (Dat)
variable (m : (ℓ : Loc nD τ sig) → Buf (Elt Ideal) ℓ)
theorem idx : ∀ t : Fin cfg0.N,
    win0_0.index t = ![t.val, 0] ∧ win0_1.index t = ![0, 0] ∧ win0_2.index t = ![t.val, 0]
      ∧ win0_3.index t = ![t.val, 0] :=
  (by decide +kernel : ∀ t : Fin grid0.N, _)

/-- The normalised tokens. -/
abbrev Na (c : Dev nD) (R : Fin 8192) (l : Fin 1024) : EReal := (show FVec Ideal S8192x1024 .bf16 from m ((c : Thread nD τ).loc main_arg0)) (ix2 R l)
/-- The weights of the product up. -/
abbrev Ua (c : Dev nD) (l : Fin 1024) (f : Fin 4096) : EReal := (show FVec Ideal S1024x4096 .f32 from m ((c : Thread nD τ).loc main_arg1)) (ix2 l f)
/-- The weights of the product down. -/
abbrev Wa (c : Dev nD) (f : Fin 4096) (l : Fin 1024) : EReal := (show FVec Ideal S4096x1024 .f32 from m ((c : Thread nD τ).loc main_arg2)) (ix2 f l)
/-- The gradient that arrives. -/
abbrev Da (c : Dev nD) (R : Fin 8192) (l : Fin 1024) : EReal := (show FVec Ideal S8192x1024 .f32 from m ((c : Thread nD τ).loc main_arg3)) (ix2 R l)

/-- Row `r` of the tile of point `t`. -/
def at_ (t : Fin cfg0.N) (r : Fin 512) : Fin 8192 := ⟨t.val * 512 + r.val, by have := lt_of_lt_of_eq t.isLt N_0; omega⟩

theorem V3 (c : Dev nD) (R : Fin 8192) (l : Fin 1024) : (show FVec Ideal S8192x1024 .bf16 from V m c main_v3) (ix2 R l) = Da m c R l := by
  simp only [V, hostOps0, hostOps0_1, hostOps0_2, List.flatten_cons, List.flatten_nil, List.append_nil, List.cons_append, List.nil_append]
  entry_read
  pointwise
theorem V4 (c : Dev nD) (f : Fin 4096) (l : Fin 1024) : (show FVec Ideal S4096x1024 .bf16 from V m c main_v4) (ix2 f l) = Wa m c f l := by
  simp only [V, hostOps0, hostOps0_1, hostOps0_2, List.flatten_cons, List.flatten_nil, List.append_nil, List.cons_append, List.nil_append]
  entry_read
  pointwise
theorem V6 (c : Dev nD) (R : Fin 8192) (f : Fin 4096) : (show FVec Ideal S8192x4096 .bf16 from V m c main_v6) (ix2 R f)
  = max (∑ l, Na m c R l * Ua m c l f) 0 * max (∑ l, Na m c R l * Ua m c l f) 0 := by
  simp only [V, hostOps0, hostOps0_1, hostOps0_2, List.flatten_cons, List.flatten_nil, List.append_nil, List.cons_append, List.nil_append]
  entry_read
  simp only [StableHlo.TRef.toBuf, StableHlo.TRef.ofBuf, cast_eq, eq_mpr_eq_cast, eqRec_eq_cast]
  pointwise

theorem blk0 (c : Dev nD) (t : Fin cfg0.N) (r : Fin 512) (l : Fin 1024) : (show FVec Ideal S512x1024 .bf16 from iblk m c 0 t) (ix2 r l) = Da m c (at_ t r) l := by
  refine Eq.trans ?_ (V3 m c (at_ t r) l)
  blk_ext [iblk, idx t, at_]
theorem blk1 (c : Dev nD) (t : Fin cfg0.N) (f : Fin 4096) (l : Fin 1024) : (show FVec Ideal S4096x1024 .bf16 from iblk m c 1 t) (ix2 f l) = Wa m c f l := by
  refine Eq.trans ?_ (V4 m c f l)
  blk_ext [iblk, idx t, at_]
theorem blk2 (c : Dev nD) (t : Fin cfg0.N) (r : Fin 512) (f : Fin 4096) : (show FVec Ideal S512x4096 .bf16 from iblk m c 2 t) (ix2 r f)
    = max (∑ l, Na m c (at_ t r) l * Ua m c l f) 0 * max (∑ l, Na m c (at_ t r) l * Ua m c l f) 0 := by
  refine Eq.trans ?_ (V6 m c (at_ t r) f)
  blk_ext [iblk, idx t, at_]

theorem etaR (i : S8192x4096.Idx) : i = ix2 (i 0) (i 1) := by blk_ext
theorem etaT (y : S512x4096.Idx) : y = ix2 (y 0) (y 1) := by blk_ext

/-- What the body leaves in the tile of the result. -/
theorem tile (x0 : FVec Ideal S512x1024 .bf16) (x1 : FVec Ideal S4096x1024 .bf16) (x2 : FVec Ideal S512x4096 .bf16) (y : S512x4096.Idx) :
    out0_3 (F := Ideal) x0 x1 x2 y = (∑ l : Fin 1024, x0 (ix2 (y 0) l) * x1 (ix2 (y 1) l)) * (Ideal.ofBits FTy.f32 1073741824#32 * Ideal.sqrt (x2 y)) := by

  unfold_out out0_3
  canon_tiles x h
  all_goals
    pointwise [k0_pay1, k0_pay2, k0_pay3, k0_pay4, k0_pay5, k0_pay6, k0_pay7, k0_pay8, k0_pay9, k0_pay10, k0_pay11, k0_pay12, k0_pay13]
    rw [show y 0 = x 0 from Fin.ext h0]
    congr 1
    · exact Finset.sum_congr rfl fun l _ => congrArg (_ * ·) (congrArg x1 (congrArg (ix2 · l) (Fin.ext h1.symm)))
    · refine congrArg (_ * ·) (congrArg _ (congrArg x2 ?_))
      blk_ext

/-- The gradient before the squared rectifier, at a row and a column. -/
def grad (N : Fin 8192 → Fin 1024 → EReal) (U : Fin 1024 → Fin 4096 → EReal) (W : Fin 4096 → Fin 1024 → EReal) (D : Fin 8192 → Fin 1024 → EReal)
    (R : Fin 8192) (f : Fin 4096) : EReal :=
  (∑ l : Fin 1024, D R l * W f l) * (Ideal.ofBits FTy.f32 1073741824#32 *
    Ideal.sqrt (max (∑ l, N R l * U l f) 0 * max (∑ l, N R l * U l f) 0))

theorem final (c : Dev nD) : (dats m 0 c).arrAt 3 (cfgs 0).N = fun i : S8192x4096.Idx => grad (Na m c) (Ua m c) (Wa m c) (Da m c) (i 0) (i 1) := by
  refine (dats m 0 c).arrAt_eq_of_covers 3 _ (by decide +kernel) fun t hf y => ?_
  blk_simp
  rw [after0_3, tile]
  have e0 : ((((cfg0.win 3).blk t).view.emb y) 0 : Fin 8192) = at_ t (y 0) := Fin.ext (by blk_simp [idx t, at_])
  have e1 : ((((cfg0.win 3).blk t).view.emb y) 1 : Fin 4096) = y 1 := Fin.ext (by blk_simp [idx t, at_])
  unfold grad
  rw [e0, e1]
  congr 1
  · exact Finset.sum_congr rfl fun l _ => congrArg₂ (· * ·) (blk0 m c t (y 0) l) (blk1 m c t (y 1) l)
  · exact congrArg (_ * Ideal.sqrt ·) ((congrArg (iblk m c 2 t) (etaT y)).trans (blk2 m c t (y 0) (y 1)))

theorem bits_two : Ideal.ofBits .f32 0x40000000#32 = ((2 : ℝ) : EReal) := by
  simp [Ideal.ofBits, Ideal.ieee, -EReal.coe_mul]; norm_num

theorem two_mul_e (y : EReal) : ((2 : ℝ) : EReal) * y = y + y := by
  induction y with
  | bot => exact (EReal.coe_mul_bot_of_pos (by norm_num)).trans rfl
  | top => exact (EReal.coe_mul_top_of_pos (by norm_num)).trans rfl
  | coe r => rw [← EReal.coe_mul, ← EReal.coe_add, two_mul]

/-- Doubling the rectified value and multiplying is the derivative of the square. -/
theorem relu2_grad (z x : EReal) : x * (Ideal.ofBits FTy.f32 1073741824#32 * Ideal.sqrt (max z 0 * max z 0)) = if 0 < z then max z 0 * x + x * max z 0 else 0 := by
  rcases le_or_gt z 0 with h | h
  · rw [max_eq_right h, if_neg (not_lt.2 h)]
    have : Ideal.sqrt ((0 : EReal) * 0) = 0 := by
      rw [mul_zero]
      show (if (0 : ℝ) < 0 then (⊥ : EReal) else ((Real.sqrt 0 : ℝ) : EReal)) = 0
      rw [if_neg (lt_irrefl _), Real.sqrt_zero]; rfl
    rw [this]; simp
  · rw [max_eq_left h.le, if_pos h, bits_two]
    have hs : Ideal.sqrt (z * z) = z := by
      induction z with
      | bot => simp at h
      | top => rw [EReal.top_mul_top]; rfl
      | coe r =>
        have hr : (0 : ℝ) ≤ r := by exact_mod_cast h.le
        rw [← EReal.coe_mul]
        show (if r * r < 0 then (⊥ : EReal) else ((Real.sqrt (r * r) : ℝ) : EReal)) = _
        rw [if_neg (not_lt.2 (mul_self_nonneg r)), Real.sqrt_mul_self hr]
    rw [hs, mul_comm z x, ← two_mul_e, ← mul_assoc, ← mul_assoc, mul_comm x]

end Cert.Kernel3Ideal.Down

namespace Cert.Reference3Ideal.Down
open Cert.Reference3Ideal Cert.Reference3Ideal.Read Cert.Reference3Ideal.Gen Idealize.ShloMosaic Idealize.ShloMosaic.TcCoe Idealize.SL.Sem

theorem read (x0 x1 x2 x3) (R : Fin 8192) (f : Fin 4096) : val_main_v14 (F := Ideal) x0 x1 x2 x3 (ix2 R f)
    = Cert.Kernel3Ideal.Down.grad (fun R l => x0 (ix2 R l)) (fun l f => x1 (ix2 l f)) (fun f l => x2 (ix2 f l)) (fun R l => x3 (ix2 R l)) R f := by
  unfold Cert.Kernel3Ideal.Down.grad
  rw [Cert.Kernel3Ideal.Down.relu2_grad]
  pointwise [val_main_v14, val_main_v13, val_main_v12, val_main_v11, val_main_v10, val_main_v9, val_main_v8, val_main_v4, val_main_v3, val_main_v2, val_main_v1, val_main_v0, val_main_cst, val_main_cst_1, val_main_call0_cst, val_main_call0_v0]

end Cert.Reference3Ideal.Down

namespace Cert.DownPair
open Idealize.ShloMosaic Idealize.ShloMosaic.TcCoe Idealize.SL.Sem

theorem algebraic : Cert.algebraic_Kernel3Ideal_Reference3Ideal := by
  pair_intro
  · run_from Cert.Kernel3Ideal.Gen.run_main m g
    · exact Cert.Kernel3Ideal.Gen.V_main_arg0 m c
    · exact Cert.Kernel3Ideal.Gen.V_main_arg1 m c
    · exact Cert.Kernel3Ideal.Gen.V_main_arg2 m c
    · exact Cert.Kernel3Ideal.Gen.V_main_arg3 m c
  · run_from Cert.Reference3Ideal.Value.run m' g'
    rw [Cert.Reference3Ideal.Read.val_main_v14_eq, Cert.Kernel3Ideal.Down.final]
    funext i
    rw [Cert.Kernel3Ideal.Down.etaR i]
    exact Cert.Reference3Ideal.Down.read _ _ _ _ (i 0) (i 1)

end Cert.DownPair
-- ==== Proof.Covers.lean ====
/-
  Stores that cover a buffer hide what was stored before them.
-/
module

public import Idealize.ShloMosaic.Lib.Pipeline.ValueKit

@[expose] public section
noncomputable section
namespace Cert.Covers
open Idealize.ShloMosaic

/-- Where the later stores cover, the earlier ones do not matter. -/
theorem canon_drop {S : Shape} {e : EltTy} : ∀ (L L' : List (View.Piece (Elt Ideal) S e)) (y : S.Idx)
    (_ : ∃ p ∈ L, y ∈ p.1.set), View.canon (L ++ L') y = View.canon L y
  | [], _, _, hc => by obtain ⟨p, hp, _⟩ := hc; simp at hp
  | p :: L, L', y, hc => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_drop L L' y ?_
      obtain ⟨q, hq, hyq⟩ := hc
      rcases List.mem_cons.mp hq with rfl | hq'
      · exact absurd hyq hm
      · exact ⟨q, hq', hyq⟩

/-- Of stores over an earlier fill only the later eight matter where they cover. -/
theorem canon_eight {S : Shape} {e : EltTy} (p1 p2 p3 p4 p5 p6 p7 p8 p9 : View.Piece (Elt Ideal) S e) (y : S.Idx)
    (hc : ∃ p ∈ [p1, p2, p3, p4, p5, p6, p7, p8], y ∈ p.1.set) :
    View.canon [p1, p2, p3, p4, p5, p6, p7, p8, p9] y = View.canon [p1, p2, p3, p4, p5, p6, p7, p8] y :=
  canon_drop [p1, p2, p3, p4, p5, p6, p7, p8] [p9] y hc

/-- Of stores over an earlier fill only the later five matter where they cover. -/
theorem canon_five {S : Shape} {e : EltTy} (p1 p2 p3 p4 p5 p6 : View.Piece (Elt Ideal) S e) (y : S.Idx)
    (hc : ∃ p ∈ [p1, p2, p3, p4, p5], y ∈ p.1.set) :
    View.canon [p1, p2, p3, p4, p5, p6] y = View.canon [p1, p2, p3, p4, p5] y :=
  canon_drop [p1, p2, p3, p4, p5] [p6] y hc

/-- Of stores over an earlier fill only the later two matter where they cover. -/
theorem canon_two {S : Shape} {e : EltTy} (p1 p2 p3 : View.Piece (Elt Ideal) S e) (y : S.Idx)
    (hc : ∃ p ∈ [p1, p2], y ∈ p.1.set) :
    View.canon [p1, p2, p3] y = View.canon [p1, p2] y :=
  canon_drop [p1, p2] [p3] y hc

end Cert.Covers
-- ==== Proof.WDownPair.lean ====
/-
  The gradient of the weights of the product down: the kernel adds up, tile of rows by tile of rows, the products of the
  arriving gradient with the squared rectified values, in a table stored the other way round; its array is the
  reference's, at every input.
-/
module

public import proofs.«01_k».proof.Defs
public import proofs.«01_k».proof.Proof.Gen.Kernel4Ideal.Frame
public import proofs.«01_k».proof.Proof.Gen.Reference4Ideal.Read
public import Idealize.ShloMosaic.Lib.Pipeline.ValueKit
public import Idealize.ShloMosaic.Lib.Pipeline.ReadBack
public import Idealize.ShloMosaic.Lib.Pointwise
public import Idealize.ShloMosaic.Lib.Claim
public import proofs.«01_k».proof.Proof.Covers

@[expose] public section
set_option maxRecDepth 16384
noncomputable section
namespace Cert.Kernel4Ideal.WDown
open Cert.Kernel4Ideal Cert.Kernel4Ideal.Gen Idealize.ShloMosaic Idealize.ShloMosaic.TcCoe Idealize.SL.Sem
open Idealize.ShloMosaic.Pipeline (Dat)
variable (m : (ℓ : Loc nD τ sig) → Buf (Elt Ideal) ℓ)
theorem idx : ∀ t : Fin cfg0.N,
    win0_0.index t = ![t.val, 0] ∧ win0_1.index t = ![t.val, 0] ∧ win0_2.index t = ![0, 0] :=
  (by decide +kernel : ∀ t : Fin grid0.N, _)

/-- The normalised tokens. -/
abbrev Na (c : Dev nD) (R : Fin 8192) (l : Fin 1024) : EReal := (show FVec Ideal S8192x1024 .bf16 from m ((c : Thread nD τ).loc main_arg0)) (ix2 R l)
/-- The weights of the product up. -/
abbrev Ua (c : Dev nD) (l : Fin 1024) (f : Fin 4096) : EReal := (show FVec Ideal S1024x4096 .f32 from m ((c : Thread nD τ).loc main_arg1)) (ix2 l f)
/-- The gradient that arrives. -/
abbrev Da (c : Dev nD) (R : Fin 8192) (l : Fin 1024) : EReal := (show FVec Ideal S8192x1024 .f32 from m ((c : Thread nD τ).loc main_arg2)) (ix2 R l)
/-- The squared rectified value. -/
def sq (N : Fin 8192 → Fin 1024 → EReal) (U : Fin 1024 → Fin 4096 → EReal) (R : Fin 8192) (f : Fin 4096) : EReal :=
  max (∑ l, N R l * U l f) 0 * max (∑ l, N R l * U l f) 0

/-- Row `r` of the tile of point `t`. -/
def at_ (t : Fin cfg0.N) (r : Fin 512) : Fin 8192 := ⟨t.val * 512 + r.val, by have := lt_of_lt_of_eq t.isLt N_0; omega⟩

theorem V5 (c : Dev nD) (R : Fin 8192) (l : Fin 1024) : (show FVec Ideal S8192x1024 .bf16 from V m c main_v5) (ix2 R l) = Da m c R l := by
  simp only [V, hostOps0, hostOps0_1, hostOps0_2, List.flatten_cons, List.flatten_nil, List.append_nil, List.cons_append, List.nil_append]
  entry_read
  pointwise
theorem V4 (c : Dev nD) (R : Fin 8192) (f : Fin 4096) : (show FVec Ideal S8192x4096 .bf16 from V m c main_v4) (ix2 R f) = sq (Na m c) (Ua m c) R f := by
  simp only [V, hostOps0, hostOps0_1, hostOps0_2, List.flatten_cons, List.flatten_nil, List.append_nil, List.cons_append, List.nil_append]
  entry_read
  simp only [StableHlo.TRef.toBuf, StableHlo.TRef.ofBuf, cast_eq, eq_mpr_eq_cast, eqRec_eq_cast]
  unfold sq
  pointwise

theorem blk1 (c : Dev nD) (t : Fin cfg0.N) (r : Fin 512) (l : Fin 1024) : (show FVec Ideal S512x1024 .bf16 from iblk m c 1 t) (ix2 r l) = Da m c (at_ t r) l := by
  refine Eq.trans ?_ (V5 m c (at_ t r) l)
  blk_ext [iblk, idx t, at_]
theorem blk0 (c : Dev nD) (t : Fin cfg0.N) (r : Fin 512) (f : Fin 4096) : (show FVec Ideal S512x4096 .bf16 from iblk m c 0 t) (ix2 r f) = sq (Na m c) (Ua m c) (at_ t r) f := by
  refine Eq.trans ?_ (V4 m c (at_ t r) f)
  blk_ext [iblk, idx t, at_]

/-- What the tile of point `t` adds to the table. -/
def part (c : Dev nD) (t : Fin cfg0.N) (y : S1024x4096.Idx) : EReal := ∑ r : Fin 512, Da m c (at_ t r) (y 0) * sq (Na m c) (Ua m c) (at_ t r) (y 1)

theorem idx2 (v w : S1024x4096.Idx) (h0 : (v 0).val = (w 0).val) (h1 : (v 1).val = (w 1).val) : v = w := by
  have e0 : v 0 = w 0 := Fin.ext h0
  have e1 : v 1 = w 1 := Fin.ext h1
  funext a
  match a with
  | 0 => exact e0
  | 1 => exact e1

set_option maxHeartbeats 400000 in
theorem stepA (c : Dev nD) (t : Fin cfg0.N) (hA : t.val % 16 = 0) (y : S1024x4096.Idx) :
    (outsAt0 m c t.val t.isLt).2 y = (0 : EReal) + part m c t y := by
  rw [outsAt0_A m c t hA (by omega)]
  frame_open
  simp (disch := decide) only [↓ View.readCov_skip, ↓ View.readCov_cons_toLoadRect, ↓ View.readCov_fill]
  frame_out
  rw [Cert.Covers.canon_eight _ _ _ _ _ _ _ _ _ _ (View.cover_of_tiled_head _ _ _ rfl _)]
  canon_tiles x h
  all_goals
    pointwise [k0_pay1, k0_pay2, k0_pay11, k0_pay12, k0_pay13, k0_pay14, k0_pay15, k0_pay16, k0_pay17, k0_pay18, k0_pay19]
    unfold part
    refine Finset.sum_congr rfl fun r _ => congrArg₂ (· * ·) ((blk1 m c t r _).trans ?_) ((blk0 m c t r _).trans ?_)
    · exact congrArg (Da m c (at_ t r)) (Fin.ext h0.symm)
    · exact congrArg (sq (Na m c) (Ua m c) (at_ t r)) (Fin.ext h1.symm)

set_option maxHeartbeats 400000 in
theorem stepB (c : Dev nD) (t : Fin cfg0.N) (hA : ¬ t.val % 16 = 0) (y : S1024x4096.Idx) :
    (outsAt0 m c t.val t.isLt).2 y = (show FVec Ideal S1024x4096 .f32 from (outsAt0 m c (t.val - 1) (Nat.lt_of_le_of_lt (Nat.sub_le _ _) t.isLt)).2) y + part m c t y := by
  by_cases hB : t.val % 16 = 15
  · rw [outsAt0_C m c t hA hB]
    frame_out
    canon_tiles x h
    all_goals
      pointwise [k0_pay1, k0_pay2, k0_pay11, k0_pay12, k0_pay13, k0_pay14, k0_pay15, k0_pay16, k0_pay17, k0_pay18, k0_pay19]
      apply congrArg₂ (· + ·)
      · rw [read_unread_whole]
        refine congrArg _ (idx2 _ _ ?_ ?_)
        · exact h0.symm
        · exact h1.symm
      · unfold part
        refine Finset.sum_congr rfl fun r _ => congrArg₂ (· * ·) ((blk1 m c t r _).trans ?_) ((blk0 m c t r _).trans ?_)
        · exact congrArg (Da m c (at_ t r)) (Fin.ext h0.symm)
        · exact congrArg (sq (Na m c) (Ua m c) (at_ t r)) (Fin.ext h1.symm)
  · rw [outsAt0_B m c t hA hB]
    frame_out
    canon_tiles x h
    all_goals
      pointwise [k0_pay1, k0_pay2, k0_pay11, k0_pay12, k0_pay13, k0_pay14, k0_pay15, k0_pay16, k0_pay17, k0_pay18, k0_pay19]
      apply congrArg₂ (· + ·)
      · rw [read_unread_whole]
        refine congrArg _ (idx2 _ _ ?_ ?_)
        · exact h0.symm
        · exact h1.symm
      · unfold part
        refine Finset.sum_congr rfl fun r _ => congrArg₂ (· * ·) ((blk1 m c t r _).trans ?_) ((blk0 m c t r _).trans ?_)
        · exact congrArg (Da m c (at_ t r)) (Fin.ext h0.symm)
        · exact congrArg (sq (Na m c) (Ua m c) (at_ t r)) (Fin.ext h1.symm)

set_option maxHeartbeats 400000 in
/-- The last point writes the table out, the other way round. -/
theorem stepC (c : Dev nD) (t : Fin cfg0.N) (hA : ¬ t.val % 16 = 0) (hB : t.val % 16 = 15) (y : S4096x1024.Idx) (w : S1024x4096.Idx)
    (hw0 : (w 0).val = (y 1).val) (hw1 : (w 1).val = (y 0).val) :
    (outsAt0 m c t.val t.isLt).1 y = (outsAt0 m c t.val t.isLt).2 w := by
  rw [stepB m c t hA w, outsAt0_C m c t hA hB]
  frame_open
  simp (disch := decide) only [↓ View.readCov_skip, ↓ View.readCov_cons_toLoadRect, ↓ View.readCov_fill]
  frame_out
  canon_tiles x h
  all_goals
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19]
    apply congrArg₂ (· + ·)
    · rw [read_unread_whole]
      refine congrArg _ (idx2 _ _ ?_ ?_)
      · exact (hw0.trans h1).symm
      · exact (hw1.trans h0).symm
    · unfold part
      refine Finset.sum_congr rfl fun r _ => congrArg₂ (· * ·) ((blk1 m c t r _).trans ?_) ((blk0 m c t r _).trans ?_)
      · exact congrArg (Da m c (at_ t r)) (Fin.ext (hw0.trans h1).symm)
      · exact congrArg (sq (Na m c) (Ua m c) (at_ t r)) (Fin.ext (hw1.trans h0).symm)

/-- The gradient of the weights: the sum over the rows. -/
def grad (N : Fin 8192 → Fin 1024 → EReal) (U : Fin 1024 → Fin 4096 → EReal) (D : Fin 8192 → Fin 1024 → EReal) (f : Fin 4096) (l : Fin 1024) : EReal :=
  ∑ R : Fin 8192, D R l * sq N U R f

theorem final (c : Dev nD) : (dats m 0 c).arrAt 2 (cfgs 0).N = fun i : S4096x1024.Idx => grad (Na m c) (Ua m c) (Da m c) (i 0) (i 1) := by
  refine (dats m 0 c).arrAt_eq_of_covers 2 _ (by decide +kernel) fun t hf y => ?_
  have hB := (flush0_2 t).mp hf
  blk_simp
  rw [after0_2, stepC m c t (by omega) hB y (ix2 (y 1) (y 0)) rfl rfl,
    Pipeline.eq_sum_fin_of_reset_step_apply_of_flush (fun n h => (outsAt0 m c n h).2) 16 (fun _ => (0 : EReal)) (part m c)
    (fun t h j => stepA m c t h j) (fun t h j => stepB m c t h j) t hB _, zero_add]
  have hN := lt_of_lt_of_eq t.isLt N_0
  have e0 : ((((cfg0.win 2).blk t).view.emb y) 0 : Fin 4096) = y 0 := Fin.ext (by blk_simp [idx t])
  have e1 : ((((cfg0.win 2).blk t).view.emb y) 1 : Fin 1024) = y 1 := Fin.ext (by blk_simp [idx t])
  unfold grad part
  rw [e0, e1]
  refine Fin.sum_mul_add_congr fun s r hl => ?_
  have e : at_ ⟨16 * (t.val / 16) + s.val, Pipeline.run_point_lt_of_flush t hB s⟩ r = ⟨s.val * 512 + r.val, hl⟩ := Fin.ext (by show (16 * (t.val / 16) + s.val) * 512 + r.val = s.val * 512 + r.val; omega)
  rw [e]; rfl

theorem etaR (i : S4096x1024.Idx) : i = ix2 (i 0) (i 1) := by blk_ext

end Cert.Kernel4Ideal.WDown

namespace Cert.WDownPair
open Idealize.ShloMosaic Idealize.ShloMosaic.TcCoe Idealize.SL.Sem
open Cert.Reference4Ideal Cert.Reference4Ideal.Read in
theorem read (x0 x1 x2) (f : Fin 4096) (l : Fin 1024) : val_main_v8 (F := Ideal) x0 x1 x2 (ix2 f l)
    = Cert.Kernel4Ideal.WDown.grad (fun R l => x0 (ix2 R l)) (fun l f => x1 (ix2 l f)) (fun R l => x2 (ix2 R l)) f l := by
  unfold Cert.Kernel4Ideal.WDown.grad Cert.Kernel4Ideal.WDown.sq
  pointwise [val_main_v8, val_main_v7, val_main_v6, val_main_v4, val_main_v3, val_main_v2, val_main_v1, val_main_call0_cst, val_main_call0_v0]

theorem algebraic : Cert.algebraic_Kernel4Ideal_Reference4Ideal := by
  pair_intro
  · run_from Cert.Kernel4Ideal.Gen.run_main m g
    · exact Cert.Kernel4Ideal.Gen.V_main_arg0 m c
    · exact Cert.Kernel4Ideal.Gen.V_main_arg1 m c
    · exact Cert.Kernel4Ideal.Gen.V_main_arg2 m c
  · run_from Cert.Reference4Ideal.Value.run m' g'
    rw [Cert.Reference4Ideal.Read.val_main_v8_eq, Cert.Kernel4Ideal.WDown.final]
    funext i
    rw [Cert.Kernel4Ideal.WDown.etaR i]
    exact read _ _ _ (i 0) (i 1)

end Cert.WDownPair
-- ==== Proof.WUpPair.lean ====
/-
  The gradient of the weights of the product up: the kernel adds up, tile of rows by tile of rows, and leaves the table in
  eight slabs of columns; its array is the reference's, at every input.
-/
module

public import proofs.«01_k».proof.Defs
public import proofs.«01_k».proof.Proof.Gen.Kernel5Ideal.Frame
public import proofs.«01_k».proof.Proof.Gen.Reference5Ideal.Read
public import Idealize.ShloMosaic.Lib.Pipeline.ValueKit
public import Idealize.ShloMosaic.Lib.Pipeline.ReadBack
public import Idealize.ShloMosaic.Lib.Pointwise
public import Idealize.ShloMosaic.Lib.Claim
public import proofs.«01_k».proof.Proof.Covers

@[expose] public section
set_option maxRecDepth 16384
noncomputable section
namespace Cert.Kernel5Ideal.WUp
open Cert.Kernel5Ideal Cert.Kernel5Ideal.Gen Idealize.ShloMosaic Idealize.ShloMosaic.TcCoe Idealize.SL.Sem
open Idealize.ShloMosaic.Pipeline (Dat)
variable (m : (ℓ : Loc nD τ sig) → Buf (Elt Ideal) ℓ)
theorem idx : ∀ t : Fin cfg0.N,
    win0_0.index t = ![t.val, 0] ∧ win0_1.index t = ![t.val, 0] ∧ win0_2.index t = ![0, 0, 0] :=
  (by decide +kernel : ∀ t : Fin grid0.N, _)

/-- The values that went in, at a row and a column. -/
def Aa (c : Dev nD) (R : Fin 8192) (k : Fin 1024) : EReal := (show FVec Ideal S8192x1024 .bf16 from m ((c : Thread nD τ).loc main_arg0)) (ix2 R k)
/-- The gradient that arrives. -/
def Ba (c : Dev nD) (R : Fin 8192) (f : Fin 4096) : EReal := (show FVec Ideal S8192x4096 .bf16 from m ((c : Thread nD τ).loc main_arg1)) (ix2 R f)

/-- Row `r` of the tile of point `t`. -/
def at_ (t : Fin cfg0.N) (r : Fin 512) : Fin 8192 := ⟨t.val * 512 + r.val, by have := lt_of_lt_of_eq t.isLt N_0; omega⟩

theorem blk0 (c : Dev nD) (t : Fin cfg0.N) (r : Fin 512) (p q : Fin 1024) (h : q.val = p.val) : (show FVec Ideal S512x1024 .bf16 from iblk m c 0 t) (ix2 r p) = Aa m c (at_ t r) q := by
  obtain rfl : q = p := Fin.ext h
  unfold Aa
  blk_ext [iblk, V, idx t, at_]
theorem blk1 (c : Dev nD) (t : Fin cfg0.N) (r : Fin 512) (p q : Fin 4096) (h : q.val = p.val) : (show FVec Ideal S512x4096 .bf16 from iblk m c 1 t) (ix2 r p) = Ba m c (at_ t r) q := by
  obtain rfl : q = p := Fin.ext h
  unfold Ba
  blk_ext [iblk, V, idx t, at_]

/-- What the tile of point `t` adds to the table. -/
def part (c : Dev nD) (t : Fin cfg0.N) (y : S1024x4096.Idx) : EReal := ∑ r : Fin 512, Aa m c (at_ t r) (y 0) * Ba m c (at_ t r) (y 1)

theorem idx2 (v w : S1024x4096.Idx) (h0 : (v 0).val = (w 0).val) (h1 : (v 1).val = (w 1).val) : v = w := by
  have e0 : v 0 = w 0 := Fin.ext h0
  have e1 : v 1 = w 1 := Fin.ext h1
  funext a
  match a with
  | 0 => exact e0
  | 1 => exact e1

set_option maxHeartbeats 400000 in
theorem stepA (c : Dev nD) (t : Fin cfg0.N) (hA : t.val % 16 = 0) (y : S1024x4096.Idx) :
    (outsAt0 m c t.val t.isLt).2 y = (0 : EReal) + part m c t y := by
  rw [outsAt0_A m c t hA (by omega)]
  frame_open
  simp (disch := decide) only [↓ View.readCov_skip, ↓ View.readCov_cons_toLoadRect, ↓ View.readCov_fill]
  frame_out
  rw [Cert.Covers.canon_eight _ _ _ _ _ _ _ _ _ _ (View.cover_of_tiled_head _ _ _ rfl _)]
  canon_tiles x h
  all_goals
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19]
    unfold part
    refine Finset.sum_congr rfl fun r _ => congrArg₂ (· * ·) (blk0 m c t r _ _ ?_) (blk1 m c t r _ _ ?_)
    · exact h0
    · exact h1

set_option maxHeartbeats 400000 in
theorem stepB (c : Dev nD) (t : Fin cfg0.N) (hA : ¬ t.val % 16 = 0) (y : S1024x4096.Idx) :
    (outsAt0 m c t.val t.isLt).2 y = (show FVec Ideal S1024x4096 .f32 from (outsAt0 m c (t.val - 1) (Nat.lt_of_le_of_lt (Nat.sub_le _ _) t.isLt)).2) y + part m c t y := by
  by_cases hB : t.val % 16 = 15
  · rw [outsAt0_C m c t hA hB]
    frame_out
    canon_tiles x h
    all_goals
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19]
      apply congrArg₂ (· + ·)
      · rw [read_unread_whole]
        refine congrArg _ (idx2 _ _ ?_ ?_)
        · exact h0.symm
        · exact h1.symm
      · unfold part
        refine Finset.sum_congr rfl fun r _ => congrArg₂ (· * ·) (blk0 m c t r _ _ ?_) (blk1 m c t r _ _ ?_)
        · exact h0
        · exact h1
  · rw [outsAt0_B m c t hA hB]
    frame_out
    canon_tiles x h
    all_goals
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19]
      apply congrArg₂ (· + ·)
      · rw [read_unread_whole]
        refine congrArg _ (idx2 _ _ ?_ ?_)
        · exact h0.symm
        · exact h1.symm
      · unfold part
        refine Finset.sum_congr rfl fun r _ => congrArg₂ (· * ·) (blk0 m c t r _ _ ?_) (blk1 m c t r _ _ ?_)
        · exact h0
        · exact h1

set_option maxHeartbeats 400000 in
/-- The last point writes the table out. -/
theorem stepC (c : Dev nD) (t : Fin cfg0.N) (hA : ¬ t.val % 16 = 0) (hB : t.val % 16 = 15) (y : S8x1024x512.Idx) (w : S1024x4096.Idx)
    (hw0 : (w 0).val = (y 1).val) (hw1 : (w 1).val = (y 0).val * 512 + (y 2).val) :
    (outsAt0 m c t.val t.isLt).1 y = (outsAt0 m c t.val t.isLt).2 w := by
  rw [stepB m c t hA w, outsAt0_C m c t hA hB]
  frame_open
  simp (disch := decide) only [↓ View.readCov_skip, ↓ View.readCov_cons_toLoadRect, ↓ View.readCov_fill]
  frame_out
  canon_tiles x h
  all_goals
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19]
    apply congrArg₂ (· + ·)
    · rw [read_unread_whole]
      refine congrArg _ (idx2 _ _ ?_ ?_)
      · exact (hw0.trans h1).symm
      · refine Eq.trans ?_ hw1.symm
        change ((⟨_, _⟩ : Fin 4096) : ℕ) = _
        dsimp only
        omega
    · unfold part
      refine Finset.sum_congr rfl fun r _ => congrArg₂ (· * ·) (blk0 m c t r _ _ ?_) (blk1 m c t r _ _ ?_)
      · exact hw0.trans h1
      · refine hw1.trans ?_
        dsimp only
        omega

/-- The column of the table that a slab and a column of it name. -/
def flat (i : S8x1024x512.Idx) : Fin 4096 :=
  ⟨(i 0).val * 512 + (i 2).val, by have h0 : (i 0).val < 8 := (i 0).isLt; have h2 : (i 2).val < 512 := (i 2).isLt; omega⟩

/-- The gradient of the weights: the sum over the rows. -/
def grad (A : Fin 8192 → Fin 1024 → EReal) (B : Fin 8192 → Fin 4096 → EReal) (k : Fin 1024) (f : Fin 4096) : EReal :=
  ∑ R : Fin 8192, A R k * B R f

set_option maxHeartbeats 1000000 in
theorem final (c : Dev nD) : (dats m 0 c).arrAt 2 (cfgs 0).N = fun i : S8x1024x512.Idx => grad (Aa m c) (Ba m c) (i 1) (flat i) := by
  refine (dats m 0 c).arrAt_eq_of_covers 2 _ (by decide +kernel) fun t hf y => ?_
  have hB := (flush0_2 t).mp hf
  blk_simp
  rw [after0_2, stepC m c t (by omega) hB y (ix2 (y 1) (flat y)) rfl rfl,
    Pipeline.eq_sum_fin_of_reset_step_apply_of_flush (fun n h => (outsAt0 m c n h).2) 16 (fun _ => (0 : EReal)) (part m c)
    (fun t h j => stepA m c t h j) (fun t h j => stepB m c t h j) t hB _, zero_add]
  have hN := lt_of_lt_of_eq t.isLt N_0
  have e1 : ((((cfg0.win 2).blk t).view.emb y) 1 : Fin 1024) = y 1 := Fin.ext (by blk_simp [idx t])
  have e2 : flat (((cfg0.win 2).blk t).view.emb y) = flat y := Fin.ext (by unfold flat; blk_simp [idx t])
  unfold grad part
  rw [e1, e2]
  refine Fin.sum_mul_add_congr fun s r hl => ?_
  have e : at_ ⟨16 * (t.val / 16) + s.val, Pipeline.run_point_lt_of_flush t hB s⟩ r = ⟨s.val * 512 + r.val, hl⟩ := Fin.ext (by show (16 * (t.val / 16) + s.val) * 512 + r.val = s.val * 512 + r.val; omega)
  rw [e]; rfl

theorem etaR (i : S8x1024x512.Idx) : i = ix3 (i 0) (i 1) (i 2) := by blk_ext

end Cert.Kernel5Ideal.WUp

namespace Cert.WUpPair
open Idealize.ShloMosaic Idealize.ShloMosaic.TcCoe Idealize.SL.Sem
open Cert.Reference5Ideal Cert.Reference5Ideal.Read in
theorem read (x0 x1) (s : Fin 8) (k : Fin 1024) (n : Fin 512) : val_main_v8 (F := Ideal) x0 x1 (ix3 s k n)
    = Cert.Kernel5Ideal.WUp.grad (fun R k => x0 (ix2 R k)) (fun R f => x1 (ix2 R f)) k ⟨s.val * 512 + n.val, by omega⟩ := by
  unfold Cert.Kernel5Ideal.WUp.grad
  pointwise [val_main_v1, val_main_v3, val_main_v4, val_main_v5, val_main_v6, val_main_v7, val_main_v8]
  exact Finset.sum_congr rfl fun R _ => mul_comm _ _

theorem algebraic : Cert.algebraic_Kernel5Ideal_Reference5Ideal := by
  pair_intro
  · run_from Cert.Kernel5Ideal.Gen.run_main m g
  · run_from Cert.Reference5Ideal.Value.run m' g'
    rw [Cert.Reference5Ideal.Read.val_main_v8_eq, Cert.Kernel5Ideal.WUp.final]
    funext i
    rw [Cert.Kernel5Ideal.WUp.etaR i]
    exact read _ _ (i 0) (i 1) (i 2)

end Cert.WUpPair
-- ==== Proof.Norms.lean ====
/-
  The backward pass of the root-mean-square normalisation at the extended reals. The reciprocal root of a positive
  extended real is a nonnegative real number, so a product with it distributes over every sum, infinite terms included;
  the kernel's form of the gradient is therefore the derivative's form at every input.
-/
module

public import Idealize.ShloMosaic.PureOps.Ideal
public import Idealize.ShloMosaic.PureOps.Ideal.Laws
public import Idealize.ShloMosaic.Lib.IdealHost
public import Idealize.ShloMosaic.Lib.Pipeline.ValueKit

@[expose] public section

noncomputable section

namespace Cert.Norms

open Idealize.ShloMosaic

/-- The pattern of 1024. -/
theorem bits_1024 : Ideal.ofBits .f32 0x44800000#32 = ((1024 : ℝ) : EReal) := by
  simp [Ideal.ofBits, Ideal.ieee, -EReal.coe_mul]; norm_num

/-- The pattern of minus one half. -/
theorem bits_minus_half : Ideal.ofBits .f32 0xBF000000#32 = ((-(1 / 2) : ℝ) : EReal) := by
  simp [Ideal.ofBits, Ideal.ieee, -EReal.coe_mul]; norm_num

/-- The constant under the root is a positive real number. -/
theorem bits_eps : ∃ e : ℝ, 0 < e ∧ Ideal.ofBits .f32 0x358637BD#32 = ((e : ℝ) : EReal) := by
  refine ⟨8796093 * (2 : ℝ) ^ (-43 : ℤ), by positivity, ?_⟩
  simp [Ideal.ofBits, Ideal.ieee, -EReal.coe_mul]

theorem mul_self_nonneg' (x : EReal) : 0 ≤ x * x := by
  induction x using EReal.rec with
  | bot => simp
  | top => simp
  | coe r => exact_mod_cast mul_self_nonneg r

theorem sum_nonneg' {ι : Type*} (s : Finset ι) (f : ι → EReal) (h : ∀ i, 0 ≤ f i) : 0 ≤ ∑ i ∈ s, f i :=
  Finset.sum_nonneg fun i _ => h i

/-- The mean of the squares plus the constant. -/
def under {n : ℕ} (x : Fin n → EReal) : EReal :=
  Ideal.div (∑ l, x l * x l) (Ideal.ofBits .f32 0x44800000#32) + Ideal.ofBits .f32 0x358637BD#32

/-- The reciprocal root mean square. -/
def scale {n : ℕ} (x : Fin n → EReal) : EReal := Ideal.rsqrt (under x)

theorem under_pos {n : ℕ} (x : Fin n → EReal) : 0 < under x := by
  obtain ⟨e, he, hb⟩ := bits_eps
  unfold under
  rw [bits_1024, hb, Ideal.div_coe (by norm_num)]
  have h1 : (0 : EReal) ≤ (∑ l, x l * x l) * ((1 / 1024 : ℝ) : EReal) :=
    mul_nonneg (sum_nonneg' _ _ fun l => mul_self_nonneg' _) (by exact_mod_cast (by norm_num : (0 : ℝ) ≤ 1 / 1024))
  have h2 : (0 : EReal) < (e : EReal) := by exact_mod_cast he
  exact lt_of_lt_of_le h2 (le_add_of_nonneg_left h1)

/-- The reciprocal root is a nonnegative real number, and its quotient by the value under the root is its cube. -/
theorem rsqrt_facts (v : EReal) (hv : 0 < v) :
    ∃ r : ℝ, 0 ≤ r ∧ Ideal.rsqrt v = (r : EReal) ∧ Ideal.div (r : EReal) v = ((r * r * r : ℝ) : EReal) := by
  induction v using EReal.rec with
  | bot => exact absurd hv (by simp)
  | top => exact ⟨0, le_rfl, by simp, by simp [Ideal.div]⟩
  | coe v =>
    have hv' : 0 < v := by exact_mod_cast hv
    refine ⟨(Real.sqrt v)⁻¹, by positivity, ?_, ?_⟩
    · rw [Ideal.rsqrt_coe, if_neg (not_lt.2 hv'.le), if_neg hv'.ne']
    · rw [Ideal.div_coe hv'.ne', ← EReal.coe_mul]
      congr 1
      have hs : Real.sqrt v * Real.sqrt v = v := Real.mul_self_sqrt hv'.le
      have hp : 0 < Real.sqrt v := Real.sqrt_pos.2 hv'
      rw [mul_assoc, ← mul_inv, hs, one_div]

/-- A nonnegative real factor goes into a sum. -/
theorem mul_sum' {ι : Type*} (s : Finset ι) (r : ℝ) (hr : 0 ≤ r) (f : ι → EReal) :
    (r : EReal) * ∑ i ∈ s, f i = ∑ i ∈ s, (r : EReal) * f i := by
  classical
  induction s using Finset.induction_on with
  | empty => simp
  | insert a s ha ih =>
    rw [Finset.sum_insert ha, Finset.sum_insert ha,
      EReal.left_distrib_of_nonneg_of_ne_top (by exact_mod_cast hr) (EReal.coe_ne_top r), ih]

theorem half_twice (w : EReal) : ((-(1 / 2) : ℝ) : EReal) * w + ((-(1 / 2) : ℝ) : EReal) * w = -w := by
  induction w using EReal.rec with
  | bot => rw [EReal.coe_mul_bot_of_neg (by norm_num)]; simp
  | top => rw [EReal.coe_mul_top_of_neg (by norm_num)]; simp
  | coe w => rw [← EReal.coe_mul, ← EReal.coe_add, ← EReal.coe_neg]; congr 1; ring

/-- The kernel's form of the gradient of one entry of a row. -/
def backK {n : ℕ} (x a : Fin n → EReal) (d : EReal) (l : Fin n) : EReal :=
  d + scale x * (a l - (x l * scale x) * Ideal.div (∑ k, a k * (x k * scale x)) (Ideal.ofBits .f32 0x44800000#32))

/-- The factor of the derivative of the reciprocal root. -/
def slope {n : ℕ} (x a : Fin n → EReal) : EReal :=
  Ideal.div ((∑ k, x k * a k) * (Ideal.ofBits .f32 0xBF000000#32 * Ideal.div (scale x) (under x))) (Ideal.ofBits .f32 0x44800000#32)

/-- The derivative's form. -/
def backR {n : ℕ} (x a : Fin n → EReal) (d : EReal) (l : Fin n) : EReal :=
  d + a l * scale x + x l * slope x a + slope x a * x l

theorem back_eq {n : ℕ} (x a : Fin n → EReal) (d : EReal) (l : Fin n) : backK x a d l = backR x a d l := by
  obtain ⟨r, hr, e, e3⟩ := rsqrt_facts (under x) (under_pos x)
  have hs : scale x = (r : EReal) := e
  unfold backK backR slope
  rw [hs, e3, bits_1024, bits_minus_half, Ideal.div_coe (by norm_num), Ideal.div_coe (by norm_num)]
  generalize hc : ((1 / 1024 : ℝ) : EReal) = c
  have e1 : (∑ k, a k * (x k * (r : EReal))) = (r : EReal) * ∑ k, x k * a k := by
    rw [mul_sum' _ r hr]
    exact Finset.sum_congr rfl fun k _ => by rw [← mul_assoc, mul_comm (a k), mul_comm]
  rw [e1]
  generalize (∑ k, x k * a k) = S
  have e2 : (r : EReal) * (a l - x l * (r : EReal) * ((r : EReal) * S * c))
      = a l * (r : EReal) + -(x l * (S * (((r * r * r : ℝ) : EReal)) * c)) := by
    rw [sub_eq_add_neg, EReal.left_distrib_of_nonneg_of_ne_top (by exact_mod_cast hr) (EReal.coe_ne_top r), mul_comm (r : EReal) (a l)]
    refine congrArg (a l * (r : EReal) + ·) ?_
    rw [mul_neg, EReal.coe_mul, EReal.coe_mul]
    exact congrArg Neg.neg (by ac_rfl)
  rw [e2]
  have e4 : x l * (S * (((-(1 / 2) : ℝ) : EReal) * ((r * r * r : ℝ) : EReal)) * c)
      = ((-(1 / 2) : ℝ) : EReal) * (x l * (S * (((r * r * r : ℝ) : EReal)) * c)) := by ac_rfl
  rw [mul_comm (S * _ * c) (x l), e4, add_assoc, add_assoc, half_twice]

/-- A sum over 4096 columns, tile of 512 columns by tile. -/
theorem sum_tiles8 (f : Fin 4096 → EReal) (p : Fin 8 → Fin 512 → EReal)
    (hp : ∀ (s : Fin 8) (k : Fin 512) (h : s.val * 512 + k.val < 4096), p s k = f ⟨s.val * 512 + k.val, h⟩) :
    ∑ k, p 0 k + ∑ k, p 1 k + ∑ k, p 2 k + ∑ k, p 3 k + ∑ k, p 4 k + ∑ k, p 5 k + ∑ k, p 6 k + ∑ k, p 7 k = ∑ l, f l := by
  rw [← Fin.sum_univ_eight (fun s => ∑ k, p s k)]
  exact Fin.sum_mul_add_congr fun s k h => hp s k h

end Cert.Norms

end
-- ==== Proof.UpPair.lean ====
/-
  The gradient through the product up and the normalisation under it: the kernel multiplies tile by tile with the
  weights in slabs, takes the gradient of the normalisation of each row, adds the arriving gradient, multiplies the sum
  with the next weights and adds up the gradient of the gain; its four arrays are the reference's, at every input.
-/
module

public import proofs.«01_k».proof.Defs
public import proofs.«01_k».proof.Proof.Gen.Kernel6Ideal.Frame
public import proofs.«01_k».proof.Proof.Gen.Reference6Ideal.Read
public import Idealize.ShloMosaic.Lib.Pipeline.ValueKit
public import Idealize.ShloMosaic.Lib.Pipeline.ReadBack
public import Idealize.ShloMosaic.Lib.Pointwise
public import Idealize.ShloMosaic.Lib.Claim
public import proofs.«01_k».proof.Proof.Norms

@[expose] public section
set_option maxRecDepth 16384
noncomputable section
namespace Cert.Kernel6Ideal.Up
open Cert.Kernel6Ideal Cert.Kernel6Ideal.Gen Idealize.ShloMosaic Idealize.ShloMosaic.TcCoe Idealize.SL.Sem Cert.Norms
open Idealize.ShloMosaic.Pipeline (Dat)
variable (m : (ℓ : Loc nD τ sig) → Buf (Elt Ideal) ℓ)
theorem idx : ∀ t : Fin cfg0.N,
    win0_0.index t = ![t.val, 0] ∧ win0_1.index t = ![0, 0, 0] ∧ win0_2.index t = ![t.val, 0] ∧ win0_3.index t = ![0, 0]
      ∧ win0_4.index t = ![t.val, 0] ∧ win0_5.index t = ![0, 0] ∧ win0_7.index t = ![t.val, 0] ∧ win0_8.index t = ![t.val, 0]
      ∧ win0_9.index t = ![t.val, 0] ∧ win0_10.index t = ![0, 0] :=
  (by decide +kernel : ∀ t : Fin grid0.N, _)

/-- The gradient of the values after the product up. -/
abbrev Aa (c : Dev nD) (R : Fin 8192) (f : Fin 4096) : EReal := (show FVec Ideal S8192x4096 .bf16 from m ((c : Thread nD τ).loc main_arg0)) (ix2 R f)
/-- The weights of the product up. -/
abbrev Wa (c : Dev nD) (l : Fin 1024) (f : Fin 4096) : EReal := (show FVec Ideal S1024x4096 .f32 from m ((c : Thread nD τ).loc main_arg1)) (ix2 l f)
/-- The tokens. -/
abbrev Xa (c : Dev nD) (R : Fin 8192) (l : Fin 1024) : EReal := (show FVec Ideal S8192x1024 .f32 from m ((c : Thread nD τ).loc main_arg2)) (ix2 R l)
/-- The gain of the normalisation. -/
abbrev Ga (c : Dev nD) (l : Fin 1024) : EReal := (show FVec Ideal S1x1024 .f32 from m ((c : Thread nD τ).loc main_arg3)) (ix2 0 l)
/-- The gradient that arrives beside the product. -/
abbrev Da (c : Dev nD) (R : Fin 8192) (l : Fin 1024) : EReal := (show FVec Ideal S8192x1024 .f32 from m ((c : Thread nD τ).loc main_arg4)) (ix2 R l)
/-- The weights of the next product. -/
abbrev Ea (c : Dev nD) (o : Fin 1024) (l : Fin 1024) : EReal := (show FVec Ideal S1024x1024 .f32 from m ((c : Thread nD τ).loc main_arg5)) (ix2 o l)

/-- Row `r` of the tile of point `t`. -/
def at_ (t : Fin cfg0.N) (r : Fin 512) : Fin 8192 := ⟨t.val * 512 + r.val, by have := lt_of_lt_of_eq t.isLt N_0; omega⟩
/-- Column `k` of slab `s`. -/
def col (s : Fin 8) (k : Fin 512) : Fin 4096 := ⟨s.val * 512 + k.val, by omega⟩

theorem V2 (c : Dev nD) (s : Fin 8) (l : Fin 1024) (k : Fin 512) : (show FVec Ideal S8x1024x512 .bf16 from V m c main_v2) (ix3 s l k) = Wa m c l (col s k) := by
  simp only [V, hostOps0, List.flatten_cons, List.flatten_nil, List.append_nil, List.cons_append, List.nil_append]
  entry_read
  pointwise
  rfl
theorem V3 (c : Dev nD) (o : Fin 1024) (l : Fin 1024) : (show FVec Ideal S1024x1024 .bf16 from V m c main_v3) (ix2 o l) = Ea m c o l := by
  simp only [V, hostOps0, List.flatten_cons, List.flatten_nil, List.append_nil, List.cons_append, List.nil_append]
  entry_read
  pointwise

theorem blk0 (c : Dev nD) (t : Fin cfg0.N) (r : Fin 512) (f : Fin 4096) : (show FVec Ideal S512x4096 .bf16 from iblk m c 0 t) (ix2 r f) = Aa m c (at_ t r) f := by
  blk_ext [iblk, V, idx t, at_]
theorem blk1 (c : Dev nD) (t : Fin cfg0.N) (s : Fin 8) (l : Fin 1024) (k : Fin 512) : (show FVec Ideal S8x1024x512 .bf16 from iblk m c 1 t) (ix3 s l k) = Wa m c l (col s k) := by
  refine Eq.trans ?_ (V2 m c s l k)
  blk_ext [iblk, idx t, at_]
theorem blk2 (c : Dev nD) (t : Fin cfg0.N) (r : Fin 512) (l : Fin 1024) : (show FVec Ideal S512x1024 .f32 from iblk m c 2 t) (ix2 r l) = Xa m c (at_ t r) l := by
  blk_ext [iblk, V, idx t, at_]
theorem blk3 (c : Dev nD) (t : Fin cfg0.N) (l : Fin 1024) : (show FVec Ideal S1x1024 .f32 from iblk m c 3 t) (ix2 0 l) = Ga m c l := by
  blk_ext [iblk, V, idx t, at_]
theorem blk4 (c : Dev nD) (t : Fin cfg0.N) (r : Fin 512) (l : Fin 1024) : (show FVec Ideal S512x1024 .f32 from iblk m c 4 t) (ix2 r l) = Da m c (at_ t r) l := by
  blk_ext [iblk, V, idx t, at_]
theorem blk5 (c : Dev nD) (t : Fin cfg0.N) (o : Fin 1024) (l : Fin 1024) : (show FVec Ideal S1024x1024 .bf16 from iblk m c 5 t) (ix2 o l) = Ea m c o l := by
  refine Eq.trans ?_ (V3 m c o l)
  blk_ext [iblk, idx t, at_]

/-- The gradient at the normalised row: the products of the eight slabs, added up. -/
def dnv (c : Dev nD) (t : Fin cfg0.N) : FVec Ideal S512x1024 .f32 :=
  k0_pay6
    (k0_pay5 (View.ld (iblk m c 0 t) (Rect.unit ![0, 0] ![512, 512] inb_S512x4096_S512x512_0_0))
      (View.ld (iblk m c 1 t) (Rect.unit ![0, 0, 0] ![1, 1024, 512] inb_S8x1024x512_S1x1024x512_0_0_0))
      (View.ld (iblk m c 0 t) (Rect.unit ![0, 512] ![512, 512] inb_S512x4096_S512x512_0_512))
      (View.ld (iblk m c 1 t) (Rect.unit ![1, 0, 0] ![1, 1024, 512] inb_S8x1024x512_S1x1024x512_1_0_0))
      (View.ld (iblk m c 0 t) (Rect.unit ![0, 1024] ![512, 512] inb_S512x4096_S512x512_0_1024))
      (View.ld (iblk m c 1 t) (Rect.unit ![2, 0, 0] ![1, 1024, 512] inb_S8x1024x512_S1x1024x512_2_0_0))
      (View.ld (iblk m c 0 t) (Rect.unit ![0, 1536] ![512, 512] inb_S512x4096_S512x512_0_1536))
      (View.ld (iblk m c 1 t) (Rect.unit ![3, 0, 0] ![1, 1024, 512] inb_S8x1024x512_S1x1024x512_3_0_0))
      (View.ld (iblk m c 0 t) (Rect.unit ![0, 2048] ![512, 512] inb_S512x4096_S512x512_0_2048))
      (View.ld (iblk m c 1 t) (Rect.unit ![4, 0, 0] ![1, 1024, 512] inb_S8x1024x512_S1x1024x512_4_0_0)))
    (View.ld (iblk m c 0 t) (Rect.unit ![0, 2560] ![512, 512] inb_S512x4096_S512x512_0_2560))
    (View.ld (iblk m c 1 t) (Rect.unit ![5, 0, 0] ![1, 1024, 512] inb_S8x1024x512_S1x1024x512_5_0_0))
    (View.ld (iblk m c 0 t) (Rect.unit ![0, 3072] ![512, 512] inb_S512x4096_S512x512_0_3072))
    (View.ld (iblk m c 1 t) (Rect.unit ![6, 0, 0] ![1, 1024, 512] inb_S8x1024x512_S1x1024x512_6_0_0))
    (View.ld (iblk m c 0 t) (Rect.unit ![0, 3584] ![512, 512] inb_S512x4096_S512x512_0_3584))
    (View.ld (iblk m c 1 t) (Rect.unit ![7, 0, 0] ![1, 1024, 512] inb_S8x1024x512_S1x1024x512_7_0_0))

/-- The gradient at the normalised row. -/
def dn (A : Fin 8192 → Fin 4096 → EReal) (W : Fin 1024 → Fin 4096 → EReal) (R : Fin 8192) (l : Fin 1024) : EReal := ∑ f, A R f * W l f

/-- The product of slab `s`, at a row and a column. -/
def tile (x0 : FVec Ideal S512x4096 .bf16) (x1 : FVec Ideal S8x1024x512 .bf16) (r : Fin 512) (l : Fin 1024) (s : Fin 8) : EReal :=
  ∑ k : Fin 512, x0 (ix2 r (col s k)) * x1 (ix3 s l k)

set_option maxHeartbeats 1000000 in
theorem pay56 (x0 : Vec Ideal S512x4096 .bf16) (x1 : Vec Ideal S8x1024x512 .bf16) (r : Fin 512) (l : Fin 1024) :
    (show EReal from k0_pay6 (F := Ideal)
    (k0_pay5 (F := Ideal) (View.ld x0 (Rect.unit ![0, 0] ![512, 512] inb_S512x4096_S512x512_0_0))
      (View.ld x1 (Rect.unit ![0, 0, 0] ![1, 1024, 512] inb_S8x1024x512_S1x1024x512_0_0_0))
      (View.ld x0 (Rect.unit ![0, 512] ![512, 512] inb_S512x4096_S512x512_0_512))
      (View.ld x1 (Rect.unit ![1, 0, 0] ![1, 1024, 512] inb_S8x1024x512_S1x1024x512_1_0_0))
      (View.ld x0 (Rect.unit ![0, 1024] ![512, 512] inb_S512x4096_S512x512_0_1024))
      (View.ld x1 (Rect.unit ![2, 0, 0] ![1, 1024, 512] inb_S8x1024x512_S1x1024x512_2_0_0))
      (View.ld x0 (Rect.unit ![0, 1536] ![512, 512] inb_S512x4096_S512x512_0_1536))
      (View.ld x1 (Rect.unit ![3, 0, 0] ![1, 1024, 512] inb_S8x1024x512_S1x1024x512_3_0_0))
      (View.ld x0 (Rect.unit ![0, 2048] ![512, 512] inb_S512x4096_S512x512_0_2048))
      (View.ld x1 (Rect.unit ![4, 0, 0] ![1, 1024, 512] inb_S8x1024x512_S1x1024x512_4_0_0)))
    (View.ld x0 (Rect.unit ![0, 2560] ![512, 512] inb_S512x4096_S512x512_0_2560))
    (View.ld x1 (Rect.unit ![5, 0, 0] ![1, 1024, 512] inb_S8x1024x512_S1x1024x512_5_0_0))
    (View.ld x0 (Rect.unit ![0, 3072] ![512, 512] inb_S512x4096_S512x512_0_3072))
    (View.ld x1 (Rect.unit ![6, 0, 0] ![1, 1024, 512] inb_S8x1024x512_S1x1024x512_6_0_0))
    (View.ld x0 (Rect.unit ![0, 3584] ![512, 512] inb_S512x4096_S512x512_0_3584))
    (View.ld x1 (Rect.unit ![7, 0, 0] ![1, 1024, 512] inb_S8x1024x512_S1x1024x512_7_0_0)) (ix2 r l))
    = tile x0 x1 r l 0 + tile x0 x1 r l 1
      + tile x0 x1 r l 2 + tile x0 x1 r l 3
      + tile x0 x1 r l 4 + tile x0 x1 r l 5
      + tile x0 x1 r l 6 + tile x0 x1 r l 7 := by
  unfold tile
  pointwise [k0_pay5, k0_pay6]
  have e : ∀ k : Fin 512, col 0 k = ⟨k.val, by omega⟩ := fun k => Fin.ext (by show 0 * 512 + k.val = k.val; omega)
  simp only [e]
  rfl

theorem dnv_eq (c : Dev nD) (t : Fin cfg0.N) (r : Fin 512) (l : Fin 1024) : dnv m c t (ix2 r l) = dn (Aa m c) (Wa m c) (at_ t r) l := by
  unfold dnv dn
  refine (pay56 _ _ r l).trans ?_
  refine Eq.trans ?_ (sum_tiles8 (fun f => Aa m c (at_ t r) f * Wa m c l f) (fun s k => Aa m c (at_ t r) (col s k) * Wa m c l (col s k)) fun s k h => rfl)
  have e : ∀ s : Fin 8, tile (iblk m c 0 t) (iblk m c 1 t) r l s
      = ∑ k : Fin 512, Aa m c (at_ t r) (col s k) * Wa m c l (col s k) :=
    fun s => Finset.sum_congr rfl fun k _ => congrArg₂ (· * ·) (blk0 m c t r _) (blk1 m c t s l k)
  exact congrArg₂ (· + ·) (congrArg₂ (· + ·) (congrArg₂ (· + ·) (congrArg₂ (· + ·) (congrArg₂ (· + ·) (congrArg₂ (· + ·) (congrArg₂ (· + ·)
    (e 0) (e 1)) (e 2)) (e 3)) (e 4)) (e 5)) (e 6)) (e 7)

/-- What a row of the normalisation's gradient is, from the gradient at the normalised row. -/
theorem pay1_eq (dv x : FVec Ideal S512x1024 .f32) (g : FVec Ideal S1x1024 .f32) (d : FVec Ideal S512x1024 .f32) (r : Fin 512) (l : Fin 1024) :
    k0_pay1 dv (k0_pay7 x) (k0_pay8 x) g d (ix2 r l) = backK (fun l => x (ix2 r l)) (fun l => dv (ix2 r l) * g (ix2 0 l)) (d (ix2 r l)) l := by
  unfold backK scale under
  pointwise [k0_pay1, k0_pay7, k0_pay8]
theorem pay3_eq (dv : FVec Ideal S512x1024 .f32) (a : FVec Ideal S512x1 .f32) (b : FVec Ideal S512x1024 .f32) (g : FVec Ideal S1x1024 .f32) (d : FVec Ideal S512x1024 .f32) (w : FVec Ideal S512x1024 .bf16) (x : S512x512.Idx) :
    k0_pay3 dv a b g d w x = ∑ l : Fin 1024, k0_pay1 dv a b g d (ix2 (x 0) l) * w (ix2 (x 1) l) := by
  unfold k0_pay3 k0_pay2
  generalize k0_pay1 dv a b g d = P
  pointwise
theorem pay4_eq (dv : FVec Ideal S512x1024 .f32) (a : FVec Ideal S512x1 .f32) (b : FVec Ideal S512x1024 .f32) (g : FVec Ideal S1x1024 .f32) (d : FVec Ideal S512x1024 .f32) (w : FVec Ideal S512x1024 .bf16) (x : S512x512.Idx) :
    k0_pay4 dv a b g d w x = ∑ l : Fin 1024, k0_pay1 dv a b g d (ix2 (x 0) l) * w (ix2 (x 1) l) := by
  unfold k0_pay4 k0_pay2
  generalize k0_pay1 dv a b g d = P
  pointwise
theorem pay9_eq (v23 : FVec Ideal S512x1024 .f32) (v24 : FVec Ideal S512x512 .bf16) (v25 : FVec Ideal S1x1024x512 .bf16) (v29 : FVec Ideal S512x512 .bf16) (v30 : FVec Ideal S1x1024x512 .bf16) (v34 : FVec Ideal S512x512 .bf16) (v35 : FVec Ideal S1x1024x512 .bf16) (x : FVec Ideal S512x1024 .f32) (l : Fin 1024) :
    k0_pay9 v23 v24 v25 v29 v30 v34 v35 x (ix2 0 l)
      = ∑ r : Fin 512, k0_pay6 v23 v24 v25 v29 v30 v34 v35 (ix2 r l) * (x (ix2 r l) * scale fun k => x (ix2 r k)) := by
  unfold k0_pay9 scale under
  generalize k0_pay6 v23 v24 v25 v29 v30 v34 v35 = P
  pointwise [k0_pay7, k0_pay8]
theorem pay10_eq (v23 : FVec Ideal S512x1024 .f32) (v24 : FVec Ideal S512x512 .bf16) (v25 : FVec Ideal S1x1024x512 .bf16) (v29 : FVec Ideal S512x512 .bf16) (v30 : FVec Ideal S1x1024x512 .bf16) (v34 : FVec Ideal S512x512 .bf16) (v35 : FVec Ideal S1x1024x512 .bf16) (x : FVec Ideal S512x1024 .f32) (o : FVec Ideal S1x1024 .f32) (l : Fin 1024) :
    k0_pay10 v23 v24 v25 v29 v30 v34 v35 x o (ix2 0 l) = o (ix2 0 l) + k0_pay9 v23 v24 v25 v29 v30 v34 v35 x (ix2 0 l) := by
  unfold k0_pay10
  generalize k0_pay9 v23 v24 v25 v29 v30 v34 v35 x = P
  pointwise

theorem o7 (c : Dev nD) (t : Fin cfg0.N) (y : S512x1024.Idx) :
    (outsAt0 m c t.val t.isLt).1 y = k0_pay1 (dnv m c t) (k0_pay7 (iblk m c 2 t)) (k0_pay8 (iblk m c 2 t)) (iblk m c 3 t) (iblk m c 4 t) y := by
  have hn := lt_of_lt_of_eq t.isLt N_0
  by_cases hA : t.val % 16 = 0
  · rw [outsAt0_A m c t hA (by omega)]
    frame_out
    rfl
  · rw [outsAt0_B m c t hA (by omega)]
    frame_out
    rfl
theorem o8 (c : Dev nD) (t : Fin cfg0.N) (y : S512x1024.Idx) :
    (outsAt0 m c t.val t.isLt).2.1 y = k0_pay1 (dnv m c t) (k0_pay7 (iblk m c 2 t)) (k0_pay8 (iblk m c 2 t)) (iblk m c 3 t) (iblk m c 4 t) y := by
  have hn := lt_of_lt_of_eq t.isLt N_0
  by_cases hA : t.val % 16 = 0
  · rw [outsAt0_A m c t hA (by omega)]
    frame_out
    rfl
  · rw [outsAt0_B m c t hA (by omega)]
    frame_out
    rfl

/-- The gradient of a row: what arrives plus what comes through the normalisation. -/
def out (A : Fin 8192 → Fin 4096 → EReal) (W : Fin 1024 → Fin 4096 → EReal) (X : Fin 8192 → Fin 1024 → EReal) (G : Fin 1024 → EReal)
    (D : Fin 8192 → Fin 1024 → EReal) (R : Fin 8192) (l : Fin 1024) : EReal :=
  backK (X R) (fun l => dn A W R l * G l) (D R l) l

theorem out_eq (c : Dev nD) (t : Fin cfg0.N) (r : Fin 512) (l : Fin 1024) :
    k0_pay1 (dnv m c t) (k0_pay7 (iblk m c 2 t)) (k0_pay8 (iblk m c 2 t)) (iblk m c 3 t) (iblk m c 4 t) (ix2 r l)
      = out (Aa m c) (Wa m c) (Xa m c) (Ga m c) (Da m c) (at_ t r) l := by
  rw [pay1_eq]
  unfold out
  have e1 : (fun l => (show FVec Ideal S512x1024 .f32 from iblk m c 2 t) (ix2 r l)) = Xa m c (at_ t r) := funext fun l => blk2 m c t r l
  have e2 : (fun l => dnv m c t (ix2 r l) * (show FVec Ideal S1x1024 .f32 from iblk m c 3 t) (ix2 0 l)) = fun l => dn (Aa m c) (Wa m c) (at_ t r) l * Ga m c l :=
    funext fun l => congrArg₂ (· * ·) (dnv_eq m c t r l) (blk3 m c t l)
  have e3 := blk4 m c t r l
  exact congr (congr (congrArg₂ backK e1 e2) e3) rfl

theorem idxE (v w : S1024x1024.Idx) (h0 : (v 0).val = (w 0).val) (h1 : (v 1).val = (w 1).val) : v = w := by
  have e0 : v 0 = w 0 := Fin.ext h0
  have e1 : v 1 = w 1 := Fin.ext h1
  funext a
  match a with
  | 0 => exact e0
  | 1 => exact e1

theorem o9 (c : Dev nD) (t : Fin cfg0.N) (r : Fin 512) (o : Fin 1024) :
    (outsAt0 m c t.val t.isLt).2.2.1 (ix2 r o) = ∑ l, out (Aa m c) (Wa m c) (Xa m c) (Ga m c) (Da m c) (at_ t r) l * Ea m c o l := by
  have hn := lt_of_lt_of_eq t.isLt N_0
  by_cases hA : t.val % 16 = 0
  · rw [outsAt0_A m c t hA (by omega)]
    frame_out
    canon_tiles x h
    · refine (pay4_eq _ _ _ _ _ _ x).trans (Finset.sum_congr rfl fun l _ => congrArg₂ (· * ·) ((out_eq m c t (x 0) l).trans ?_) (Eq.trans ?_ (blk5 m c t o l)))
      · exact congrArg (fun r => out _ _ _ _ _ (at_ t r) l) (Fin.ext h0.symm)
      · exact congrArg (iblk m c 5 t) (idxE _ _ (by show 512 + 1 * (x 1).val = o.val; rw [one_mul]; exact h1.symm) (by show 0 + 1 * l.val = l.val; omega))
    · refine (pay3_eq _ _ _ _ _ _ x).trans (Finset.sum_congr rfl fun l _ => congrArg₂ (· * ·) ((out_eq m c t (x 0) l).trans ?_) (Eq.trans ?_ (blk5 m c t o l)))
      · exact congrArg (fun r => out _ _ _ _ _ (at_ t r) l) (Fin.ext h0.symm)
      · exact congrArg (iblk m c 5 t) (idxE _ _ (by show 0 + 1 * (x 1).val = o.val; rw [one_mul, zero_add]; exact h1.symm) (by show 0 + 1 * l.val = l.val; omega))
  · rw [outsAt0_B m c t hA (by omega)]
    frame_out
    canon_tiles x h
    · refine (pay4_eq _ _ _ _ _ _ x).trans (Finset.sum_congr rfl fun l _ => congrArg₂ (· * ·) ((out_eq m c t (x 0) l).trans ?_) (Eq.trans ?_ (blk5 m c t o l)))
      · exact congrArg (fun r => out _ _ _ _ _ (at_ t r) l) (Fin.ext h0.symm)
      · exact congrArg (iblk m c 5 t) (idxE _ _ (by show 512 + 1 * (x 1).val = o.val; rw [one_mul]; exact h1.symm) (by show 0 + 1 * l.val = l.val; omega))
    · refine (pay3_eq _ _ _ _ _ _ x).trans (Finset.sum_congr rfl fun l _ => congrArg₂ (· * ·) ((out_eq m c t (x 0) l).trans ?_) (Eq.trans ?_ (blk5 m c t o l)))
      · exact congrArg (fun r => out _ _ _ _ _ (at_ t r) l) (Fin.ext h0.symm)
      · exact congrArg (iblk m c 5 t) (idxE _ _ (by show 0 + 1 * (x 1).val = o.val; rw [one_mul, zero_add]; exact h1.symm) (by show 0 + 1 * l.val = l.val; omega))

/-- What the tile of point `t` adds to the gradient of the gain. -/
def gpart (c : Dev nD) (t : Fin cfg0.N) (y : S1x1024.Idx) : EReal :=
  ∑ r : Fin 512, dn (Aa m c) (Wa m c) (at_ t r) (y 1) * (Xa m c (at_ t r) (y 1) * scale (Xa m c (at_ t r)))

theorem gpart_eq (c : Dev nD) (t : Fin cfg0.N) (l : Fin 1024) :
    (∑ r : Fin 512, dnv m c t (ix2 r l) * ((show FVec Ideal S512x1024 .f32 from iblk m c 2 t) (ix2 r l) * scale fun k => (show FVec Ideal S512x1024 .f32 from iblk m c 2 t) (ix2 r k)))
      = gpart m c t (ix2 0 l) := by
  unfold gpart
  refine Finset.sum_congr rfl fun r _ => congrArg₂ (· * ·) (dnv_eq m c t r l) (congrArg₂ (· * ·) (blk2 m c t r l) (congrArg scale ?_))
  exact funext fun k => blk2 m c t r k

theorem etaG (y : S1x1024.Idx) : y = ix2 0 (y 1) := by blk_ext

theorem stepA' (c : Dev nD) (t : Fin cfg0.N) (hA : t.val % 16 = 0) (l : Fin 1024) :
    (outsAt0 m c t.val t.isLt).2.2.2 (ix2 0 l) = gpart m c t (ix2 0 l) := by
  have hn := lt_of_lt_of_eq t.isLt N_0
  refine Eq.trans ?_ (gpart_eq m c t l)
  rw [outsAt0_A m c t hA (by omega)]
  frame_out
  exact pay9_eq _ _ _ _ _ _ _ _ _
theorem stepB' (c : Dev nD) (t : Fin cfg0.N) (hA : ¬ t.val % 16 = 0) (l : Fin 1024) :
    (outsAt0 m c t.val t.isLt).2.2.2 (ix2 0 l) = (show FVec Ideal S1x1024 .f32 from (outsAt0 m c (t.val - 1) (Nat.lt_of_le_of_lt (Nat.sub_le _ _) t.isLt)).2.2.2) (ix2 0 l) + gpart m c t (ix2 0 l) := by
  have hn := lt_of_lt_of_eq t.isLt N_0
  refine Eq.trans ?_ (congrArg (_ + ·) (gpart_eq m c t l))
  rw [outsAt0_B m c t hA (by omega)]
  frame_out
  exact (pay10_eq _ _ _ _ _ _ _ _ _ _).trans (congrArg (_ + ·) (pay9_eq _ _ _ _ _ _ _ _ _))
theorem stepA (c : Dev nD) (t : Fin cfg0.N) (hA : t.val % 16 = 0) (y : S1x1024.Idx) :
    (outsAt0 m c t.val t.isLt).2.2.2 y = (0 : EReal) + gpart m c t y := by
  obtain ⟨l, rfl⟩ : ∃ l : Fin 1024, y = ix2 0 l := ⟨y 1, etaG y⟩
  exact (stepA' m c t hA l).trans (zero_add _).symm
theorem stepB (c : Dev nD) (t : Fin cfg0.N) (hA : ¬ t.val % 16 = 0) (y : S1x1024.Idx) :
    (outsAt0 m c t.val t.isLt).2.2.2 y = (show FVec Ideal S1x1024 .f32 from (outsAt0 m c (t.val - 1) (Nat.lt_of_le_of_lt (Nat.sub_le _ _) t.isLt)).2.2.2) y + gpart m c t y := by
  obtain ⟨l, rfl⟩ : ∃ l : Fin 1024, y = ix2 0 l := ⟨y 1, etaG y⟩
  exact stepB' m c t hA l

theorem etaR (i : S8192x1024.Idx) : i = ix2 (i 0) (i 1) := by blk_ext
theorem etaT (y : S512x1024.Idx) : y = ix2 (y 0) (y 1) := by blk_ext

theorem final7 (c : Dev nD) : (dats m 0 c).arrAt 7 (cfgs 0).N = fun i : S8192x1024.Idx => out (Aa m c) (Wa m c) (Xa m c) (Ga m c) (Da m c) (i 0) (i 1) := by
  refine (dats m 0 c).arrAt_eq_of_covers 7 _ (by decide +kernel) fun t hf y => ?_
  blk_simp
  rw [after0_7]
  obtain ⟨r, l, rfl⟩ : ∃ (r : Fin 512) (l : Fin 1024), y = ix2 r l := ⟨y 0, y 1, etaT y⟩
  refine (o7 m c t _).trans ((out_eq m c t r l).trans ?_)
  have e0 : ((((cfg0.win 7).blk t).view.emb (ix2 r l)) 0 : Fin 8192) = at_ t r := Fin.ext (by blk_simp [idx t, at_])
  have e1 : ((((cfg0.win 7).blk t).view.emb (ix2 r l)) 1 : Fin 1024) = l := Fin.ext (by blk_simp [idx t])
  rw [e0, e1]
theorem final8 (c : Dev nD) : (dats m 0 c).arrAt 8 (cfgs 0).N = fun i : S8192x1024.Idx => out (Aa m c) (Wa m c) (Xa m c) (Ga m c) (Da m c) (i 0) (i 1) := by
  refine (dats m 0 c).arrAt_eq_of_covers 8 _ (by decide +kernel) fun t hf y => ?_
  blk_simp
  rw [after0_8]
  obtain ⟨r, l, rfl⟩ : ∃ (r : Fin 512) (l : Fin 1024), y = ix2 r l := ⟨y 0, y 1, etaT y⟩
  refine (o8 m c t _).trans ((out_eq m c t r l).trans ?_)
  have e0 : ((((cfg0.win 8).blk t).view.emb (ix2 r l)) 0 : Fin 8192) = at_ t r := Fin.ext (by blk_simp [idx t, at_])
  have e1 : ((((cfg0.win 8).blk t).view.emb (ix2 r l)) 1 : Fin 1024) = l := Fin.ext (by blk_simp [idx t])
  rw [e0, e1]

/-- The gradient of the values before the next product. -/
def next (A : Fin 8192 → Fin 4096 → EReal) (W : Fin 1024 → Fin 4096 → EReal) (X : Fin 8192 → Fin 1024 → EReal) (G : Fin 1024 → EReal)
    (D : Fin 8192 → Fin 1024 → EReal) (E : Fin 1024 → Fin 1024 → EReal) (R : Fin 8192) (o : Fin 1024) : EReal :=
  ∑ l, out A W X G D R l * E o l

theorem final9 (c : Dev nD) : (dats m 0 c).arrAt 9 (cfgs 0).N = fun i : S8192x1024.Idx => next (Aa m c) (Wa m c) (Xa m c) (Ga m c) (Da m c) (Ea m c) (i 0) (i 1) := by
  refine (dats m 0 c).arrAt_eq_of_covers 9 _ (by decide +kernel) fun t hf y => ?_
  blk_simp
  rw [after0_9]
  obtain ⟨r, l, rfl⟩ : ∃ (r : Fin 512) (l : Fin 1024), y = ix2 r l := ⟨y 0, y 1, etaT y⟩
  refine (o9 m c t r l).trans ?_
  have e0 : ((((cfg0.win 9).blk t).view.emb (ix2 r l)) 0 : Fin 8192) = at_ t r := Fin.ext (by blk_simp [idx t, at_])
  have e1 : ((((cfg0.win 9).blk t).view.emb (ix2 r l)) 1 : Fin 1024) = l := Fin.ext (by blk_simp [idx t])
  rw [e0, e1, next]

/-- The gradient of the gain: the sum over the rows. -/
def gain (A : Fin 8192 → Fin 4096 → EReal) (W : Fin 1024 → Fin 4096 → EReal) (X : Fin 8192 → Fin 1024 → EReal) (l : Fin 1024) : EReal :=
  ∑ R : Fin 8192, dn A W R l * (X R l * scale (X R))

theorem final10 (c : Dev nD) : (dats m 0 c).arrAt 10 (cfgs 0).N = fun i : S1x1024.Idx => gain (Aa m c) (Wa m c) (Xa m c) (i 1) := by
  refine (dats m 0 c).arrAt_eq_of_covers 10 _ (by decide +kernel) fun t hf y => ?_
  have hB := (flush0_10 t).mp hf
  blk_simp
  rw [after0_10,
    Pipeline.eq_sum_fin_of_reset_step_apply_of_flush (fun n h => (outsAt0 m c n h).2.2.2) 16 (fun _ => (0 : EReal)) (gpart m c)
    (fun t h j => stepA m c t h j) (fun t h j => stepB m c t h j) t hB _, zero_add]
  have hN := lt_of_lt_of_eq t.isLt N_0
  have e1 : ((((cfg0.win 10).blk t).view.emb y) 1 : Fin 1024) = y 1 := Fin.ext (by blk_simp [idx t])
  unfold gain gpart
  rw [e1]
  refine Fin.sum_mul_add_congr fun s r hl => ?_
  have e : at_ ⟨16 * (t.val / 16) + s.val, Pipeline.run_point_lt_of_flush t hB s⟩ r = ⟨s.val * 512 + r.val, hl⟩ := Fin.ext (by show (16 * (t.val / 16) + s.val) * 512 + r.val = s.val * 512 + r.val; omega)
  rw [e]
end Cert.Kernel6Ideal.Up

namespace Cert.UpPair
open Idealize.ShloMosaic Idealize.ShloMosaic.TcCoe Idealize.SL.Sem Cert.Norms
open Cert.Reference6Ideal Cert.Reference6Ideal.Read in
theorem read37 (x0 x1 x2 x3 x4) (R : Fin 8192) (l : Fin 1024) : val_main_v37 (F := Ideal) x0 x1 x2 x3 x4 (ix2 R l)
    = Cert.Kernel6Ideal.Up.out (fun R f => x0 (ix2 R f)) (fun l f => x1 (ix2 l f)) (fun R l => x2 (ix2 R l)) (fun l => x3 (ix2 0 l)) (fun R l => x4 (ix2 R l)) R l := by
  unfold Cert.Kernel6Ideal.Up.out
  rw [back_eq]
  unfold backR Cert.Norms.slope scale under Cert.Kernel6Ideal.Up.dn
  pointwise [val_main_v0, val_main_v1, val_main_v2, val_main_v3, val_main_v4, val_main_v5, val_main_v6, val_main_v7, val_main_v8, val_main_v9, val_main_v10, val_main_v11, val_main_v12, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v40, val_main_v41, val_main_v42, val_main_cst, val_main_cst_0, val_main_cst_1, val_main_cst_2, val_main_cst_3, val_main_cst_4, val_main_cst_5, val_main_cst_6]
  simp only [Finset.sum_const, Finset.card_univ, Fintype.card_fin, one_smul]
open Cert.Reference6Ideal Cert.Reference6Ideal.Read in
theorem read41 (x0 x1 x2 x3 x4) (R : Fin 8192) (l : Fin 1024) : val_main_v41 (F := Ideal) x0 x1 x2 x3 x4 (ix2 R l)
    = Cert.Kernel6Ideal.Up.out (fun R f => x0 (ix2 R f)) (fun l f => x1 (ix2 l f)) (fun R l => x2 (ix2 R l)) (fun l => x3 (ix2 0 l)) (fun R l => x4 (ix2 R l)) R l := by
  rw [← read37]
  unfold val_main_v41
  generalize val_main_v37 (F := Ideal) x0 x1 x2 x3 x4 = P
  pointwise
open Cert.Reference6Ideal Cert.Reference6Ideal.Read in
theorem read42 (x0 x1 x2 x3 x4 x5) (R : Fin 8192) (o : Fin 1024) : val_main_v42 (F := Ideal) x0 x1 x2 x3 x4 x5 (ix2 R o)
    = Cert.Kernel6Ideal.Up.next (fun R f => x0 (ix2 R f)) (fun l f => x1 (ix2 l f)) (fun R l => x2 (ix2 R l)) (fun l => x3 (ix2 0 l)) (fun R l => x4 (ix2 R l)) (fun o l => x5 (ix2 o l)) R o := by
  unfold Cert.Kernel6Ideal.Up.next
  simp only [← read37]
  unfold val_main_v42 val_main_v40
  generalize val_main_v37 (F := Ideal) x0 x1 x2 x3 x4 = P
  pointwise
open Cert.Reference6Ideal Cert.Reference6Ideal.Read in
theorem read20 (x0 x1 x2) (l : Fin 1024) : val_main_v20 (F := Ideal) x0 x1 x2 (ix2 0 l)
    = Cert.Kernel6Ideal.Up.gain (fun R f => x0 (ix2 R f)) (fun l f => x1 (ix2 l f)) (fun R l => x2 (ix2 R l)) l := by
  unfold Cert.Kernel6Ideal.Up.gain scale under Cert.Kernel6Ideal.Up.dn
  pointwise [val_main_v0, val_main_v1, val_main_v2, val_main_v3, val_main_v4, val_main_v5, val_main_v6, val_main_v7, val_main_v8, val_main_v9, val_main_v10, val_main_v11, val_main_v12, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v40, val_main_v41, val_main_v42, val_main_cst, val_main_cst_0, val_main_cst_1, val_main_cst_2, val_main_cst_3, val_main_cst_4, val_main_cst_5, val_main_cst_6]
  exact Finset.sum_congr rfl fun R _ => mul_comm _ _

theorem algebraic : Cert.algebraic_Kernel6Ideal_Reference6Ideal := by
  pair_intro
  · run_from Cert.Kernel6Ideal.Gen.run_main m g
  · refine Idealize.ShloMosaic.θ_run_mono (Cert.Reference6Ideal.Value.run m' g') ?_
    intro r hr c
    obtain ⟨h0, h1, h2, h3, hrest⟩ := hr c
    obtain ⟨a0, a1, a2, a3, a4, a5⟩ := hagree c
    refine ⟨h0.trans ?_, h1.trans ?_, h2.trans ?_, h3.trans ?_, hrest⟩
    · clear h0 h1 h2 h3 hrest
      rw [Cert.Reference6Ideal.Read.val_main_v37_eq, Cert.Kernel6Ideal.Up.final7, a0, a1, a2, a3, a4]
      funext i
      rw [Cert.Kernel6Ideal.Up.etaR i]
      exact read37 _ _ _ _ _ (i 0) (i 1)
    · clear h0 h1 h2 h3 hrest
      rw [Cert.Reference6Ideal.Read.val_main_v41_eq, Cert.Kernel6Ideal.Up.final8, a0, a1, a2, a3, a4]
      funext i
      rw [Cert.Kernel6Ideal.Up.etaR i]
      exact read41 _ _ _ _ _ (i 0) (i 1)
    · clear h0 h1 h2 h3 hrest
      rw [Cert.Reference6Ideal.Read.val_main_v42_eq, Cert.Kernel6Ideal.Up.final9, a0, a1, a2, a3, a4, a5]
      funext i
      rw [Cert.Kernel6Ideal.Up.etaR i]
      exact read42 _ _ _ _ _ _ (i 0) (i 1)
    · clear h0 h1 h2 h3 hrest
      rw [Cert.Reference6Ideal.Read.val_main_v20_eq, Cert.Kernel6Ideal.Up.final10, a0, a1, a2]
      funext i
      rw [Cert.Kernel6Ideal.Up.etaG i]
      exact read20 _ _ _ (i 1)

end Cert.UpPair
-- ==== Proof.InPair.lean ====
/-
  The gradient back through the product that splits a token into five parts, and through its normalisation: the
  kernel takes the five slabs of the arriving gradient side by side, a tile of rows at a time, and adds up the gain's
  gradient from tile to tile; its two arrays are the reference's, at every input.
-/
module

public import proofs.«01_k».proof.Defs
public import proofs.«01_k».proof.Proof.Gen.Kernel7Ideal.Frame
public import proofs.«01_k».proof.Proof.Gen.Reference7Ideal.Read
public import Idealize.ShloMosaic.Lib.Pipeline.ValueKit
public import Idealize.ShloMosaic.Lib.Pipeline.ReadBack
public import Idealize.ShloMosaic.Lib.Pointwise
public import Idealize.ShloMosaic.Lib.Claim
public import proofs.«01_k».proof.Proof.Norms

@[expose] public section
set_option maxRecDepth 16384
noncomputable section
namespace Cert.Kernel7Ideal.In
open Cert.Kernel7Ideal Cert.Kernel7Ideal.Gen Idealize.ShloMosaic Idealize.ShloMosaic.TcCoe Idealize.SL.Sem Cert.Norms
open Idealize.ShloMosaic.Pipeline (Dat)
variable (m : (ℓ : Loc nD τ sig) → Buf (Elt Ideal) ℓ)
theorem idx : ∀ t : Fin cfg0.N,
    win0_0.index t = ![0, t.val, 0] ∧ win0_1.index t = ![0, 0] ∧ win0_2.index t = ![t.val, 0] ∧ win0_3.index t = ![0, 0]
      ∧ win0_4.index t = ![t.val, 0] ∧ win0_6.index t = ![t.val, 0] ∧ win0_7.index t = ![0, 0] :=
  (by decide +kernel : ∀ t : Fin grid0.N, _)

/-- The gradient of the five parts, in slabs. -/
abbrev Aa (c : Dev nD) (s : Fin 5) (R : Fin 8192) (k : Fin 512) : EReal := (show FVec Ideal S5x8192x512 .bf16 from m ((c : Thread nD τ).loc main_arg0)) (ix3 s R k)
/-- The weights of the product. -/
abbrev Wa (c : Dev nD) (l : Fin 1024) (q : Fin 2560) : EReal := (show FVec Ideal S1024x2560 .f32 from m ((c : Thread nD τ).loc main_arg1)) (ix2 l q)
/-- The tokens. -/
abbrev Xa (c : Dev nD) (R : Fin 8192) (l : Fin 1024) : EReal := (show FVec Ideal S8192x1024 .f32 from m ((c : Thread nD τ).loc main_arg2)) (ix2 R l)
/-- The gain of the normalisation. -/
abbrev Ga (c : Dev nD) (l : Fin 1024) : EReal := (show FVec Ideal S1x1024 .f32 from m ((c : Thread nD τ).loc main_arg3)) (ix2 0 l)
/-- The gradient that arrives beside the product. -/
abbrev Da (c : Dev nD) (R : Fin 8192) (l : Fin 1024) : EReal := (show FVec Ideal S8192x1024 .f32 from m ((c : Thread nD τ).loc main_arg4)) (ix2 R l)
/-- Row `r` of the tile of point `t`. -/
def at_ (t : Fin cfg0.N) (r : Fin 1024) : Fin 8192 := ⟨t.val * 1024 + r.val, by have := lt_of_lt_of_eq t.isLt N_0; omega⟩
/-- The slab of a column of the product, and its place there. -/
def slab (q : Fin 2560) : Fin 5 := ⟨q.val / 512, by omega⟩
def place (q : Fin 2560) : Fin 512 := ⟨q.val % 512, by omega⟩

theorem V0 (c : Dev nD) (l : Fin 1024) (q : Fin 2560) : (show FVec Ideal S1024x2560 .bf16 from V m c main_v0) (ix2 l q) = Wa m c l q := by
  simp only [V, hostOps0, List.flatten_cons, List.flatten_nil, List.append_nil, List.cons_append, List.nil_append]
  entry_read
  pointwise

theorem blk0 (c : Dev nD) (t : Fin cfg0.N) (s : Fin 5) (r : Fin 1024) (k : Fin 512) : (show FVec Ideal S5x1024x512 .bf16 from iblk m c 0 t) (ix3 s r k) = Aa m c s (at_ t r) k := by
  blk_ext [iblk, V, idx t, at_]
theorem blk1 (c : Dev nD) (t : Fin cfg0.N) (l : Fin 1024) (q : Fin 2560) : (show FVec Ideal S1024x2560 .bf16 from iblk m c 1 t) (ix2 l q) = Wa m c l q := by
  refine Eq.trans ?_ (V0 m c l q)
  blk_ext [iblk, idx t, at_]
theorem blk2 (c : Dev nD) (t : Fin cfg0.N) (r : Fin 1024) (l : Fin 1024) : (show FVec Ideal S1024x1024 .f32 from iblk m c 2 t) (ix2 r l) = Xa m c (at_ t r) l := by
  blk_ext [iblk, V, idx t, at_]
theorem blk3 (c : Dev nD) (t : Fin cfg0.N) (l : Fin 1024) : (show FVec Ideal S1x1024 .f32 from iblk m c 3 t) (ix2 0 l) = Ga m c l := by
  blk_ext [iblk, V, idx t, at_]
theorem blk4 (c : Dev nD) (t : Fin cfg0.N) (r : Fin 1024) (l : Fin 1024) : (show FVec Ideal S1024x1024 .f32 from iblk m c 4 t) (ix2 r l) = Da m c (at_ t r) l := by
  blk_ext [iblk, V, idx t, at_]

/-- Slab 0 of the tile. -/
abbrev R0 : Rect S5x1024x512 := Rect.unit ![0, 0, 0] ![1, 1024, 512] inb_S5x1024x512_S1x1024x512_0_0_0
theorem part0 (c : Dev nD) (t : Fin cfg0.N) (r : Fin 1024) (k : Fin 512) : (show EReal from (View.ld (iblk m c 0 t) R0 : FVec Ideal S1x1024x512 .bf16) (ix3 0 r k)) = Aa m c 0 (at_ t r) k := by
  refine Eq.trans (congrArg (iblk m c 0 t) ?_) (blk0 m c t 0 r k)
  funext a
  match a with
  | ⟨0, _⟩ => rfl
  | ⟨1, _⟩ => exact Fin.ext (by show 0 + 1 * r.val = r.val; omega)
  | ⟨2, _⟩ => exact Fin.ext (by show 0 + 1 * k.val = k.val; omega)
/-- Slab 1 of the tile. -/
abbrev R1 : Rect S5x1024x512 := Rect.unit ![1, 0, 0] ![1, 1024, 512] inb_S5x1024x512_S1x1024x512_1_0_0
theorem part1 (c : Dev nD) (t : Fin cfg0.N) (r : Fin 1024) (k : Fin 512) : (show EReal from (View.ld (iblk m c 0 t) R1 : FVec Ideal S1x1024x512 .bf16) (ix3 0 r k)) = Aa m c 1 (at_ t r) k := by
  refine Eq.trans (congrArg (iblk m c 0 t) ?_) (blk0 m c t 1 r k)
  funext a
  match a with
  | ⟨0, _⟩ => rfl
  | ⟨1, _⟩ => exact Fin.ext (by show 0 + 1 * r.val = r.val; omega)
  | ⟨2, _⟩ => exact Fin.ext (by show 0 + 1 * k.val = k.val; omega)
/-- Slab 2 of the tile. -/
abbrev R2 : Rect S5x1024x512 := Rect.unit ![2, 0, 0] ![1, 1024, 512] inb_S5x1024x512_S1x1024x512_2_0_0
theorem part2 (c : Dev nD) (t : Fin cfg0.N) (r : Fin 1024) (k : Fin 512) : (show EReal from (View.ld (iblk m c 0 t) R2 : FVec Ideal S1x1024x512 .bf16) (ix3 0 r k)) = Aa m c 2 (at_ t r) k := by
  refine Eq.trans (congrArg (iblk m c 0 t) ?_) (blk0 m c t 2 r k)
  funext a
  match a with
  | ⟨0, _⟩ => rfl
  | ⟨1, _⟩ => exact Fin.ext (by show 0 + 1 * r.val = r.val; omega)
  | ⟨2, _⟩ => exact Fin.ext (by show 0 + 1 * k.val = k.val; omega)
/-- Slab 3 of the tile. -/
abbrev R3 : Rect S5x1024x512 := Rect.unit ![3, 0, 0] ![1, 1024, 512] inb_S5x1024x512_S1x1024x512_3_0_0
theorem part3 (c : Dev nD) (t : Fin cfg0.N) (r : Fin 1024) (k : Fin 512) : (show EReal from (View.ld (iblk m c 0 t) R3 : FVec Ideal S1x1024x512 .bf16) (ix3 0 r k)) = Aa m c 3 (at_ t r) k := by
  refine Eq.trans (congrArg (iblk m c 0 t) ?_) (blk0 m c t 3 r k)
  funext a
  match a with
  | ⟨0, _⟩ => rfl
  | ⟨1, _⟩ => exact Fin.ext (by show 0 + 1 * r.val = r.val; omega)
  | ⟨2, _⟩ => exact Fin.ext (by show 0 + 1 * k.val = k.val; omega)
/-- Slab 4 of the tile. -/
abbrev R4 : Rect S5x1024x512 := Rect.unit ![4, 0, 0] ![1, 1024, 512] inb_S5x1024x512_S1x1024x512_4_0_0
theorem part4 (c : Dev nD) (t : Fin cfg0.N) (r : Fin 1024) (k : Fin 512) : (show EReal from (View.ld (iblk m c 0 t) R4 : FVec Ideal S1x1024x512 .bf16) (ix3 0 r k)) = Aa m c 4 (at_ t r) k := by
  refine Eq.trans (congrArg (iblk m c 0 t) ?_) (blk0 m c t 4 r k)
  funext a
  match a with
  | ⟨0, _⟩ => rfl
  | ⟨1, _⟩ => exact Fin.ext (by show 0 + 1 * r.val = r.val; omega)
  | ⟨2, _⟩ => exact Fin.ext (by show 0 + 1 * k.val = k.val; omega)

/-- The gradient at the normalised row, as the kernel stores it. -/
def dnv (c : Dev nD) (t : Fin cfg0.N) : FVec Ideal S1024x1024 .f32 :=
  k0_pay3 (F := Ideal) (View.ld (iblk m c 0 t) R0) (View.ld (iblk m c 0 t) R1) (View.ld (iblk m c 0 t) R2) (View.ld (iblk m c 0 t) R3) (View.ld (iblk m c 0 t) R4) (iblk m c 1 t)
/-- The gradient at the normalised row. -/
def dn (A : Fin 5 → Fin 8192 → Fin 512 → EReal) (W : Fin 1024 → Fin 2560 → EReal) (R : Fin 8192) (l : Fin 1024) : EReal := ∑ q, A (slab q) R (place q) * W l q

theorem pay3_eq (a0 a1 a2 a3 a4 : FVec Ideal S1x1024x512 .bf16) (w : FVec Ideal S1024x2560 .bf16) (A : Fin 5 → Fin 512 → EReal) (W : Fin 2560 → EReal) (r l : Fin 1024)
    (h0 : ∀ k, a0 (ix3 0 r k) = A 0 k) (h1 : ∀ k, a1 (ix3 0 r k) = A 1 k) (h2 : ∀ k, a2 (ix3 0 r k) = A 2 k) (h3 : ∀ k, a3 (ix3 0 r k) = A 3 k)
    (h4 : ∀ k, a4 (ix3 0 r k) = A 4 k) (hw : ∀ q, w (ix2 l q) = W q) :
    (show EReal from k0_pay3 (F := Ideal) a0 a1 a2 a3 a4 w (ix2 r l)) = ∑ q : Fin 2560, A (slab q) (place q) * W q := by
  pointwise [k0_pay3]
  refine Finset.sum_congr rfl fun q _ => ?_
  rw [hw q]
  refine congrArg (· * W q) ?_
  have hq := q.isLt
  have key : ∀ (s : Fin 5) (k : Fin 512), q.val = s.val * 512 + k.val → A s k = A (slab q) (place q) := fun s k e => by
    have es : s = slab q := Fin.ext (by show s.val = q.val / 512; omega)
    have ek : k = place q := Fin.ext (by show k.val = q.val % 512; omega)
    rw [← es, ← ek]
  split
  · exact (h0 _).trans (key 0 _ (by show q.val = 0 * 512 + q.val; omega))
  · split
    · exact (h1 _).trans (key 1 _ (by show q.val = 1 * 512 + (q.val - 512); omega))
    · split
      · exact (h2 _).trans (key 2 _ (by show q.val = 2 * 512 + (q.val - 512 - 512); omega))
      · split
        · exact (h3 _).trans (key 3 _ (by show q.val = 3 * 512 + (q.val - 512 - 512 - 512); omega))
        · exact (h4 _).trans (key 4 _ (by show q.val = 4 * 512 + (q.val - 512 - 512 - 512 - 512); omega))
theorem dnv_eq (c : Dev nD) (t : Fin cfg0.N) (r : Fin 1024) (l : Fin 1024) : dnv m c t (ix2 r l) = dn (Aa m c) (Wa m c) (at_ t r) l :=
  pay3_eq _ _ _ _ _ _ (fun s k => Aa m c s (at_ t r) k) (fun q => Wa m c l q) r l (part0 m c t r) (part1 m c t r) (part2 m c t r) (part3 m c t r) (part4 m c t r) (blk1 m c t l)

/-- What a row of the normalisation's gradient is, from the gradient at the normalised row. -/
theorem pay2_eq (P x : FVec Ideal S1024x1024 .f32) (g : FVec Ideal S1x1024 .f32) (d : FVec Ideal S1024x1024 .f32) (r : Fin 1024) (l : Fin 1024) :
    (show EReal from k0_pay2 (F := Ideal) P (k0_pay4 (F := Ideal) x) (k0_pay5 (F := Ideal) x) g d (ix2 r l)) = backK (fun l => x (ix2 r l)) (fun l => P (ix2 r l) * g (ix2 0 l)) (d (ix2 r l)) l := by
  unfold backK scale under
  pointwise [k0_pay2, k0_pay4, k0_pay5]
theorem pay6_eq (a0 a1 a2 a3 a4 : FVec Ideal S1x1024x512 .bf16) (w : FVec Ideal S1024x2560 .bf16) (x : FVec Ideal S1024x1024 .f32) (l : Fin 1024) :
    (show EReal from k0_pay6 (F := Ideal) a0 a1 a2 a3 a4 w x (ix2 0 l)) = ∑ r : Fin 1024, k0_pay3 (F := Ideal) a0 a1 a2 a3 a4 w (ix2 r l) * (x (ix2 r l) * scale fun k : Fin 1024 => x (ix2 r k)) := by
  unfold k0_pay6 scale under
  generalize k0_pay3 (F := Ideal) a0 a1 a2 a3 a4 w = P
  pointwise [k0_pay4, k0_pay5]
theorem pay1_eq (v o : FVec Ideal S1x1024 .f32) (l : Fin 1024) : (show EReal from k0_pay1 (F := Ideal) v o (ix2 0 l)) = o (ix2 0 l) + v (ix2 0 l) := by
  pointwise [k0_pay1]

/-- The gradient of the tile's rows, as the kernel stores it. -/
def ov (c : Dev nD) (t : Fin cfg0.N) : FVec Ideal S1024x1024 .f32 :=
  k0_pay2 (F := Ideal) (dnv m c t) (k0_pay4 (F := Ideal) (iblk m c 2 t)) (k0_pay5 (F := Ideal) (iblk m c 2 t)) (iblk m c 3 t) (iblk m c 4 t)

theorem o6 (c : Dev nD) (t : Fin cfg0.N) (y : S1024x1024.Idx) : (outsAt0 m c t.val t.isLt).1 y = ov m c t y := by
  have hn := lt_of_lt_of_eq t.isLt N_0
  by_cases hA : t.val % 8 = 0
  · rw [outsAt0_A m c t hA (by omega)]
    frame_out
    rfl
  · rw [outsAt0_B m c t hA (by omega)]
    frame_out
    rfl

/-- The gradient of a row: what arrives plus what comes through the normalisation. -/
def out (A : Fin 5 → Fin 8192 → Fin 512 → EReal) (W : Fin 1024 → Fin 2560 → EReal) (X : Fin 8192 → Fin 1024 → EReal) (G : Fin 1024 → EReal)
    (D : Fin 8192 → Fin 1024 → EReal) (R : Fin 8192) (l : Fin 1024) : EReal :=
  backK (X R) (fun l => dn A W R l * G l) (D R l) l

theorem ov_eq (c : Dev nD) (t : Fin cfg0.N) (r : Fin 1024) (l : Fin 1024) :
    ov m c t (ix2 r l) = out (Aa m c) (Wa m c) (Xa m c) (Ga m c) (Da m c) (at_ t r) l := by
  unfold ov
  refine (pay2_eq _ _ _ _ r l).trans ?_
  unfold out
  have e1 : (fun l => (show FVec Ideal S1024x1024 .f32 from iblk m c 2 t) (ix2 r l)) = Xa m c (at_ t r) := funext fun l => blk2 m c t r l
  have e2 : (fun l => dnv m c t (ix2 r l) * (show FVec Ideal S1x1024 .f32 from iblk m c 3 t) (ix2 0 l)) = fun l => dn (Aa m c) (Wa m c) (at_ t r) l * Ga m c l :=
    funext fun l => congrArg₂ (· * ·) (dnv_eq m c t r l) (blk3 m c t l)
  have e3 := blk4 m c t r l
  exact congr (congr (congrArg₂ backK e1 e2) e3) rfl

/-- What the tile of point `t` adds to the gradient of the gain. -/
def gpart (c : Dev nD) (t : Fin cfg0.N) (y : S1x1024.Idx) : EReal :=
  ∑ r : Fin 1024, dn (Aa m c) (Wa m c) (at_ t r) (y 1) * (Xa m c (at_ t r) (y 1) * scale (Xa m c (at_ t r)))

theorem gpart_eq (c : Dev nD) (t : Fin cfg0.N) (l : Fin 1024) :
    (∑ r : Fin 1024, dnv m c t (ix2 r l) * ((show FVec Ideal S1024x1024 .f32 from iblk m c 2 t) (ix2 r l) * scale fun k => (show FVec Ideal S1024x1024 .f32 from iblk m c 2 t) (ix2 r k)))
      = gpart m c t (ix2 0 l) := by
  unfold gpart
  refine Finset.sum_congr rfl fun r _ => congrArg₂ (· * ·) (dnv_eq m c t r l) (congrArg₂ (· * ·) (blk2 m c t r l) (congrArg scale ?_))
  exact funext fun k => blk2 m c t r k

theorem etaG (y : S1x1024.Idx) : y = ix2 0 (y 1) := by blk_ext

theorem stepA' (c : Dev nD) (t : Fin cfg0.N) (hA : t.val % 8 = 0) (l : Fin 1024) :
    (outsAt0 m c t.val t.isLt).2 (ix2 0 l) = gpart m c t (ix2 0 l) := by
  have hn := lt_of_lt_of_eq t.isLt N_0
  refine Eq.trans ?_ (gpart_eq m c t l)
  rw [outsAt0_A m c t hA (by omega)]
  frame_out
  exact pay6_eq _ _ _ _ _ _ _ _
theorem stepB' (c : Dev nD) (t : Fin cfg0.N) (hA : ¬ t.val % 8 = 0) (l : Fin 1024) :
    (outsAt0 m c t.val t.isLt).2 (ix2 0 l) = (show FVec Ideal S1x1024 .f32 from (outsAt0 m c (t.val - 1) (Nat.lt_of_le_of_lt (Nat.sub_le _ _) t.isLt)).2) (ix2 0 l) + gpart m c t (ix2 0 l) := by
  have hn := lt_of_lt_of_eq t.isLt N_0
  refine Eq.trans ?_ (congrArg (_ + ·) (gpart_eq m c t l))
  rw [outsAt0_B m c t hA (by omega)]
  frame_out
  exact (pay1_eq _ _ _).trans (congrArg (_ + ·) (pay6_eq _ _ _ _ _ _ _ _))
theorem stepA (c : Dev nD) (t : Fin cfg0.N) (hA : t.val % 8 = 0) (y : S1x1024.Idx) :
    (outsAt0 m c t.val t.isLt).2 y = (0 : EReal) + gpart m c t y := by
  obtain ⟨l, rfl⟩ : ∃ l : Fin 1024, y = ix2 0 l := ⟨y 1, etaG y⟩
  exact (stepA' m c t hA l).trans (zero_add _).symm
theorem stepB (c : Dev nD) (t : Fin cfg0.N) (hA : ¬ t.val % 8 = 0) (y : S1x1024.Idx) :
    (outsAt0 m c t.val t.isLt).2 y = (show FVec Ideal S1x1024 .f32 from (outsAt0 m c (t.val - 1) (Nat.lt_of_le_of_lt (Nat.sub_le _ _) t.isLt)).2) y + gpart m c t y := by
  obtain ⟨l, rfl⟩ : ∃ l : Fin 1024, y = ix2 0 l := ⟨y 1, etaG y⟩
  exact stepB' m c t hA l

theorem etaR (i : S8192x1024.Idx) : i = ix2 (i 0) (i 1) := by blk_ext
theorem etaT (y : S1024x1024.Idx) : y = ix2 (y 0) (y 1) := by blk_ext

theorem final6 (c : Dev nD) : (dats m 0 c).arrAt 6 (cfgs 0).N = fun i : S8192x1024.Idx => out (Aa m c) (Wa m c) (Xa m c) (Ga m c) (Da m c) (i 0) (i 1) := by
  refine (dats m 0 c).arrAt_eq_of_covers 6 _ (by decide +kernel) fun t hf y => ?_
  blk_simp
  rw [after0_6]
  obtain ⟨r, l, rfl⟩ : ∃ (r : Fin 1024) (l : Fin 1024), y = ix2 r l := ⟨y 0, y 1, etaT y⟩
  refine (o6 m c t _).trans ((ov_eq m c t r l).trans ?_)
  have e0 : ((((cfg0.win 6).blk t).view.emb (ix2 r l)) 0 : Fin 8192) = at_ t r := Fin.ext (by blk_simp [idx t, at_])
  have e1 : ((((cfg0.win 6).blk t).view.emb (ix2 r l)) 1 : Fin 1024) = l := Fin.ext (by blk_simp [idx t])
  rw [e0, e1]
/-- The gradient of the gain: the sum over the rows. -/
def gain (A : Fin 5 → Fin 8192 → Fin 512 → EReal) (W : Fin 1024 → Fin 2560 → EReal) (X : Fin 8192 → Fin 1024 → EReal) (l : Fin 1024) : EReal :=
  ∑ R : Fin 8192, dn A W R l * (X R l * scale (X R))

theorem final7 (c : Dev nD) : (dats m 0 c).arrAt 7 (cfgs 0).N = fun i : S1x1024.Idx => gain (Aa m c) (Wa m c) (Xa m c) (i 1) := by
  refine (dats m 0 c).arrAt_eq_of_covers 7 _ (by decide +kernel) fun t hf y => ?_
  have hB := (flush0_7 t).mp hf
  blk_simp
  rw [after0_7,
    Pipeline.eq_sum_fin_of_reset_step_apply_of_flush (fun n h => (outsAt0 m c n h).2) 8 (fun _ => (0 : EReal)) (gpart m c)
    (fun t h j => stepA m c t h j) (fun t h j => stepB m c t h j) t hB _, zero_add]
  have hN := lt_of_lt_of_eq t.isLt N_0
  have e1 : ((((cfg0.win 7).blk t).view.emb y) 1 : Fin 1024) = y 1 := Fin.ext (by blk_simp [idx t])
  unfold gain gpart
  rw [e1]
  refine Fin.sum_mul_add_congr fun s r hl => ?_
  have e : at_ ⟨8 * (t.val / 8) + s.val, Pipeline.run_point_lt_of_flush t hB s⟩ r = ⟨s.val * 1024 + r.val, hl⟩ := Fin.ext (by show (8 * (t.val / 8) + s.val) * 1024 + r.val = s.val * 1024 + r.val; omega)
  rw [e]
end Cert.Kernel7Ideal.In

namespace Cert.InPair
open Idealize.ShloMosaic Idealize.ShloMosaic.TcCoe Idealize.SL.Sem Cert.Norms
open Cert.Reference7Ideal Cert.Reference7Ideal.Read in
theorem read2 (x0) (R : Fin 8192) (q : Fin 2560) : val_main_v2 (F := Ideal) x0 (ix2 R q) = x0 (ix3 (Cert.Kernel7Ideal.In.slab q) R (Cert.Kernel7Ideal.In.place q)) := by
  have hq := q.isLt
  have hR := R.isLt
  pointwise [val_main_v2, val_main_v1, val_main_v0]
  rfl
open Cert.Reference7Ideal Cert.Reference7Ideal.Read in
theorem read19 (x0 x1) (R : Fin 8192) (l : Fin 1024) : val_main_v19 (F := Ideal) x0 x1 (ix2 R l)
    = Cert.Kernel7Ideal.In.dn (fun s R k => x0 (ix3 s R k)) (fun l q => x1 (ix2 l q)) R l := by
  unfold Cert.Kernel7Ideal.In.dn
  simp only [← read2]
  unfold val_main_v19
  generalize val_main_v2 (F := Ideal) x0 = P
  pointwise
open Cert.Reference7Ideal Cert.Reference7Ideal.Read in
theorem read39 (x0 x1 x2 x3 x4) (R : Fin 8192) (l : Fin 1024) : val_main_v39 (F := Ideal) x0 x1 x2 x3 x4 (ix2 R l)
    = Cert.Kernel7Ideal.In.out (fun s R k => x0 (ix3 s R k)) (fun l q => x1 (ix2 l q)) (fun R l => x2 (ix2 R l)) (fun l => x3 (ix2 0 l)) (fun R l => x4 (ix2 R l)) R l := by
  unfold Cert.Kernel7Ideal.In.out
  rw [back_eq]
  unfold backR Cert.Norms.slope scale under
  simp only [← read19]
  unfold val_main_v39 val_main_v38 val_main_v37 val_main_v36 val_main_v35 val_main_v34 val_main_v33 val_main_v31 val_main_v30 val_main_v29 val_main_v27 val_main_v26 val_main_v25 val_main_v24
  generalize val_main_v19 (F := Ideal) x0 x1 = P
  pointwise [val_main_v3, val_main_v4, val_main_v5, val_main_v6, val_main_v7, val_main_v8, val_main_v9, val_main_v10, val_main_v11, val_main_v12, val_main_v13, val_main_v14, val_main_v15, val_main_v16, val_main_v17, val_main_v18, val_main_v23, val_main_v24, val_main_v25, val_main_v26, val_main_v27, val_main_v28, val_main_v29, val_main_v30, val_main_v31, val_main_v32, val_main_v33, val_main_v34, val_main_v35, val_main_v36, val_main_v37, val_main_v38, val_main_cst, val_main_cst_0, val_main_cst_1, val_main_cst_2, val_main_cst_3, val_main_cst_4, val_main_cst_5, val_main_cst_6]
  simp only [Finset.sum_const, Finset.card_univ, Fintype.card_fin, one_smul]
open Cert.Reference7Ideal Cert.Reference7Ideal.Read in
theorem read22 (x0 x1 x2) (l : Fin 1024) : val_main_v22 (F := Ideal) x0 x1 x2 (ix2 0 l)
    = Cert.Kernel7Ideal.In.gain (fun s R k => x0 (ix3 s R k)) (fun l q => x1 (ix2 l q)) (fun R l => x2 (ix2 R l)) l := by
  unfold Cert.Kernel7Ideal.In.gain scale under
  simp only [← read19]
  unfold val_main_v22 val_main_v21 val_main_v20
  generalize val_main_v19 (F := Ideal) x0 x1 = P
  pointwise [val_main_v3, val_main_v4, val_main_v5, val_main_v6, val_main_v7, val_main_v8, val_main_v9, val_main_v10, val_main_v11, val_main_v12, val_main_v13, val_main_v14, val_main_v15, val_main_v16, val_main_v17, val_main_v18, val_main_v23, val_main_v24, val_main_v25, val_main_v26, val_main_v27, val_main_v28, val_main_v29, val_main_v30, val_main_v31, val_main_v32, val_main_v33, val_main_v34, val_main_v35, val_main_v36, val_main_v37, val_main_v38, val_main_cst, val_main_cst_0, val_main_cst_1, val_main_cst_2, val_main_cst_3, val_main_cst_4, val_main_cst_5, val_main_cst_6]
  exact Finset.sum_congr rfl fun R _ => mul_comm _ _

theorem algebraic : Cert.algebraic_Kernel7Ideal_Reference7Ideal := by
  pair_intro
  · run_from Cert.Kernel7Ideal.Gen.run_main m g
  · refine Idealize.ShloMosaic.θ_run_mono (Cert.Reference7Ideal.Value.run m' g') ?_
    intro r hr c
    obtain ⟨h0, h1, hrest⟩ := hr c
    obtain ⟨a0, a1, a2, a3, a4⟩ := hagree c
    refine ⟨h0.trans ?_, h1.trans ?_, hrest⟩
    · clear h0 h1 hrest
      rw [Cert.Reference7Ideal.Read.val_main_v39_eq, Cert.Kernel7Ideal.In.final6, a0, a1, a2, a3, a4]
      funext i
      rw [Cert.Kernel7Ideal.In.etaR i]
      exact read39 _ _ _ _ _ (i 0) (i 1)
    · clear h0 h1 hrest
      rw [Cert.Reference7Ideal.Read.val_main_v22_eq, Cert.Kernel7Ideal.In.final7, a0, a1, a2]
      funext i
      rw [Cert.Kernel7Ideal.In.etaG i]
      exact read22 _ _ _ (i 1)
end Cert.InPair
-- ==== Proof.WInPair.lean ====
/-
  The gradient of the weights of the input product: the arriving gradient lies in five slabs of columns; the kernel adds up,
  tile of rows by tile of rows; its array is the reference's, at every input.
-/
module

public import proofs.«01_k».proof.Defs
public import proofs.«01_k».proof.Proof.Gen.Kernel8Ideal.Frame
public import proofs.«01_k».proof.Proof.Gen.Reference8Ideal.Read
public import Idealize.ShloMosaic.Lib.Pipeline.ValueKit
public import Idealize.ShloMosaic.Lib.Pipeline.ReadBack
public import Idealize.ShloMosaic.Lib.Pointwise
public import Idealize.ShloMosaic.Lib.Claim
public import proofs.«01_k».proof.Proof.Covers

@[expose] public section
set_option maxRecDepth 16384
noncomputable section
namespace Cert.Kernel8Ideal.WIn
open Cert.Kernel8Ideal Cert.Kernel8Ideal.Gen Idealize.ShloMosaic Idealize.ShloMosaic.TcCoe Idealize.SL.Sem
open Idealize.ShloMosaic.Pipeline (Dat)
variable (m : (ℓ : Loc nD τ sig) → Buf (Elt Ideal) ℓ)
theorem idx : ∀ t : Fin cfg0.N,
    win0_0.index t = ![t.val, 0] ∧ win0_1.index t = ![0, t.val, 0] ∧ win0_2.index t = ![0, 0] :=
  (by decide +kernel : ∀ t : Fin grid0.N, _)

/-- The values that went in, at a row and a column. -/
def Aa (c : Dev nD) (R : Fin 8192) (k : Fin 1024) : EReal := (show FVec Ideal S8192x1024 .bf16 from m ((c : Thread nD τ).loc main_arg0)) (ix2 R k)
/-- The gradient that arrives. -/
def Ba (c : Dev nD) (R : Fin 8192) (f : Fin 2560) : EReal := (show FVec Ideal S5x8192x512 .bf16 from m ((c : Thread nD τ).loc main_arg1)) (ix3 ⟨f.val / 512, by omega⟩ R ⟨f.val % 512, by omega⟩)

/-- Row `r` of the tile of point `t`. -/
def at_ (t : Fin cfg0.N) (r : Fin 1024) : Fin 8192 := ⟨t.val * 1024 + r.val, by have := lt_of_lt_of_eq t.isLt N_0; omega⟩

theorem blk0 (c : Dev nD) (t : Fin cfg0.N) (r : Fin 1024) (p q : Fin 1024) (h : q.val = p.val) : (show FVec Ideal S1024x1024 .bf16 from iblk m c 0 t) (ix2 r p) = Aa m c (at_ t r) q := by
  obtain rfl : q = p := Fin.ext h
  unfold Aa
  blk_ext [iblk, V, idx t, at_]
theorem blk1 (c : Dev nD) (t : Fin cfg0.N) (r : Fin 1024) (s : Fin 5) (p : Fin 512) (q : Fin 2560) (h : q.val = s.val * 512 + p.val) : (show FVec Ideal S5x1024x512 .bf16 from iblk m c 1 t) (ix3 s r p) = Ba m c (at_ t r) q := by
  have es : (⟨q.val / 512, by omega⟩ : Fin 5) = s := Fin.ext (by show q.val / 512 = s.val; omega)
  have ep : (⟨q.val % 512, by omega⟩ : Fin 512) = p := Fin.ext (by show q.val % 512 = p.val; omega)
  unfold Ba
  rw [es, ep]
  blk_ext [iblk, V, idx t, at_]

/-- What the tile of point `t` adds to the table. -/
def part (c : Dev nD) (t : Fin cfg0.N) (y : S1024x2560.Idx) : EReal := ∑ r : Fin 1024, Aa m c (at_ t r) (y 0) * Ba m c (at_ t r) (y 1)

theorem idx2 (v w : S1024x2560.Idx) (h0 : (v 0).val = (w 0).val) (h1 : (v 1).val = (w 1).val) : v = w := by
  have e0 : v 0 = w 0 := Fin.ext h0
  have e1 : v 1 = w 1 := Fin.ext h1
  funext a
  match a with
  | 0 => exact e0
  | 1 => exact e1

set_option maxHeartbeats 400000 in
theorem stepA (c : Dev nD) (t : Fin cfg0.N) (hA : t.val % 8 = 0) (y : S1024x2560.Idx) :
    (outsAt0 m c t.val t.isLt).2 y = (0 : EReal) + part m c t y := by
  rw [outsAt0_A m c t hA (by omega)]
  frame_open
  simp (disch := decide) only [↓ View.readCov_skip, ↓ View.readCov_cons_toLoadRect, ↓ View.readCov_fill]
  frame_out
  rw [Cert.Covers.canon_five _ _ _ _ _ _ _ (View.cover_of_tiled_head _ _ _ rfl _)]
  canon_tiles x h
  all_goals
    pointwise [k0_pay1, k0_pay2, k0_pay3, k0_pay4, k0_pay5, k0_pay6, k0_pay7, k0_pay8, k0_pay9, k0_pay10, k0_pay11, k0_pay12, k0_pay13]
    unfold part
    refine Finset.sum_congr rfl fun r _ => congrArg₂ (· * ·) (blk0 m c t r _ _ ?_) (blk1 m c t r _ _ _ ?_)
    · exact h0
    · exact h1.trans (by omega)

set_option maxHeartbeats 400000 in
theorem stepB (c : Dev nD) (t : Fin cfg0.N) (hA : ¬ t.val % 8 = 0) (y : S1024x2560.Idx) :
    (outsAt0 m c t.val t.isLt).2 y = (show FVec Ideal S1024x2560 .f32 from (outsAt0 m c (t.val - 1) (Nat.lt_of_le_of_lt (Nat.sub_le _ _) t.isLt)).2) y + part m c t y := by
  by_cases hB : t.val % 8 = 7
  · rw [outsAt0_C m c t hA hB]
    frame_out
    canon_tiles x h
    all_goals
      pointwise [k0_pay1, k0_pay2, k0_pay3, k0_pay4, k0_pay5, k0_pay6, k0_pay7, k0_pay8, k0_pay9, k0_pay10, k0_pay11, k0_pay12, k0_pay13]
      apply congrArg₂ (· + ·)
      · rw [read_unread_whole]
        refine congrArg _ (idx2 _ _ ?_ ?_)
        · exact h0.symm
        · exact h1.symm
      · unfold part
        refine Finset.sum_congr rfl fun r _ => congrArg₂ (· * ·) (blk0 m c t r _ _ ?_) (blk1 m c t r _ _ _ ?_)
        · exact h0
        · exact h1.trans (by omega)
  · rw [outsAt0_B m c t hA hB]
    frame_out
    canon_tiles x h
    all_goals
      pointwise [k0_pay1, k0_pay2, k0_pay3, k0_pay4, k0_pay5, k0_pay6, k0_pay7, k0_pay8, k0_pay9, k0_pay10, k0_pay11, k0_pay12, k0_pay13]
      apply congrArg₂ (· + ·)
      · rw [read_unread_whole]
        refine congrArg _ (idx2 _ _ ?_ ?_)
        · exact h0.symm
        · exact h1.symm
      · unfold part
        refine Finset.sum_congr rfl fun r _ => congrArg₂ (· * ·) (blk0 m c t r _ _ ?_) (blk1 m c t r _ _ _ ?_)
        · exact h0
        · exact h1.trans (by omega)

set_option maxHeartbeats 400000 in
/-- The last point writes the table out. -/
theorem stepC (c : Dev nD) (t : Fin cfg0.N) (hA : ¬ t.val % 8 = 0) (hB : t.val % 8 = 7) (y : S1024x2560.Idx) (w : S1024x2560.Idx)
    (hw0 : (w 0).val = (y 0).val) (hw1 : (w 1).val = (y 1).val) :
    (outsAt0 m c t.val t.isLt).1 y = (outsAt0 m c t.val t.isLt).2 w := by
  rw [stepB m c t hA w, outsAt0_C m c t hA hB]
  frame_open
  simp (disch := decide) only [↓ View.readCov_skip, ↓ View.readCov_cons_toLoadRect, ↓ View.readCov_fill]
  frame_out
  canon_tiles x h
  all_goals
    pointwise [k0_pay1, k0_pay2, k0_pay3, k0_pay4, k0_pay5, k0_pay6, k0_pay7, k0_pay8, k0_pay9, k0_pay10, k0_pay11, k0_pay12, k0_pay13]
    apply congrArg₂ (· + ·)
    · rw [read_unread_whole]
      refine congrArg _ (idx2 _ _ ?_ ?_)
      · exact (hw0.trans h0).symm
      · exact (hw1.trans h1).symm
    · unfold part
      refine Finset.sum_congr rfl fun r _ => congrArg₂ (· * ·) (blk0 m c t r _ _ ?_) (blk1 m c t r _ _ _ ?_)
      · exact hw0.trans h0
      · exact (hw1.trans h1).trans (by omega)

/-- The gradient of the weights: the sum over the rows. -/
def grad (A : Fin 8192 → Fin 1024 → EReal) (B : Fin 8192 → Fin 2560 → EReal) (k : Fin 1024) (f : Fin 2560) : EReal :=
  ∑ R : Fin 8192, A R k * B R f

set_option maxHeartbeats 1000000 in
theorem final (c : Dev nD) : (dats m 0 c).arrAt 2 (cfgs 0).N = fun i : S1024x2560.Idx => grad (Aa m c) (Ba m c) (i 0) (i 1) := by
  refine (dats m 0 c).arrAt_eq_of_covers 2 _ (by decide +kernel) fun t hf y => ?_
  have hB := (flush0_2 t).mp hf
  blk_simp
  rw [after0_2, stepC m c t (by omega) hB y (ix2 (y 0) (y 1)) rfl rfl,
    Pipeline.eq_sum_fin_of_reset_step_apply_of_flush (fun n h => (outsAt0 m c n h).2) 8 (fun _ => (0 : EReal)) (part m c)
    (fun t h j => stepA m c t h j) (fun t h j => stepB m c t h j) t hB _, zero_add]
  have hN := lt_of_lt_of_eq t.isLt N_0
  have e0 : ((((cfg0.win 2).blk t).view.emb y) 0 : Fin 1024) = y 0 := Fin.ext (by blk_simp [idx t])
  have e1 : ((((cfg0.win 2).blk t).view.emb y) 1 : Fin 2560) = y 1 := Fin.ext (by blk_simp [idx t])
  unfold grad part
  rw [e0, e1]
  refine Fin.sum_mul_add_congr fun s r hl => ?_
  have e : at_ ⟨8 * (t.val / 8) + s.val, Pipeline.run_point_lt_of_flush t hB s⟩ r = ⟨s.val * 1024 + r.val, hl⟩ := Fin.ext (by show (8 * (t.val / 8) + s.val) * 1024 + r.val = s.val * 1024 + r.val; omega)
  rw [e]; rfl

theorem etaR (i : S1024x2560.Idx) : i = ix2 (i 0) (i 1) := by blk_ext

end Cert.Kernel8Ideal.WIn

namespace Cert.WInPair
open Idealize.ShloMosaic Idealize.ShloMosaic.TcCoe Idealize.SL.Sem
open Cert.Reference8Ideal Cert.Reference8Ideal.Read in
theorem read (x0 x1) (k : Fin 1024) (f : Fin 2560) : val_main_v8 (F := Ideal) x0 x1 (ix2 k f)
    = Cert.Kernel8Ideal.WIn.grad (fun R k => x0 (ix2 R k)) (fun R f => x1 (ix3 ⟨f.val / 512, by omega⟩ R ⟨f.val % 512, by omega⟩)) k f := by
  unfold Cert.Kernel8Ideal.WIn.grad
  pointwise [val_main_v0, val_main_v1, val_main_v2, val_main_v4, val_main_v6, val_main_v7, val_main_v8]
  exact Finset.sum_congr rfl fun R _ => mul_comm _ _

theorem algebraic : Cert.algebraic_Kernel8Ideal_Reference8Ideal := by
  pair_intro
  · run_from Cert.Kernel8Ideal.Gen.run_main m g
  · run_from Cert.Reference8Ideal.Value.run m' g'
    rw [Cert.Reference8Ideal.Read.val_main_v8_eq, Cert.Kernel8Ideal.WIn.final]
    funext i
    rw [Cert.Kernel8Ideal.WIn.etaR i]
    exact read _ _ (i 0) (i 1)

end Cert.WInPair
-- ==== Proof.LossPair.lean ====
/-
  The head of the step backwards: the kernel adds the last product down to the tokens tile by tile, normalises each row
  half by half, takes the difference to the target, its square summed column by column, and the gradient of the mean
  square back through the normalisation; its four arrays are the reference's, at every input.
-/
module

public import proofs.«01_k».proof.Defs
public import proofs.«01_k».proof.Proof.Gen.Kernel9Ideal.Frame
public import proofs.«01_k».proof.Proof.Gen.Reference9Ideal.Read
public import Idealize.ShloMosaic.Lib.Pipeline.ValueKit
public import Idealize.ShloMosaic.Lib.Pipeline.ReadBack
public import Idealize.ShloMosaic.Lib.Pointwise
public import Idealize.ShloMosaic.Lib.Claim
public import proofs.«01_k».proof.Proof.Norms
public import proofs.«01_k».proof.Proof.Covers

@[expose] public section
set_option maxRecDepth 16384
noncomputable section
namespace Cert.Kernel9Ideal.Loss
open Cert.Kernel9Ideal Cert.Kernel9Ideal.Gen Idealize.ShloMosaic Idealize.ShloMosaic.TcCoe Idealize.SL.Sem Cert.Norms
open Idealize.ShloMosaic.Pipeline (Dat)
variable (m : (ℓ : Loc nD τ sig) → Buf (Elt Ideal) ℓ)
theorem idx : ∀ t : Fin cfg0.N,
    win0_0.index t = ![t.val, 0] ∧ win0_1.index t = ![0, 0] ∧ win0_2.index t = ![t.val, 0] ∧ win0_3.index t = ![0, 0]
      ∧ win0_4.index t = ![t.val, 0] ∧ win0_5.index t = ![t.val, 0] ∧ win0_6.index t = ![t.val, 0] ∧ win0_7.index t = ![0, 0]
      ∧ win0_8.index t = ![0, 0] :=
  (by decide +kernel : ∀ t : Fin grid0.N, _)

/-- The normalised tokens before the last product up. -/
abbrev Na (c : Dev nD) (R : Fin 8192) (k : Fin 1024) : EReal := (show FVec Ideal S8192x1024 .bf16 from m ((c : Thread nD τ).loc main_arg0)) (ix2 R k)
/-- The weights of the product up. -/
abbrev Ua (c : Dev nD) (k : Fin 1024) (f : Fin 4096) : EReal := (show FVec Ideal S1024x4096 .f32 from m ((c : Thread nD τ).loc main_arg1)) (ix2 k f)
/-- The weights of the product down. -/
abbrev Wa (c : Dev nD) (f : Fin 4096) (l : Fin 1024) : EReal := (show FVec Ideal S4096x1024 .f32 from m ((c : Thread nD τ).loc main_arg2)) (ix2 f l)
/-- The tokens beside the product. -/
abbrev Ha (c : Dev nD) (R : Fin 8192) (l : Fin 1024) : EReal := (show FVec Ideal S8192x1024 .f32 from m ((c : Thread nD τ).loc main_arg3)) (ix2 R l)
/-- The gain of the normalisation. -/
abbrev Ga (c : Dev nD) (l : Fin 1024) : EReal := (show FVec Ideal S1x1024 .f32 from m ((c : Thread nD τ).loc main_arg4)) (ix2 0 l)
/-- The target. -/
abbrev Ta (c : Dev nD) (R : Fin 8192) (l : Fin 1024) : EReal := (show FVec Ideal S8192x1024 .f32 from m ((c : Thread nD τ).loc main_arg5)) (ix2 R l)

/-- Row `r` of the tile of point `t`. -/
def at_ (t : Fin cfg0.N) (r : Fin 512) : Fin 8192 := ⟨t.val * 512 + r.val, by have := lt_of_lt_of_eq t.isLt N_0; omega⟩

/-- The squared rectified product up. -/
def act (N : Fin 8192 → Fin 1024 → EReal) (U : Fin 1024 → Fin 4096 → EReal) (R : Fin 8192) (f : Fin 4096) : EReal :=
  max (∑ l, N R l * U l f) 0 * max (∑ l, N R l * U l f) 0
/-- The tokens of the last layer. -/
def tok (N : Fin 8192 → Fin 1024 → EReal) (U : Fin 1024 → Fin 4096 → EReal) (W : Fin 4096 → Fin 1024 → EReal) (H : Fin 8192 → Fin 1024 → EReal)
    (R : Fin 8192) (l : Fin 1024) : EReal := H R l + ∑ f, act N U R f * W f l
/-- The difference of the normalised tokens to the target. -/
def err {n : ℕ} (X : Fin n → Fin 1024 → EReal) (G : Fin 1024 → EReal) (T : Fin n → Fin 1024 → EReal) (R : Fin n) (l : Fin 1024) : EReal :=
  X R l * scale (X R) * G l - T R l
/-- The gradient of the mean square at the normalised tokens. -/
def dy {n : ℕ} (X : Fin n → Fin 1024 → EReal) (G : Fin 1024 → EReal) (T : Fin n → Fin 1024 → EReal) (R : Fin n) (l : Fin 1024) : EReal :=
  err X G T R l * Ideal.ofBits .f32 0x3A800000#32
/-- The gradient at the tokens. -/
def out {n : ℕ} (X : Fin n → Fin 1024 → EReal) (G : Fin 1024 → EReal) (T : Fin n → Fin 1024 → EReal) (R : Fin n) (l : Fin 1024) : EReal :=
  backK (X R) (fun k => dy X G T R k * G k) 0 l
/-- The squares, summed over the rows. -/
def sq {n : ℕ} (X : Fin n → Fin 1024 → EReal) (G : Fin 1024 → EReal) (T : Fin n → Fin 1024 → EReal) (l : Fin 1024) : EReal :=
  ∑ R, err X G T R l * err X G T R l
/-- The gradient of the gain. -/
def gain {n : ℕ} (X : Fin n → Fin 1024 → EReal) (G : Fin 1024 → EReal) (T : Fin n → Fin 1024 → EReal) (l : Fin 1024) : EReal :=
  ∑ R, dy X G T R l * (X R l * scale (X R))

theorem V4 (c : Dev nD) (R : Fin 8192) (f : Fin 4096) : (show FVec Ideal S8192x4096 .bf16 from V m c main_v4) (ix2 R f) = act (Na m c) (Ua m c) R f := by
  unfold act
  simp only [V, hostOps0, hostOps0_1, hostOps0_2, List.flatten_cons, List.flatten_nil, List.append_nil, List.cons_append, List.nil_append]
  entry_read
  simp only [StableHlo.TRef.toBuf, StableHlo.TRef.ofBuf, cast_eq, eq_mpr_eq_cast, eqRec_eq_cast]
  pointwise
theorem V5 (c : Dev nD) (f : Fin 4096) (l : Fin 1024) : (show FVec Ideal S4096x1024 .bf16 from V m c main_v5) (ix2 f l) = Wa m c f l := by
  simp only [V, hostOps0, hostOps0_1, hostOps0_2, List.flatten_cons, List.flatten_nil, List.append_nil, List.cons_append, List.nil_append]
  entry_read
  pointwise

theorem etaA (y : S512x4096.Idx) : y = ix2 (y 0) (y 1) := by blk_ext
theorem etaW (y : S4096x1024.Idx) : y = ix2 (y 0) (y 1) := by blk_ext
theorem etaT (y : S512x1024.Idx) : y = ix2 (y 0) (y 1) := by blk_ext
theorem etaG (y : S1x1024.Idx) : y = ix2 0 (y 1) := by blk_ext
theorem etaR (i : S8192x1024.Idx) : i = ix2 (i 0) (i 1) := by blk_ext

theorem blk0 (c : Dev nD) (t : Fin cfg0.N) (y : S512x4096.Idx) : (show FVec Ideal S512x4096 .bf16 from iblk m c 0 t) y = act (Na m c) (Ua m c) (at_ t (y 0)) (y 1) := by
  rw [etaA y]
  refine Eq.trans ?_ (V4 m c (at_ t (y 0)) (y 1))
  blk_ext [iblk, idx t, at_]
theorem blk1 (c : Dev nD) (t : Fin cfg0.N) (y : S4096x1024.Idx) : (show FVec Ideal S4096x1024 .bf16 from iblk m c 1 t) y = Wa m c (y 0) (y 1) := by
  rw [etaW y]
  refine Eq.trans ?_ (V5 m c (y 0) (y 1))
  blk_ext [iblk, idx t, at_]
theorem blk2 (c : Dev nD) (t : Fin cfg0.N) (y : S512x1024.Idx) : (show FVec Ideal S512x1024 .f32 from iblk m c 2 t) y = Ha m c (at_ t (y 0)) (y 1) := by
  rw [etaT y]
  blk_ext [iblk, V, idx t, at_]
theorem blk3 (c : Dev nD) (t : Fin cfg0.N) (l : Fin 1024) : (show FVec Ideal S1x1024 .f32 from iblk m c 3 t) (ix2 0 l) = Ga m c l := by
  blk_ext [iblk, V, idx t, at_]
theorem blk4 (c : Dev nD) (t : Fin cfg0.N) (r : Fin 512) (l : Fin 1024) : (show FVec Ideal S512x1024 .f32 from iblk m c 4 t) (ix2 r l) = Ta m c (at_ t r) l := by
  blk_ext [iblk, V, idx t, at_]

/-- The tokens of the last layer, from the arguments. -/
def Xa (c : Dev nD) (R : Fin 8192) (l : Fin 1024) : EReal := tok (Na m c) (Ua m c) (Wa m c) (Ha m c) R l
/-- Their tile at point `t`. -/
def tokv (c : Dev nD) (t : Fin cfg0.N) : Vec Ideal S512x1024 .f32 := fun y => Xa m c (at_ t (y 0)) (y 1)

/-- The four stores of the tokens, the last first. -/
abbrev pieces (c : Dev nD) (t : Fin cfg0.N) : List (View.Piece (Elt Ideal) S512x1024 .f32) :=
  [⟨Rect.unit ![256, 512] ![256, 512] inb_S512x1024_S256x512_256_512,
      k0_pay10 (F := Ideal)
        (k0_pay8 (F := Ideal) (View.ld (iblk m c 0 t) (Rect.unit ![256, 0] ![256, 4096] inb_S512x4096_S256x4096_256_0)))
        (View.ld (iblk m c 2 t) (Rect.unit ![256, 512] ![256, 512] inb_S512x1024_S256x512_256_512))
        (View.ld (iblk m c 1 t) (Rect.unit ![0, 512] ![4096, 512] inb_S4096x1024_S4096x512_0_512))⟩,
    ⟨Rect.unit ![256, 0] ![256, 512] inb_S512x1024_S256x512_256_0,
      k0_pay9 (F := Ideal) (View.ld (iblk m c 0 t) (Rect.unit ![256, 0] ![256, 4096] inb_S512x4096_S256x4096_256_0))
        (View.ld (iblk m c 2 t) (Rect.unit ![256, 0] ![256, 512] inb_S512x1024_S256x512_256_0))
        (View.ld (iblk m c 1 t) (Rect.unit ![0, 0] ![4096, 512] inb_S4096x1024_S4096x512_0_0))⟩,
    ⟨Rect.unit ![0, 512] ![256, 512] inb_S512x1024_S256x512_0_512,
      k0_pay7 (F := Ideal) (View.ld (iblk m c 0 t) (Rect.unit ![0, 0] ![256, 4096] inb_S512x4096_S256x4096_0_0))
        (View.ld (iblk m c 2 t) (Rect.unit ![0, 512] ![256, 512] inb_S512x1024_S256x512_0_512))
        (View.ld (iblk m c 1 t) (Rect.unit ![0, 512] ![4096, 512] inb_S4096x1024_S4096x512_0_512))⟩,
    ⟨Rect.unit ![0, 0] ![256, 512] inb_S512x1024_S256x512_0_0,
      k0_pay6 (F := Ideal) (View.ld (iblk m c 0 t) (Rect.unit ![0, 0] ![256, 4096] inb_S512x4096_S256x4096_0_0))
        (View.ld (iblk m c 2 t) (Rect.unit ![0, 0] ![256, 512] inb_S512x1024_S256x512_0_0))
        (View.ld (iblk m c 1 t) (Rect.unit ![0, 0] ![4096, 512] inb_S4096x1024_S4096x512_0_0))⟩]

theorem canon4 (c : Dev nD) (t : Fin cfg0.N) (y : S512x1024.Idx) : View.canon (pieces m c t) y = tokv m c t y := by
  unfold pieces
  canon_tiles x h
  all_goals
    pointwise [k0_pay5, k0_pay6, k0_pay7, k0_pay8, k0_pay9, k0_pay10]
    unfold tokv Xa tok
    refine congrArg₂ (· + ·) ((blk2 m c t _).trans (congrArg₂ (Ha m c) (Fin.ext ?_) (Fin.ext ?_)))
      (Finset.sum_congr rfl fun f _ => congrArg₂ (· * ·) ((blk0 m c t _).trans (congrArg₂ (act (Na m c) (Ua m c)) (Fin.ext ?_) (Fin.ext ?_)))
        ((blk1 m c t _).trans (congrArg₂ (Wa m c) (Fin.ext ?_) (Fin.ext ?_))))
    all_goals first | rfl | exact h1.symm | exact congrArg (t.val * 512 + ·) h0.symm

theorem low (c : Dev nD) (t : Fin cfg0.N) (v : View sig .tc .vmem S512x1024 .f32) :
    v.readCov (pieces m c t) (Rect.unit ![0, 0] ![256, 1024] inb_S512x1024_S256x1024_0_0).toLoadRect
      = View.ld (tokv m c t) (Rect.unit ![0, 0] ![256, 1024] inb_S512x1024_S256x1024_0_0) := by
  rw [View.readCov_eq_canon']
  exact funext fun j => canon4 m c t _
theorem high (c : Dev nD) (t : Fin cfg0.N) (v : View sig .tc .vmem S512x1024 .f32) (P : Vec Ideal S256x1024 .f32) :
    v.readCov (⟨Rect.unit ![0, 0] ![256, 1024] inb_S512x1024_S256x1024_0_0, P⟩ :: pieces m c t) (Rect.unit ![256, 0] ![256, 1024] inb_S512x1024_S256x1024_256_0).toLoadRect
      = View.ld (tokv m c t) (Rect.unit ![256, 0] ![256, 1024] inb_S512x1024_S256x1024_256_0) := by
  rw [View.readCov_skip _ _ _ _ _ (by decide), View.readCov_eq_canon']
  exact funext fun j => canon4 m c t _

/-- Row `r` of the lower and of the upper half. -/
def lo (r : Fin 256) : Fin 512 := ⟨r.val, by omega⟩
def hi (r : Fin 256) : Fin 512 := ⟨256 + r.val, by omega⟩
/-- An array of 256 rows, entry by entry. -/
def e2 (v : FVec Ideal S256x1024 .f32) (r : Fin 256) (l : Fin 1024) : EReal := v (ix2 r l)
/-- A row vector, entry by entry. -/
def e1 (v : FVec Ideal S1x1024 .f32) (l : Fin 1024) : EReal := v (ix2 0 l)

theorem pay16_eq (g : FVec Ideal S1x1024 .f32) (x z : FVec Ideal S256x1024 .f32) (r : Fin 256) (l : Fin 1024) :
    (show EReal from k0_pay16 (F := Ideal) g x z (ix2 r l)) = out (e2 x) (e1 g) (e2 z) r l := by
  unfold out backK dy err scale under e2 e1
  rw [zero_add]
  pointwise [k0_pay11, k0_pay12, k0_pay13, k0_pay14, k0_pay15, k0_pay16]
theorem pay26_eq (g : FVec Ideal S1x1024 .f32) (x z : FVec Ideal S256x1024 .f32) (r : Fin 256) (l : Fin 1024) :
    (show EReal from k0_pay26 (F := Ideal) g x z (ix2 r l)) = out (e2 x) (e1 g) (e2 z) r l := by
  unfold out backK dy err scale under e2 e1
  rw [zero_add]
  pointwise [k0_pay21, k0_pay22, k0_pay23, k0_pay24, k0_pay25, k0_pay26]
theorem pay17_eq (g : FVec Ideal S1x1024 .f32) (x z : FVec Ideal S256x1024 .f32) (r : Fin 256) (l : Fin 1024) :
    (show EReal from k0_pay17 (F := Ideal) g x z (ix2 r l)) = out (e2 x) (e1 g) (e2 z) r l := by
  refine Eq.trans ?_ (pay16_eq g x z r l)
  unfold k0_pay17
  generalize k0_pay16 (F := Ideal) g x z = P
  pointwise
theorem pay27_eq (g : FVec Ideal S1x1024 .f32) (x z : FVec Ideal S256x1024 .f32) (r : Fin 256) (l : Fin 1024) :
    (show EReal from k0_pay27 (F := Ideal) g x z (ix2 r l)) = out (e2 x) (e1 g) (e2 z) r l := by
  refine Eq.trans ?_ (pay26_eq g x z r l)
  unfold k0_pay27
  generalize k0_pay26 (F := Ideal) g x z = P
  pointwise
theorem pay1_eq (g : FVec Ideal S1x1024 .f32) (x z x' z' : FVec Ideal S256x1024 .f32) (l : Fin 1024) :
    (show EReal from k0_pay1 (F := Ideal) (k0_pay19 (F := Ideal) (k0_pay18 (F := Ideal) g x z)) (k0_pay24 (F := Ideal) g x' z') (ix2 0 l)) = sq (e2 x) (e1 g) (e2 z) l + sq (e2 x') (e1 g) (e2 z') l := by
  unfold sq err scale under e2 e1
  pointwise [k0_pay1, k0_pay11, k0_pay12, k0_pay13, k0_pay14, k0_pay18, k0_pay19, k0_pay21, k0_pay22, k0_pay23, k0_pay24]
theorem pay2_eq (g : FVec Ideal S1x1024 .f32) (x z x' z' : FVec Ideal S256x1024 .f32) (l : Fin 1024) :
    (show EReal from k0_pay2 (F := Ideal) (k0_pay20 (F := Ideal) (k0_pay13 (F := Ideal) x) (k0_pay15 (F := Ideal) g x z)) (k0_pay23 (F := Ideal) x') (k0_pay25 (F := Ideal) g x' z') (ix2 0 l)) = gain (e2 x) (e1 g) (e2 z) l + gain (e2 x') (e1 g) (e2 z') l := by
  unfold gain dy err scale under e2 e1
  pointwise [k0_pay2, k0_pay11, k0_pay12, k0_pay13, k0_pay14, k0_pay15, k0_pay20, k0_pay21, k0_pay22, k0_pay23, k0_pay24, k0_pay25]
theorem pay3_eq (a : FVec Ideal S1x1024 .f32) (b : FVec Ideal S256x1024 .f32) (o : FVec Ideal S1x1024 .f32) (l : Fin 1024) :
    k0_pay3 a b o (ix2 0 l) = o (ix2 0 l) + k0_pay1 a b (ix2 0 l) := by
  unfold k0_pay3
  generalize k0_pay1 a b = P
  pointwise
theorem pay4_eq (a : FVec Ideal S1x1024 .f32) (b d : FVec Ideal S256x1024 .f32) (o : FVec Ideal S1x1024 .f32) (l : Fin 1024) :
    k0_pay4 a b d o (ix2 0 l) = o (ix2 0 l) + k0_pay2 a b d (ix2 0 l) := by
  unfold k0_pay4
  generalize k0_pay2 a b d = P
  pointwise

/-- The tokens and the target of one half of the tile. -/
def Xh (c : Dev nD) (t : Fin cfg0.N) (h : Fin 256 → Fin 512) (r : Fin 256) (l : Fin 1024) : EReal := Xa m c (at_ t (h r)) l
def Th (c : Dev nD) (t : Fin cfg0.N) (h : Fin 256 → Fin 512) (r : Fin 256) (l : Fin 1024) : EReal := Ta m c (at_ t (h r)) l

/-- The rectangle of the lower and of the upper half. -/
abbrev Rlo : Rect S512x1024 := Rect.unit ![0, 0] ![256, 1024] inb_S512x1024_S256x1024_0_0
abbrev Rhi : Rect S512x1024 := Rect.unit ![256, 0] ![256, 1024] inb_S512x1024_S256x1024_256_0
theorem rlo (r : Fin 256) (l : Fin 1024) : (Rlo.idx (ix2 r l : S256x1024.Idx) : S512x1024.Idx) = ix2 (lo r) l := by
  funext a
  match a with
  | ⟨0, _⟩ => exact Fin.ext (by show 0 + 1 * r.val = r.val; omega)
  | ⟨1, _⟩ => exact Fin.ext (by show 0 + 1 * l.val = l.val; omega)
theorem rhi (r : Fin 256) (l : Fin 1024) : (Rhi.idx (ix2 r l : S256x1024.Idx) : S512x1024.Idx) = ix2 (hi r) l := by
  funext a
  match a with
  | ⟨0, _⟩ => exact Fin.ext (by show 256 + 1 * r.val = 256 + r.val; omega)
  | ⟨1, _⟩ => exact Fin.ext (by show 0 + 1 * l.val = l.val; omega)

theorem xlo (c : Dev nD) (t : Fin cfg0.N) (v : View sig .tc .vmem S512x1024 .f32) :
    e2 (show FVec Ideal S256x1024 .f32 from v.readCov (Val := Elt Ideal) (pieces m c t) Rlo.toLoadRect) = Xh m c t lo := by
  funext r l
  exact (congrFun (low m c t v) (ix2 r l)).trans (congrArg (tokv m c t) (rlo r l))
theorem xhi (c : Dev nD) (t : Fin cfg0.N) (v : View sig .tc .vmem S512x1024 .f32) (P : Vec Ideal S256x1024 .f32) :
    e2 (show FVec Ideal S256x1024 .f32 from v.readCov (Val := Elt Ideal) (⟨Rlo, P⟩ :: pieces m c t) Rhi.toLoadRect) = Xh m c t hi := by
  funext r l
  exact (congrFun (high m c t v P) (ix2 r l)).trans (congrArg (tokv m c t) (rhi r l))
theorem tlo (c : Dev nD) (t : Fin cfg0.N) :
    e2 (View.ld (iblk m c 4 t) Rlo) = Th m c t lo := by
  funext r l
  exact Eq.trans (congrArg (iblk m c 4 t) (rlo r l)) (blk4 m c t (lo r) l)
theorem thi (c : Dev nD) (t : Fin cfg0.N) :
    e2 (View.ld (iblk m c 4 t) Rhi) = Th m c t hi := by
  funext r l
  exact Eq.trans (congrArg (iblk m c 4 t) (rhi r l)) (blk4 m c t (hi r) l)
theorem ga (c : Dev nD) (t : Fin cfg0.N) : e1 (iblk m c 3 t) = Ga m c := funext fun l => blk3 m c t l

/-- The tokens of the lower half, read back. -/
def xl (c : Dev nD) (t : Fin cfg0.N) : FVec Ideal S256x1024 .f32 := (ms0_5 t).view.readCov (Val := Elt Ideal) (pieces m c t) Rlo.toLoadRect
/-- The gradient stored over them. -/
def pl (c : Dev nD) (t : Fin cfg0.N) : FVec Ideal S256x1024 .f32 := k0_pay16 (F := Ideal) (iblk m c 3 t) (xl m c t) (View.ld (iblk m c 4 t) Rlo)
/-- The tokens of the upper half, read back. -/
def xh (c : Dev nD) (t : Fin cfg0.N) : FVec Ideal S256x1024 .f32 := (ms0_5 t).view.readCov (Val := Elt Ideal) (⟨Rlo, pl m c t⟩ :: pieces m c t) Rhi.toLoadRect
theorem xl_eq (c : Dev nD) (t : Fin cfg0.N) : e2 (xl m c t) = Xh m c t lo := xlo m c t _
theorem xh_eq (c : Dev nD) (t : Fin cfg0.N) : e2 (xh m c t) = Xh m c t hi := xhi m c t _ _

/-- The target of one half. -/
def zl (c : Dev nD) (t : Fin cfg0.N) : FVec Ideal S256x1024 .f32 := View.ld (iblk m c 4 t) Rlo
def zh (c : Dev nD) (t : Fin cfg0.N) : FVec Ideal S256x1024 .f32 := View.ld (iblk m c 4 t) Rhi
/-- The gain. -/
def gv (c : Dev nD) (t : Fin cfg0.N) : FVec Ideal S1x1024 .f32 := iblk m c 3 t
theorem zl_eq (c : Dev nD) (t : Fin cfg0.N) : e2 (zl m c t) = Th m c t lo := tlo m c t
theorem zh_eq (c : Dev nD) (t : Fin cfg0.N) : e2 (zh m c t) = Th m c t hi := thi m c t
theorem gv_eq (c : Dev nD) (t : Fin cfg0.N) : e1 (gv m c t) = Ga m c := ga m c t

theorem out_half (c : Dev nD) (t : Fin cfg0.N) (h : Fin 256 → Fin 512) (r : Fin 256) (l : Fin 1024) :
    out (Xh m c t h) (Ga m c) (Th m c t h) r l = out (Xa m c) (Ga m c) (Ta m c) (at_ t (h r)) l := by
  unfold out dy err Xh Th
  rfl

theorem h26 (c : Dev nD) (t : Fin cfg0.N) (r : Fin 256) (l : Fin 1024) :
    (show EReal from k0_pay26 (F := Ideal) (gv m c t) (xh m c t) (zh m c t) (ix2 r l)) = out (Xa m c) (Ga m c) (Ta m c) (at_ t (hi r)) l := by
  refine (pay26_eq _ _ _ r l).trans ?_
  rw [xh_eq, zh_eq, gv_eq, out_half]
theorem h16 (c : Dev nD) (t : Fin cfg0.N) (r : Fin 256) (l : Fin 1024) :
    (show EReal from k0_pay16 (F := Ideal) (gv m c t) (xl m c t) (zl m c t) (ix2 r l)) = out (Xa m c) (Ga m c) (Ta m c) (at_ t (lo r)) l := by
  refine (pay16_eq _ _ _ r l).trans ?_
  rw [xl_eq, zl_eq, gv_eq, out_half]
theorem h27 (c : Dev nD) (t : Fin cfg0.N) (r : Fin 256) (l : Fin 1024) :
    (show EReal from k0_pay27 (F := Ideal) (gv m c t) (xh m c t) (zh m c t) (ix2 r l)) = out (Xa m c) (Ga m c) (Ta m c) (at_ t (hi r)) l := by
  refine (pay27_eq _ _ _ r l).trans ?_
  rw [xh_eq, zh_eq, gv_eq, out_half]
theorem h17 (c : Dev nD) (t : Fin cfg0.N) (r : Fin 256) (l : Fin 1024) :
    (show EReal from k0_pay17 (F := Ideal) (gv m c t) (xl m c t) (zl m c t) (ix2 r l)) = out (Xa m c) (Ga m c) (Ta m c) (at_ t (lo r)) l := by
  refine (pay17_eq _ _ _ r l).trans ?_
  rw [xl_eq, zl_eq, gv_eq, out_half]

theorem etaH (y : S256x1024.Idx) : y = ix2 (y 0) (y 1) := by blk_ext

/-- Two stores of halves that hold the rows of one array are that array. -/
theorem two_halves {e : EltTy} (P Q : Vec Ideal S256x1024 e) (f : Fin 512 → Fin 1024 → Elt Ideal e)
    (hP : ∀ r l, P (ix2 r l) = f (hi r) l) (hQ : ∀ r l, Q (ix2 r l) = f (lo r) l) (y : S512x1024.Idx) :
    View.canon (Val := Elt Ideal) [⟨Rhi, P⟩, ⟨Rlo, Q⟩] y = f (y 0) (y 1) := by
  canon_tiles x h
  · rw [etaH x]
    exact (hP _ _).trans (congrArg₂ f (Fin.ext h0.symm) (Fin.ext (h1.symm.trans (by rfl))))
  · rw [etaH x]
    exact (hQ _ _).trans (congrArg₂ f (Fin.ext (h0.symm.trans (by rfl))) (Fin.ext (h1.symm.trans (by rfl))))

theorem canon_two_of_six {S : Shape} {e : EltTy} (p1 p2 p3 p4 p5 p6 : View.Piece (Elt Ideal) S e) (y : S.Idx)
    (hc : ∃ p ∈ [p1, p2], y ∈ p.1.set) :
    View.canon [p1, p2, p3, p4, p5, p6] y = View.canon [p1, p2] y :=
  Cert.Covers.canon_drop [p1, p2] [p3, p4, p5, p6] y hc

theorem o5 (c : Dev nD) (t : Fin cfg0.N) (y : S512x1024.Idx) :
    (outsAt0 m c t.val t.isLt).1 y = out (Xa m c) (Ga m c) (Ta m c) (at_ t (y 0)) (y 1) := by
  have hn := lt_of_lt_of_eq t.isLt N_0
  refine Eq.trans ?_ (two_halves (e := .f32) (k0_pay26 (F := Ideal) (gv m c t) (xh m c t) (zh m c t)) (k0_pay16 (F := Ideal) (gv m c t) (xl m c t) (zl m c t))
    (fun r l => out (Xa m c) (Ga m c) (Ta m c) (at_ t r) l) (h26 m c t) (h16 m c t) y)
  by_cases hA : t.val % 16 = 0
  · rw [outsAt0_A m c t hA (by omega)]
    frame_out
    exact canon_two_of_six _ _ _ _ _ _ _ (View.cover_of_tiled_head _ _ _ rfl _)
  · rw [outsAt0_B m c t hA (by omega)]
    frame_out
    exact canon_two_of_six _ _ _ _ _ _ _ (View.cover_of_tiled_head _ _ _ rfl _)
theorem o6 (c : Dev nD) (t : Fin cfg0.N) (y : S512x1024.Idx) :
    (outsAt0 m c t.val t.isLt).2.1 y = out (Xa m c) (Ga m c) (Ta m c) (at_ t (y 0)) (y 1) := by
  have hn := lt_of_lt_of_eq t.isLt N_0
  refine Eq.trans ?_ (two_halves (e := .bf16) (k0_pay27 (F := Ideal) (gv m c t) (xh m c t) (zh m c t)) (k0_pay17 (F := Ideal) (gv m c t) (xl m c t) (zl m c t))
    (fun r l => out (Xa m c) (Ga m c) (Ta m c) (at_ t r) l) (h27 m c t) (h17 m c t) y)
  by_cases hA : t.val % 16 = 0
  · rw [outsAt0_A m c t hA (by omega)]
    frame_out
    rfl
  · rw [outsAt0_B m c t hA (by omega)]
    frame_out
    rfl

theorem halves (f : Fin 512 → EReal) : ∑ r : Fin 256, f (lo r) + ∑ r : Fin 256, f (hi r) = ∑ r, f r :=
  (Fin.sum_univ_add (a := 256) (b := 256) f).symm

/-- The squares summed over the rows of the tile of point `t`. -/
def sqpart (c : Dev nD) (t : Fin cfg0.N) (y : S1x1024.Idx) : EReal :=
  ∑ r : Fin 512, err (Xa m c) (Ga m c) (Ta m c) (at_ t r) (y 1) * err (Xa m c) (Ga m c) (Ta m c) (at_ t r) (y 1)
/-- The gradient of the gain, summed over the rows of the tile of point `t`. -/
def gpart (c : Dev nD) (t : Fin cfg0.N) (y : S1x1024.Idx) : EReal :=
  ∑ r : Fin 512, dy (Xa m c) (Ga m c) (Ta m c) (at_ t r) (y 1) * (Xa m c (at_ t r) (y 1) * scale (Xa m c (at_ t r)))

theorem etaG' (y : S1x1024.Idx) : y = ix2 0 (y 1) := by blk_ext

theorem h1 (c : Dev nD) (t : Fin cfg0.N) (l : Fin 1024) :
    (show EReal from k0_pay1 (F := Ideal) (k0_pay19 (F := Ideal) (k0_pay18 (F := Ideal) (gv m c t) (xl m c t) (zl m c t))) (k0_pay24 (F := Ideal) (gv m c t) (xh m c t) (zh m c t)) (ix2 0 l))
      = sqpart m c t (ix2 0 l) := by
  refine (pay1_eq _ _ _ _ _ l).trans ?_
  rw [xl_eq, zl_eq, gv_eq, xh_eq, zh_eq]
  exact halves fun r => err (Xa m c) (Ga m c) (Ta m c) (at_ t r) l * err (Xa m c) (Ga m c) (Ta m c) (at_ t r) l
theorem h2 (c : Dev nD) (t : Fin cfg0.N) (l : Fin 1024) :
    (show EReal from k0_pay2 (F := Ideal) (k0_pay20 (F := Ideal) (k0_pay13 (F := Ideal) (xl m c t)) (k0_pay15 (F := Ideal) (gv m c t) (xl m c t) (zl m c t))) (k0_pay23 (F := Ideal) (xh m c t)) (k0_pay25 (F := Ideal) (gv m c t) (xh m c t) (zh m c t)) (ix2 0 l))
      = gpart m c t (ix2 0 l) := by
  refine (pay2_eq _ _ _ _ _ l).trans ?_
  rw [xl_eq, zl_eq, gv_eq, xh_eq, zh_eq]
  exact halves fun r => dy (Xa m c) (Ga m c) (Ta m c) (at_ t r) l * (Xa m c (at_ t r) l * scale (Xa m c (at_ t r)))

theorem sA7' (c : Dev nD) (t : Fin cfg0.N) (hA : t.val % 16 = 0) (l : Fin 1024) :
    (outsAt0 m c t.val t.isLt).2.2.1 (ix2 0 l) = sqpart m c t (ix2 0 l) := by
  have hn := lt_of_lt_of_eq t.isLt N_0
  refine Eq.trans ?_ (h1 m c t l)
  rw [outsAt0_A m c t hA (by omega)]
  frame_out
  rfl
theorem sB7' (c : Dev nD) (t : Fin cfg0.N) (hA : ¬ t.val % 16 = 0) (l : Fin 1024) :
    (outsAt0 m c t.val t.isLt).2.2.1 (ix2 0 l) = (show FVec Ideal S1x1024 .f32 from (outsAt0 m c (t.val - 1) (Nat.lt_of_le_of_lt (Nat.sub_le _ _) t.isLt)).2.2.1) (ix2 0 l) + sqpart m c t (ix2 0 l) := by
  have hn := lt_of_lt_of_eq t.isLt N_0
  refine Eq.trans ?_ (congrArg (_ + ·) (h1 m c t l))
  rw [outsAt0_B m c t hA (by omega)]
  frame_out
  exact pay3_eq _ _ _ l
theorem sA8' (c : Dev nD) (t : Fin cfg0.N) (hA : t.val % 16 = 0) (l : Fin 1024) :
    (outsAt0 m c t.val t.isLt).2.2.2 (ix2 0 l) = gpart m c t (ix2 0 l) := by
  have hn := lt_of_lt_of_eq t.isLt N_0
  refine Eq.trans ?_ (h2 m c t l)
  rw [outsAt0_A m c t hA (by omega)]
  frame_out
  rfl
theorem sB8' (c : Dev nD) (t : Fin cfg0.N) (hA : ¬ t.val % 16 = 0) (l : Fin 1024) :
    (outsAt0 m c t.val t.isLt).2.2.2 (ix2 0 l) = (show FVec Ideal S1x1024 .f32 from (outsAt0 m c (t.val - 1) (Nat.lt_of_le_of_lt (Nat.sub_le _ _) t.isLt)).2.2.2) (ix2 0 l) + gpart m c t (ix2 0 l) := by
  have hn := lt_of_lt_of_eq t.isLt N_0
  refine Eq.trans ?_ (congrArg (_ + ·) (h2 m c t l))
  rw [outsAt0_B m c t hA (by omega)]
  frame_out
  exact pay4_eq _ _ _ _ l
theorem sA7 (c : Dev nD) (t : Fin cfg0.N) (hA : t.val % 16 = 0) (y : S1x1024.Idx) :
    (outsAt0 m c t.val t.isLt).2.2.1 y = (0 : EReal) + sqpart m c t y := by
  obtain ⟨l, rfl⟩ : ∃ l : Fin 1024, y = ix2 0 l := ⟨y 1, etaG y⟩
  exact (sA7' m c t hA l).trans (zero_add _).symm
theorem sB7 (c : Dev nD) (t : Fin cfg0.N) (hA : ¬ t.val % 16 = 0) (y : S1x1024.Idx) :
    (outsAt0 m c t.val t.isLt).2.2.1 y = (show FVec Ideal S1x1024 .f32 from (outsAt0 m c (t.val - 1) (Nat.lt_of_le_of_lt (Nat.sub_le _ _) t.isLt)).2.2.1) y + sqpart m c t y := by
  obtain ⟨l, rfl⟩ : ∃ l : Fin 1024, y = ix2 0 l := ⟨y 1, etaG y⟩
  exact sB7' m c t hA l
theorem sA8 (c : Dev nD) (t : Fin cfg0.N) (hA : t.val % 16 = 0) (y : S1x1024.Idx) :
    (outsAt0 m c t.val t.isLt).2.2.2 y = (0 : EReal) + gpart m c t y := by
  obtain ⟨l, rfl⟩ : ∃ l : Fin 1024, y = ix2 0 l := ⟨y 1, etaG y⟩
  exact (sA8' m c t hA l).trans (zero_add _).symm
theorem sB8 (c : Dev nD) (t : Fin cfg0.N) (hA : ¬ t.val % 16 = 0) (y : S1x1024.Idx) :
    (outsAt0 m c t.val t.isLt).2.2.2 y = (show FVec Ideal S1x1024 .f32 from (outsAt0 m c (t.val - 1) (Nat.lt_of_le_of_lt (Nat.sub_le _ _) t.isLt)).2.2.2) y + gpart m c t y := by
  obtain ⟨l, rfl⟩ : ∃ l : Fin 1024, y = ix2 0 l := ⟨y 1, etaG y⟩
  exact sB8' m c t hA l

theorem final5 (c : Dev nD) : (dats m 0 c).arrAt 5 (cfgs 0).N = fun i : S8192x1024.Idx => out (Xa m c) (Ga m c) (Ta m c) (i 0) (i 1) := by
  refine (dats m 0 c).arrAt_eq_of_covers 5 _ (by decide +kernel) fun t hf y => ?_
  blk_simp
  rw [after0_5]
  refine (o5 m c t y).trans ?_
  have e0 : ((((cfg0.win 5).blk t).view.emb y) 0 : Fin 8192) = at_ t (y 0) := Fin.ext (by blk_simp [idx t, at_])
  have e1 : ((((cfg0.win 5).blk t).view.emb y) 1 : Fin 1024) = y 1 := Fin.ext (by blk_simp [idx t])
  rw [e0, e1]
theorem final6 (c : Dev nD) : (dats m 0 c).arrAt 6 (cfgs 0).N = fun i : S8192x1024.Idx => out (Xa m c) (Ga m c) (Ta m c) (i 0) (i 1) := by
  refine (dats m 0 c).arrAt_eq_of_covers 6 _ (by decide +kernel) fun t hf y => ?_
  blk_simp
  rw [after0_6]
  refine (o6 m c t y).trans ?_
  have e0 : ((((cfg0.win 6).blk t).view.emb y) 0 : Fin 8192) = at_ t (y 0) := Fin.ext (by blk_simp [idx t, at_])
  have e1 : ((((cfg0.win 6).blk t).view.emb y) 1 : Fin 1024) = y 1 := Fin.ext (by blk_simp [idx t])
  rw [e0, e1]
theorem final7 (c : Dev nD) : (dats m 0 c).arrAt 7 (cfgs 0).N = fun i : S1x1024.Idx => sq (Xa m c) (Ga m c) (Ta m c) (i 1) := by
  refine (dats m 0 c).arrAt_eq_of_covers 7 _ (by decide +kernel) fun t hf y => ?_
  have hB := (flush0_7 t).mp hf
  blk_simp
  rw [after0_7,
    Pipeline.eq_sum_fin_of_reset_step_apply_of_flush (fun n h => (outsAt0 m c n h).2.2.1) 16 (fun _ => (0 : EReal)) (sqpart m c)
    (fun t h j => sA7 m c t h j) (fun t h j => sB7 m c t h j) t hB _, zero_add]
  have hN := lt_of_lt_of_eq t.isLt N_0
  have e1 : ((((cfg0.win 7).blk t).view.emb y) 1 : Fin 1024) = y 1 := Fin.ext (by blk_simp [idx t])
  unfold sq sqpart
  rw [e1]
  refine Fin.sum_mul_add_congr fun s r hl => ?_
  have e : at_ ⟨16 * (t.val / 16) + s.val, Pipeline.run_point_lt_of_flush t hB s⟩ r = ⟨s.val * 512 + r.val, hl⟩ := Fin.ext (by show (16 * (t.val / 16) + s.val) * 512 + r.val = s.val * 512 + r.val; omega)
  rw [e]
theorem final8 (c : Dev nD) : (dats m 0 c).arrAt 8 (cfgs 0).N = fun i : S1x1024.Idx => gain (Xa m c) (Ga m c) (Ta m c) (i 1) := by
  refine (dats m 0 c).arrAt_eq_of_covers 8 _ (by decide +kernel) fun t hf y => ?_
  have hB := (flush0_8 t).mp hf
  blk_simp
  rw [after0_8,
    Pipeline.eq_sum_fin_of_reset_step_apply_of_flush (fun n h => (outsAt0 m c n h).2.2.2) 16 (fun _ => (0 : EReal)) (gpart m c)
    (fun t h j => sA8 m c t h j) (fun t h j => sB8 m c t h j) t hB _, zero_add]
  have hN := lt_of_lt_of_eq t.isLt N_0
  have e1 : ((((cfg0.win 8).blk t).view.emb y) 1 : Fin 1024) = y 1 := Fin.ext (by blk_simp [idx t])
  unfold gain gpart
  rw [e1]
  refine Fin.sum_mul_add_congr fun s r hl => ?_
  have e : at_ ⟨16 * (t.val / 16) + s.val, Pipeline.run_point_lt_of_flush t hB s⟩ r = ⟨s.val * 512 + r.val, hl⟩ := Fin.ext (by show (16 * (t.val / 16) + s.val) * 512 + r.val = s.val * 512 + r.val; omega)
  rw [e]
end Cert.Kernel9Ideal.Loss

namespace Cert.LossPair
open Idealize.ShloMosaic Idealize.ShloMosaic.TcCoe Idealize.SL.Sem Cert.Norms Cert.Kernel9Ideal.Loss

/-- The mean over 1024 entries, halved, of a doubled value is the value over 1024. -/
theorem dyR (e : EReal) : Ideal.div (Ideal.ofBits .f32 0x3F000000#32 * Ideal.ofBits .f32 0x3F800000#32) (Ideal.ofBits .f32 0x44800000#32) * (Ideal.ofBits .f32 0x40000000#32 * e)
    = e * Ideal.ofBits .f32 0x3A800000#32 := by
  have h1 : Ideal.ofBits .f32 0x3F000000#32 = ((1 / 2 : ℝ) : EReal) := by
    simp [Ideal.ofBits, Ideal.ieee, -EReal.coe_mul]; norm_num
  have h2 : Ideal.ofBits .f32 0x3F800000#32 = ((1 : ℝ) : EReal) := by
    simp [Ideal.ofBits, Ideal.ieee, -EReal.coe_mul]; norm_num
  have h3 : Ideal.ofBits .f32 0x40000000#32 = ((2 : ℝ) : EReal) := by
    simp [Ideal.ofBits, Ideal.ieee, -EReal.coe_mul]; norm_num
  have h4 : Ideal.ofBits .f32 0x3A800000#32 = ((1 / 1024 : ℝ) : EReal) := by
    simp [Ideal.ofBits, Ideal.ieee, -EReal.coe_mul]; norm_num
  rw [h1, h2, h3, h4, bits_1024, Ideal.div_coe (by norm_num), ← mul_assoc, ← EReal.coe_mul, ← EReal.coe_mul, ← EReal.coe_mul, mul_comm]
  congr 2
  norm_num

open Cert.Reference9Ideal Cert.Reference9Ideal.Read in
theorem read5 (x0 x1 x2 x3) (R : Fin 8192) (l : Fin 1024) : val_main_v5 (F := Ideal) x0 x1 x2 x3 (ix2 R l)
    = tok (fun R k => x0 (ix2 R k)) (fun k f => x1 (ix2 k f)) (fun f l => x2 (ix2 f l)) (fun R l => x3 (ix2 R l)) R l := by
  unfold tok act
  pointwise [val_main_v0, val_main_v1, val_main_v2, val_main_v3, val_main_v4, val_main_v5, val_main_call0_cst, val_main_call0_v0]
open Cert.Reference9Ideal Cert.Reference9Ideal.Read in
theorem read21 (x0 x1 x2 x3 x4 x5) (R : Fin 8192) (l : Fin 1024) : val_main_v21 (F := Ideal) x0 x1 x2 x3 x4 x5 (ix2 R l)
    = err (fun R l => val_main_v5 (F := Ideal) x0 x1 x2 x3 (ix2 R l)) (fun l => x4 (ix2 0 l)) (fun R l => x5 (ix2 R l)) R l := by
  unfold err scale under
  unfold val_main_v21 val_main_v20 val_main_v18 val_main_v17 val_main_v13 val_main_v12 val_main_v10 val_main_v8 val_main_v7 val_main_v6
  generalize val_main_v5 (F := Ideal) x0 x1 x2 x3 = P
  pointwise [val_main_v19, val_main_v9, val_main_v11, val_main_cst, val_main_cst_0, val_main_cst_1]
open Cert.Reference9Ideal Cert.Reference9Ideal.Read in
theorem read37 (x0 x1 x2 x3 x4 x5) (R : Fin 8192) (l : Fin 1024) : val_main_v37 (F := Ideal) x0 x1 x2 x3 x4 x5 (ix2 R l)
    = dy (fun R l => val_main_v5 (F := Ideal) x0 x1 x2 x3 (ix2 R l)) (fun l => x4 (ix2 0 l)) (fun R l => x5 (ix2 R l)) R l := by
  unfold dy
  rw [← read21]
  unfold val_main_v37 val_main_v24
  generalize val_main_v21 (F := Ideal) x0 x1 x2 x3 x4 x5 = P
  rw [← dyR]
  pointwise [val_main_v36, val_main_v35, val_main_v34, val_main_v33, val_main_v32, val_main_v23, val_main_cst_3, val_main_cst_9, val_main_cst_10, val_main_cst_11]
open Cert.Reference9Ideal Cert.Reference9Ideal.Read in
theorem read56 (x0 x1 x2 x3 x4 x5) (R : Fin 8192) (l : Fin 1024) : val_main_v56 (F := Ideal) x0 x1 x2 x3 x4 x5 (ix2 R l)
    = out (fun R l => val_main_v5 (F := Ideal) x0 x1 x2 x3 (ix2 R l)) (fun l => x4 (ix2 0 l)) (fun R l => x5 (ix2 R l)) R l := by
  unfold out
  simp only [← read37]
  rw [back_eq]
  unfold backR Cert.Norms.slope scale under
  unfold val_main_v56 val_main_v55 val_main_v54 val_main_v53 val_main_v52 val_main_v51 val_main_v50 val_main_v48 val_main_v47 val_main_v46 val_main_v45 val_main_v44 val_main_v43 val_main_v42 val_main_v16
  unfold val_main_v14 val_main_v13 val_main_v12 val_main_v10 val_main_v8 val_main_v7 val_main_v6
  generalize val_main_v37 (F := Ideal) x0 x1 x2 x3 x4 x5 = D
  generalize val_main_v5 (F := Ideal) x0 x1 x2 x3 = P
  pointwise [val_main_v41, val_main_v15, val_main_v9, val_main_v11, val_main_v49, val_main_cst, val_main_cst_0, val_main_cst_1, val_main_cst_2, val_main_cst_13, val_main_cst_14, val_main_cst_15]
  simp only [Finset.sum_const, Finset.card_univ, Fintype.card_fin, one_smul]
open Cert.Reference9Ideal Cert.Reference9Ideal.Read in
theorem read31 (x0 x1 x2 x3 x4 x5) (l : Fin 1024) : val_main_v31 (F := Ideal) x0 x1 x2 x3 x4 x5 (ix2 0 l)
    = Cert.Kernel9Ideal.Loss.sq (fun R l => val_main_v5 (F := Ideal) x0 x1 x2 x3 (ix2 R l)) (fun l => x4 (ix2 0 l)) (fun R l => x5 (ix2 R l)) l := by
  unfold Cert.Kernel9Ideal.Loss.sq
  simp only [← read21]
  unfold val_main_v31 val_main_v30 val_main_v22
  generalize val_main_v21 (F := Ideal) x0 x1 x2 x3 x4 x5 = P
  pointwise [val_main_cst_8]
open Cert.Reference9Ideal Cert.Reference9Ideal.Read in
theorem read40 (x0 x1 x2 x3 x4 x5) (l : Fin 1024) : val_main_v40 (F := Ideal) x0 x1 x2 x3 x4 x5 (ix2 0 l)
    = gain (fun R l => val_main_v5 (F := Ideal) x0 x1 x2 x3 (ix2 R l)) (fun l => x4 (ix2 0 l)) (fun R l => x5 (ix2 R l)) l := by
  unfold gain
  simp only [← read37]
  unfold scale under
  unfold val_main_v40 val_main_v39 val_main_v38 val_main_v18 val_main_v17 val_main_v13 val_main_v12 val_main_v10 val_main_v8 val_main_v7 val_main_v6
  generalize val_main_v37 (F := Ideal) x0 x1 x2 x3 x4 x5 = D
  generalize val_main_v5 (F := Ideal) x0 x1 x2 x3 = P
  pointwise [val_main_v9, val_main_v11, val_main_cst, val_main_cst_0, val_main_cst_1, val_main_cst_12]
  exact Finset.sum_congr rfl fun R _ => mul_comm _ _
open Cert.Reference9Ideal Cert.Reference9Ideal.Read in
theorem tokens (x0 x1 x2 x3) : (fun R l => val_main_v5 (F := Ideal) x0 x1 x2 x3 (ix2 R l))
    = fun (R : Fin 8192) (l : Fin 1024) => tok (fun R k => x0 (ix2 R k)) (fun k f => x1 (ix2 k f)) (fun f l => x2 (ix2 f l)) (fun R l => x3 (ix2 R l)) R l := by
  funext R l
  exact read5 x0 x1 x2 x3 R l

theorem algebraic : Cert.algebraic_Kernel9Ideal_Reference9Ideal := by
  pair_intro
  · run_from Cert.Kernel9Ideal.Gen.run_main m g
    · exact Cert.Kernel9Ideal.Gen.V_main_arg0 m c
    · exact Cert.Kernel9Ideal.Gen.V_main_arg1 m c
    · exact Cert.Kernel9Ideal.Gen.V_main_arg2 m c
  · refine Idealize.ShloMosaic.θ_run_mono (Cert.Reference9Ideal.Value.run m' g') ?_
    intro r hr c
    obtain ⟨h0, h1, h2, h3, hrest⟩ := hr c
    obtain ⟨a0, a1, a2, a3, a4, a5⟩ := hagree c
    refine ⟨h0.trans ?_, h1.trans ?_, h2.trans ?_, h3.trans ?_, hrest⟩
    · clear h0 h1 h2 h3 hrest
      rw [Cert.Reference9Ideal.Read.val_main_v56_eq, Cert.Kernel9Ideal.Loss.final5, a0, a1, a2, a3, a4, a5]
      funext i
      rw [Cert.Kernel9Ideal.Loss.etaR i]
      refine (read56 _ _ _ _ _ _ (i 0) (i 1)).trans ?_
      rw [tokens]
      rfl
    · clear h0 h1 h2 h3 hrest
      rw [Cert.Reference9Ideal.Read.val_main_v57_eq, Cert.Kernel9Ideal.Loss.final6, a0, a1, a2, a3, a4, a5]
      funext i
      rw [Cert.Kernel9Ideal.Loss.etaR i]
      refine (show _ = Cert.Reference9Ideal.Read.val_main_v56 (F := Ideal) _ _ _ _ _ _ (ix2 (i 0) (i 1)) from rfl).trans ((read56 _ _ _ _ _ _ (i 0) (i 1)).trans ?_)
      rw [tokens]
      rfl
    · clear h0 h1 h2 h3 hrest
      rw [Cert.Reference9Ideal.Read.val_main_v31_eq, Cert.Kernel9Ideal.Loss.final7, a0, a1, a2, a3, a4, a5]
      funext i
      rw [Cert.Kernel9Ideal.Loss.etaG i]
      refine (read31 _ _ _ _ _ _ (i 1)).trans ?_
      rw [tokens]
      rfl
    · clear h0 h1 h2 h3 hrest
      rw [Cert.Reference9Ideal.Read.val_main_v40_eq, Cert.Kernel9Ideal.Loss.final8, a0, a1, a2, a3, a4, a5]
      funext i
      rw [Cert.Kernel9Ideal.Loss.etaG i]
      refine (read40 _ _ _ _ _ _ (i 1)).trans ?_
      rw [tokens]
      rfl
end Cert.LossPair
-- ==== Proof.UpFPair.lean ====
/-
  The product up and the squared rectifier: the kernel multiplies tile by tile with the weights cut into eight slabs; its
  array is the reference's, at every input.
-/
module

public import proofs.«01_k».proof.Defs
public import proofs.«01_k».proof.Proof.Gen.Kernel10Ideal.Frame
public import proofs.«01_k».proof.Proof.Gen.Reference10Ideal.Read
public import Idealize.ShloMosaic.Lib.Pipeline.ValueKit
public import Idealize.ShloMosaic.Lib.Pointwise
public import Idealize.ShloMosaic.Lib.Claim

@[expose] public section
set_option maxRecDepth 16384
noncomputable section
namespace Cert.Kernel10Ideal.UpF
open Cert.Kernel10Ideal Cert.Kernel10Ideal.Gen Idealize.ShloMosaic Idealize.ShloMosaic.TcCoe Idealize.SL.Sem
open Idealize.ShloMosaic.Pipeline (Dat)
variable (m : (ℓ : Loc nD τ sig) → Buf (Elt Ideal) ℓ)
theorem idx : ∀ t : Fin cfg0.N,
    win0_0.index t = ![t.val, 0] ∧ win0_1.index t = ![0, 0, 0] ∧ win0_2.index t = ![t.val, 0] :=
  (by decide +kernel : ∀ t : Fin grid0.N, _)

/-- The normalised tokens. -/
abbrev Na (c : Dev nD) (R : Fin 8192) (l : Fin 1024) : EReal := (show FVec Ideal S8192x1024 .bf16 from m ((c : Thread nD τ).loc main_arg0)) (ix2 R l)
/-- The weights of the product up. -/
abbrev Wa (c : Dev nD) (l : Fin 1024) (f : Fin 4096) : EReal := (show FVec Ideal S1024x4096 .f32 from m ((c : Thread nD τ).loc main_arg1)) (ix2 l f)

/-- Row `r` of the tile of point `t`. -/
def at_ (t : Fin cfg0.N) (r : Fin 512) : Fin 8192 := ⟨t.val * 512 + r.val, by have := lt_of_lt_of_eq t.isLt N_0; omega⟩
/-- Column `k` of slab `s`. -/
def col (s : Fin 8) (k : Fin 512) : Fin 4096 := ⟨s.val * 512 + k.val, by omega⟩
/-- The slab of a column, and its place there. -/
def slab (f : Fin 4096) : Fin 8 := ⟨f.val / 512, by omega⟩
def place (f : Fin 4096) : Fin 512 := ⟨f.val % 512, by omega⟩
theorem col_slab (f : Fin 4096) : col (slab f) (place f) = f := Fin.ext (by show f.val / 512 * 512 + f.val % 512 = f.val; omega)

theorem V2 (c : Dev nD) (s : Fin 8) (l : Fin 1024) (k : Fin 512) : (show FVec Ideal S8x1024x512 .bf16 from V m c main_v2) (ix3 s l k) = Wa m c l (col s k) := by
  simp only [V, hostOps0, List.flatten_cons, List.flatten_nil, List.append_nil, List.cons_append, List.nil_append]
  entry_read
  pointwise
  rfl

theorem blk0 (c : Dev nD) (t : Fin cfg0.N) (r : Fin 512) (l : Fin 1024) : (show FVec Ideal S512x1024 .bf16 from iblk m c 0 t) (ix2 r l) = Na m c (at_ t r) l := by
  blk_ext [iblk, V, idx t, at_]
theorem blk1 (c : Dev nD) (t : Fin cfg0.N) (s : Fin 8) (l : Fin 1024) (k : Fin 512) : (show FVec Ideal S8x1024x512 .bf16 from iblk m c 1 t) (ix3 s l k) = Wa m c l (col s k) := by
  refine Eq.trans ?_ (V2 m c s l k)
  blk_ext [iblk, idx t, at_]

theorem etaR (i : S8192x4096.Idx) : i = ix2 (i 0) (i 1) := by blk_ext

/-- The squared rectified value. -/
def sqr (z : EReal) : EReal := max z 0 * max z 0

/-- What the body leaves in the tile of the result. -/
theorem tile (x0 : FVec Ideal S512x1024 .bf16) (x1 : FVec Ideal S8x1024x512 .bf16) (y : S512x4096.Idx) :
    out0_2 (F := Ideal) x0 x1 y = sqr (∑ l : Fin 1024, x0 (ix2 (y 0) l) * x1 (ix3 (slab (y 1)) l (place (y 1)))) := by
  unfold out0_2
  unfold sqr
  canon_tiles x h
  all_goals
    pointwise [k0_pay1, k0_pay2, k0_pay3, k0_pay4, k0_pay5, k0_pay6, k0_pay7, k0_pay8, k0_pay9]
    refine congrArg (fun z : EReal => max z 0 * max z 0) (Finset.sum_congr rfl fun l _ => congrArg₂ (· * ·) ?_ ?_)
    · exact congrArg x0 (congrArg (ix2 · l) (Fin.ext h0.symm))
    · exact congrArg x1 (congrArg₂ (fun s k => ix3 s l k) (Fin.ext (by show _ = (y 1).val / 512; rw [h1]; first | (change 0 = _; omega) | (change 1 = _; omega) | (change 2 = _; omega) | (change 3 = _; omega) | (change 4 = _; omega) | (change 5 = _; omega) | (change 6 = _; omega) | (change 7 = _; omega))) (Fin.ext (by show _ = (y 1).val % 512; rw [h1]; omega)))

/-- The squared rectified product. -/
def act (N : Fin 8192 → Fin 1024 → EReal) (W : Fin 1024 → Fin 4096 → EReal) (R : Fin 8192) (f : Fin 4096) : EReal :=
  sqr (∑ l : Fin 1024, N R l * W l f)

theorem final (c : Dev nD) : (dats m 0 c).arrAt 2 (cfgs 0).N = fun i : S8192x4096.Idx => act (Na m c) (Wa m c) (i 0) (i 1) := by
  refine (dats m 0 c).arrAt_eq_of_covers 2 _ (by decide +kernel) fun t hf y => ?_
  blk_simp
  rw [after0_2, tile]
  have e0 : ((((cfg0.win 2).blk t).view.emb y) 0 : Fin 8192) = at_ t (y 0) := Fin.ext (by blk_simp [idx t, at_])
  have e1 : ((((cfg0.win 2).blk t).view.emb y) 1 : Fin 4096) = y 1 := Fin.ext (by blk_simp [idx t, at_])
  unfold act
  rw [e0, e1]
  exact congrArg sqr (Finset.sum_congr rfl fun l _ => congrArg₂ (· * ·) (blk0 m c t (y 0) l)
    ((blk1 m c t (slab (y 1)) l (place (y 1))).trans (congrArg (Wa m c l) (col_slab (y 1)))))

end Cert.Kernel10Ideal.UpF

namespace Cert.UpFPair
open Idealize.ShloMosaic Idealize.ShloMosaic.TcCoe Idealize.SL.Sem
open Cert.Reference10Ideal Cert.Reference10Ideal.Read in
theorem read (x0 x1) (R : Fin 8192) (f : Fin 4096) : val_main_v4 (F := Ideal) x0 x1 (ix2 R f)
    = Cert.Kernel10Ideal.UpF.act (fun R l => x0 (ix2 R l)) (fun l f => x1 (ix2 l f)) R f := by
  unfold Cert.Kernel10Ideal.UpF.act Cert.Kernel10Ideal.UpF.sqr
  pointwise [val_main_v4, val_main_v3, val_main_v2, val_main_v1, val_main_v0, val_main_call0_cst, val_main_call0_v0]

theorem algebraic : Cert.algebraic_Kernel10Ideal_Reference10Ideal := by
  pair_intro
  · run_from Cert.Kernel10Ideal.Gen.run_main m g
  · refine Idealize.ShloMosaic.θ_run_mono (Cert.Reference10Ideal.Value.run m' g') ?_
    intro r hr c
    obtain ⟨h0, hrest⟩ := hr c
    obtain ⟨a0, a1⟩ := hagree c
    refine ⟨h0.trans ?_, hrest⟩
    rw [Cert.Reference10Ideal.Read.val_main_v4_eq, Cert.Kernel10Ideal.UpF.final, a0, a1]
    funext i
    rw [Cert.Kernel10Ideal.UpF.etaR i]
    exact read _ _ (i 0) (i 1)

end Cert.UpFPair
-- ==== Proof.InFPair.lean ====
/-
  The product in: the kernel multiplies tile by tile and stores the five slabs of columns one behind the other; its array
  is the reference's, at every input.
-/
module

public import proofs.«01_k».proof.Defs
public import proofs.«01_k».proof.Proof.Gen.Kernel11Ideal.Frame
public import proofs.«01_k».proof.Proof.Gen.Reference11Ideal.Read
public import Idealize.ShloMosaic.Lib.Pipeline.ValueKit
public import Idealize.ShloMosaic.Lib.Pointwise
public import Idealize.ShloMosaic.Lib.Claim

@[expose] public section
set_option maxRecDepth 16384
noncomputable section
namespace Cert.Kernel11Ideal.InF
open Cert.Kernel11Ideal Cert.Kernel11Ideal.Gen Idealize.ShloMosaic Idealize.ShloMosaic.TcCoe Idealize.SL.Sem
open Idealize.ShloMosaic.Pipeline (Dat)
variable (m : (ℓ : Loc nD τ sig) → Buf (Elt Ideal) ℓ)
theorem idx : ∀ t : Fin cfg0.N,
    win0_0.index t = ![t.val, 0] ∧ win0_1.index t = ![0, 0] ∧ win0_2.index t = ![0, t.val, 0] :=
  (by decide +kernel : ∀ t : Fin grid0.N, _)

/-- The normalised tokens. -/
abbrev Na (c : Dev nD) (R : Fin 8192) (l : Fin 1024) : EReal := (show FVec Ideal S8192x1024 .bf16 from m ((c : Thread nD τ).loc main_arg0)) (ix2 R l)
/-- The weights of the product in. -/
abbrev Wa (c : Dev nD) (l : Fin 1024) (f : Fin 2560) : EReal := (show FVec Ideal S1024x2560 .f32 from m ((c : Thread nD τ).loc main_arg1)) (ix2 l f)

/-- Row `r` of the tile of point `t`. -/
def at_ (t : Fin cfg0.N) (r : Fin 1024) : Fin 8192 := ⟨t.val * 1024 + r.val, by have := lt_of_lt_of_eq t.isLt N_0; omega⟩
/-- Column `k` of slab `s`. -/
def col (s : Fin 5) (k : Fin 512) : Fin 2560 := ⟨s.val * 512 + k.val, by omega⟩

theorem V0 (c : Dev nD) (l : Fin 1024) (f : Fin 2560) : (show FVec Ideal S1024x2560 .bf16 from V m c main_v0) (ix2 l f) = Wa m c l f := by
  simp only [V, hostOps0, List.flatten_cons, List.flatten_nil, List.append_nil, List.cons_append, List.nil_append]
  entry_read
  pointwise

theorem blk0 (c : Dev nD) (t : Fin cfg0.N) (r : Fin 1024) (l : Fin 1024) : (show FVec Ideal S1024x1024 .bf16 from iblk m c 0 t) (ix2 r l) = Na m c (at_ t r) l := by
  blk_ext [iblk, V, idx t, at_]
theorem blk1 (c : Dev nD) (t : Fin cfg0.N) (l : Fin 1024) (f : Fin 2560) : (show FVec Ideal S1024x2560 .bf16 from iblk m c 1 t) (ix2 l f) = Wa m c l f := by
  refine Eq.trans ?_ (V0 m c l f)
  blk_ext [iblk, idx t, at_]

theorem etaR (i : S5x8192x512.Idx) : i = ix3 (i 0) (i 1) (i 2) := by blk_ext

/-- What the body leaves in the tile of the result. -/
theorem tile (x0 : FVec Ideal S1024x1024 .bf16) (x1 : FVec Ideal S1024x2560 .bf16) (y : S5x1024x512.Idx) :
    out0_2 (F := Ideal) x0 x1 y = ∑ l : Fin 1024, x0 (ix2 (y 1) l) * x1 (ix2 l (col (y 0) (y 2))) := by
  unfold out0_2
  canon_tiles x h
  all_goals
    have hx : (x 0).val = 0 := by have := (x 0).isLt; omega
    pointwise [k0_pay1, k0_pay2, k0_pay3, k0_pay4, k0_pay5, k0_pay6]
    refine Finset.sum_congr rfl fun l _ => congrArg₂ (· * ·) ?_ ?_
    · exact congrArg x0 (congrArg (ix2 · l) (Fin.ext h1.symm))
    · exact congrArg x1 (congrArg (fun k => ix2 l k) (Fin.ext (by show _ = (y 0).val * 512 + (y 2).val; rw [h0, h2]; simp; try omega)))

/-- The product, in slabs of columns. -/
def act (N : Fin 8192 → Fin 1024 → EReal) (W : Fin 1024 → Fin 2560 → EReal) (s : Fin 5) (R : Fin 8192) (k : Fin 512) : EReal :=
  ∑ l : Fin 1024, N R l * W l (col s k)

theorem final (c : Dev nD) : (dats m 0 c).arrAt 2 (cfgs 0).N = fun i : S5x8192x512.Idx => act (Na m c) (Wa m c) (i 0) (i 1) (i 2) := by
  refine (dats m 0 c).arrAt_eq_of_covers 2 _ (by decide +kernel) fun t hf y => ?_
  blk_simp
  rw [after0_2, tile]
  have e0 : ((((cfg0.win 2).blk t).view.emb y) 0 : Fin 5) = y 0 := Fin.ext (by blk_simp [idx t, at_])
  have e1 : ((((cfg0.win 2).blk t).view.emb y) 1 : Fin 8192) = at_ t (y 1) := Fin.ext (by blk_simp [idx t, at_])
  have e2 : ((((cfg0.win 2).blk t).view.emb y) 2 : Fin 512) = y 2 := Fin.ext (by blk_simp [idx t, at_])
  unfold act
  rw [e0, e1, e2]
  have key : ∑ l : Fin 1024, (show FVec Ideal S1024x1024 .bf16 from iblk m c 0 t) (ix2 (y 1) l) * (show FVec Ideal S1024x2560 .bf16 from iblk m c 1 t) (ix2 l (col (y 0) (y 2)))
      = ∑ l : Fin 1024, Na m c (at_ t (y 1)) l * Wa m c l (col (y 0) (y 2)) :=
    Finset.sum_congr rfl fun l _ => congrArg₂ (· * ·) (blk0 m c t (y 1) l) (blk1 m c t l (col (y 0) (y 2)))
  exact key

end Cert.Kernel11Ideal.InF

namespace Cert.InFPair
open Idealize.ShloMosaic Idealize.ShloMosaic.TcCoe Idealize.SL.Sem
open Cert.Reference11Ideal Cert.Reference11Ideal.Read in
theorem read (x0 x1) (s : Fin 5) (R : Fin 8192) (k : Fin 512) : val_main_v3 (F := Ideal) x0 x1 (ix3 s R k)
    = Cert.Kernel11Ideal.InF.act (fun R l => x0 (ix2 R l)) (fun l f => x1 (ix2 l f)) s R k := by
  unfold Cert.Kernel11Ideal.InF.act
  pointwise [val_main_v3, val_main_v2, val_main_v1, val_main_v0]
  rfl

theorem algebraic : Cert.algebraic_Kernel11Ideal_Reference11Ideal := by
  pair_intro
  · run_from Cert.Kernel11Ideal.Gen.run_main m g
  · refine Idealize.ShloMosaic.θ_run_mono (Cert.Reference11Ideal.Value.run m' g') ?_
    intro r hr c
    obtain ⟨h0, hrest⟩ := hr c
    obtain ⟨a0, a1⟩ := hagree c
    refine ⟨h0.trans ?_, hrest⟩
    rw [Cert.Reference11Ideal.Read.val_main_v3_eq, Cert.Kernel11Ideal.InF.final, a0, a1]
    funext i
    rw [Cert.Kernel11Ideal.InF.etaR i]
    exact read _ _ (i 0) (i 1) (i 2)

end Cert.InFPair
-- ==== Proof.QPair.lean ====
/-
  The gradient back through the product of the queries and its normalisation, and on through the mixer's output
  product: the kernel takes a tile of rows at a time, adds up the gain's gradient from tile to tile, and stores the
  values of the next product in two slabs of columns; its four arrays are the reference's, at every input.
-/
module

public import proofs.«01_k».proof.Defs
public import proofs.«01_k».proof.Proof.Gen.Kernel12Ideal.Frame
public import proofs.«01_k».proof.Proof.Gen.Reference12Ideal.Read
public import Idealize.ShloMosaic.Lib.Pipeline.ValueKit
public import Idealize.ShloMosaic.Lib.Pipeline.ReadBack
public import Idealize.ShloMosaic.Lib.Pointwise
public import Idealize.ShloMosaic.Lib.Claim
public import proofs.«01_k».proof.Proof.Norms

@[expose] public section
set_option maxRecDepth 16384
noncomputable section
namespace Cert.Kernel12Ideal.Q
open Cert.Kernel12Ideal Cert.Kernel12Ideal.Gen Idealize.ShloMosaic Idealize.ShloMosaic.TcCoe Idealize.SL.Sem Cert.Norms
open Idealize.ShloMosaic.Pipeline (Dat)
variable (m : (ℓ : Loc nD τ sig) → Buf (Elt Ideal) ℓ)
theorem idx : ∀ t : Fin cfg0.N,
    win0_0.index t = ![t.val, 0] ∧ win0_1.index t = ![0, 0] ∧ win0_2.index t = ![t.val, 0] ∧ win0_3.index t = ![0, 0]
      ∧ win0_4.index t = ![t.val, 0] ∧ win0_5.index t = ![0, 0] ∧ win0_6.index t = ![t.val, 0] ∧ win0_7.index t = ![t.val, 0]
      ∧ win0_8.index t = ![0, t.val, 0] ∧ win0_9.index t = ![0, 0] :=
  (by decide +kernel : ∀ t : Fin grid0.N, _)

/-- The gradient of the queries. -/
abbrev Aa (c : Dev nD) (R : Fin 8192) (f : Fin 1024) : EReal := (show FVec Ideal S8192x1024 .bf16 from m ((c : Thread nD τ).loc main_arg0)) (ix2 R f)
/-- The weights of the queries. -/
abbrev Wa (c : Dev nD) (l : Fin 1024) (f : Fin 1024) : EReal := (show FVec Ideal S1024x1024 .f32 from m ((c : Thread nD τ).loc main_arg1)) (ix2 l f)
/-- The tokens. -/
abbrev Xa (c : Dev nD) (R : Fin 8192) (l : Fin 1024) : EReal := (show FVec Ideal S8192x1024 .f32 from m ((c : Thread nD τ).loc main_arg2)) (ix2 R l)
/-- The gain of the normalisation. -/
abbrev Ga (c : Dev nD) (l : Fin 1024) : EReal := (show FVec Ideal S1x1024 .f32 from m ((c : Thread nD τ).loc main_arg3)) (ix2 0 l)
/-- The gradient that arrives beside the product. -/
abbrev Da (c : Dev nD) (R : Fin 8192) (l : Fin 1024) : EReal := (show FVec Ideal S8192x1024 .f32 from m ((c : Thread nD τ).loc main_arg4)) (ix2 R l)
/-- The weights of the next product. -/
abbrev Ea (c : Dev nD) (o : Fin 1024) (l : Fin 1024) : EReal := (show FVec Ideal S1024x1024 .f32 from m ((c : Thread nD τ).loc main_arg5)) (ix2 o l)

/-- Row `r` of the tile of point `t`. -/
def at_ (t : Fin cfg0.N) (r : Fin 1024) : Fin 8192 := ⟨t.val * 1024 + r.val, by have := lt_of_lt_of_eq t.isLt N_0; omega⟩
/-- Column `k` of slab `s`. -/
def col (s : Fin 2) (k : Fin 512) : Fin 1024 := ⟨s.val * 512 + k.val, by omega⟩

theorem V0 (c : Dev nD) (l f : Fin 1024) : (show FVec Ideal S1024x1024 .bf16 from V m c main_v0) (ix2 l f) = Wa m c l f := by
  simp only [V, hostOps0, List.flatten_cons, List.flatten_nil, List.append_nil, List.cons_append, List.nil_append]
  entry_read
  pointwise
theorem V1 (c : Dev nD) (o : Fin 1024) (l : Fin 1024) : (show FVec Ideal S1024x1024 .bf16 from V m c main_v1) (ix2 o l) = Ea m c o l := by
  simp only [V, hostOps0, List.flatten_cons, List.flatten_nil, List.append_nil, List.cons_append, List.nil_append]
  entry_read
  pointwise

theorem blk0 (c : Dev nD) (t : Fin cfg0.N) (r : Fin 1024) (f : Fin 1024) : (show FVec Ideal S1024x1024 .bf16 from iblk m c 0 t) (ix2 r f) = Aa m c (at_ t r) f := by
  blk_ext [iblk, V, idx t, at_]
theorem blk1 (c : Dev nD) (t : Fin cfg0.N) (l f : Fin 1024) : (show FVec Ideal S1024x1024 .bf16 from iblk m c 1 t) (ix2 l f) = Wa m c l f := by
  refine Eq.trans ?_ (V0 m c l f)
  blk_ext [iblk, idx t, at_]
theorem blk2 (c : Dev nD) (t : Fin cfg0.N) (r : Fin 1024) (l : Fin 1024) : (show FVec Ideal S1024x1024 .f32 from iblk m c 2 t) (ix2 r l) = Xa m c (at_ t r) l := by
  blk_ext [iblk, V, idx t, at_]
theorem blk3 (c : Dev nD) (t : Fin cfg0.N) (l : Fin 1024) : (show FVec Ideal S1x1024 .f32 from iblk m c 3 t) (ix2 0 l) = Ga m c l := by
  blk_ext [iblk, V, idx t, at_]
theorem blk4 (c : Dev nD) (t : Fin cfg0.N) (r : Fin 1024) (l : Fin 1024) : (show FVec Ideal S1024x1024 .f32 from iblk m c 4 t) (ix2 r l) = Da m c (at_ t r) l := by
  blk_ext [iblk, V, idx t, at_]
theorem blk5 (c : Dev nD) (t : Fin cfg0.N) (o : Fin 1024) (l : Fin 1024) : (show FVec Ideal S1024x1024 .bf16 from iblk m c 5 t) (ix2 o l) = Ea m c o l := by
  refine Eq.trans ?_ (V1 m c o l)
  blk_ext [iblk, idx t, at_]

/-- The gradient at the normalised row, as the kernel stores it. -/
def dnv (c : Dev nD) (t : Fin cfg0.N) : FVec Ideal S1024x1024 .f32 := k0_pay5 (F := Ideal) (iblk m c 0 t) (iblk m c 1 t)
/-- The gradient at the normalised row. -/
def dn (A : Fin 8192 → Fin 1024 → EReal) (W : Fin 1024 → Fin 1024 → EReal) (R : Fin 8192) (l : Fin 1024) : EReal := ∑ f, A R f * W l f

theorem pay5_eq (a w : FVec Ideal S1024x1024 .bf16) (r l : Fin 1024) :
    (show EReal from k0_pay5 (F := Ideal) a w (ix2 r l)) = ∑ f : Fin 1024, a (ix2 r f) * w (ix2 l f) := by
  pointwise [k0_pay5]
theorem dnv_eq (c : Dev nD) (t : Fin cfg0.N) (r : Fin 1024) (l : Fin 1024) : dnv m c t (ix2 r l) = dn (Aa m c) (Wa m c) (at_ t r) l :=
  (pay5_eq _ _ r l).trans (Finset.sum_congr rfl fun f _ => congrArg₂ (· * ·) (blk0 m c t r f) (blk1 m c t l f))

/-- What a row of the normalisation's gradient is, from the gradient at the normalised row. -/
theorem pay1_eq (a w : FVec Ideal S1024x1024 .bf16) (x : FVec Ideal S1024x1024 .f32) (g : FVec Ideal S1x1024 .f32) (d : FVec Ideal S1024x1024 .f32) (r : Fin 1024) (l : Fin 1024) :
    k0_pay1 (F := Ideal) (k0_pay6 (F := Ideal) x) d (k0_pay10 (F := Ideal) a w x g) (ix2 r l) = backK (fun l => x (ix2 r l)) (fun l => k0_pay5 (F := Ideal) a w (ix2 r l) * g (ix2 0 l)) (d (ix2 r l)) l := by
  unfold backK scale under k0_pay10
  generalize k0_pay5 (F := Ideal) a w = P
  pointwise [k0_pay1, k0_pay6, k0_pay7]
theorem pay2_eq (a : FVec Ideal S1024x1 .f32) (d b : FVec Ideal S1024x1024 .f32) (y : S1024x1024.Idx) :
    (show EReal from k0_pay2 (F := Ideal) a d b y) = k0_pay1 (F := Ideal) a d b y := by
  unfold k0_pay2
  generalize k0_pay1 (F := Ideal) a d b = P
  pointwise
theorem pay3_eq (a : FVec Ideal S1024x1 .f32) (d b : FVec Ideal S1024x1024 .f32) (w : FVec Ideal S512x1024 .bf16) (x : S1x1024x512.Idx) :
    (show EReal from k0_pay3 (F := Ideal) a d b w x) = ∑ l : Fin 1024, (show EReal from k0_pay1 (F := Ideal) a d b (ix2 (x 1) l)) * w (ix2 (x 2) l) := by
  have hx : (x 0).val = 0 := Nat.lt_one_iff.mp (x 0).isLt
  unfold k0_pay3 k0_pay2
  generalize k0_pay1 (F := Ideal) a d b = P
  pointwise
theorem pay4_eq (a : FVec Ideal S1024x1 .f32) (d b : FVec Ideal S1024x1024 .f32) (w : FVec Ideal S512x1024 .bf16) (x : S1x1024x512.Idx) :
    (show EReal from k0_pay4 (F := Ideal) a d b w x) = ∑ l : Fin 1024, (show EReal from k0_pay1 (F := Ideal) a d b (ix2 (x 1) l)) * w (ix2 (x 2) l) := by
  have hx : (x 0).val = 0 := Nat.lt_one_iff.mp (x 0).isLt
  unfold k0_pay4 k0_pay2
  generalize k0_pay1 (F := Ideal) a d b = P
  pointwise
theorem pay8_eq (a w : FVec Ideal S1024x1024 .bf16) (x : FVec Ideal S1024x1024 .f32) (l : Fin 1024) :
    (show EReal from k0_pay8 (F := Ideal) a w x (ix2 0 l)) = ∑ r : Fin 1024, k0_pay5 (F := Ideal) a w (ix2 r l) * (x (ix2 r l) * scale fun k : Fin 1024 => x (ix2 r k)) := by
  unfold k0_pay8 scale under
  generalize k0_pay5 (F := Ideal) a w = P
  pointwise [k0_pay6, k0_pay7]
theorem pay9_eq (a w : FVec Ideal S1024x1024 .bf16) (x : FVec Ideal S1024x1024 .f32) (o : FVec Ideal S1x1024 .f32) (l : Fin 1024) :
    (show EReal from k0_pay9 (F := Ideal) a w x o (ix2 0 l)) = o (ix2 0 l) + k0_pay8 (F := Ideal) a w x (ix2 0 l) := by
  unfold k0_pay9
  generalize k0_pay8 (F := Ideal) a w x = P
  pointwise

/-- The gradient of the tile's rows, as the kernel stores it. -/
def ov (c : Dev nD) (t : Fin cfg0.N) : FVec Ideal S1024x1024 .f32 :=
  k0_pay1 (F := Ideal) (k0_pay6 (F := Ideal) (iblk m c 2 t)) (iblk m c 4 t) (k0_pay10 (F := Ideal) (iblk m c 0 t) (iblk m c 1 t) (iblk m c 2 t) (iblk m c 3 t))

theorem o6 (c : Dev nD) (t : Fin cfg0.N) (y : S1024x1024.Idx) : (outsAt0 m c t.val t.isLt).1 y = ov m c t y := by
  have hn := lt_of_lt_of_eq t.isLt N_0
  by_cases hA : t.val % 8 = 0
  · rw [outsAt0_A m c t hA (by omega)]
    frame_out
    rfl
  · rw [outsAt0_B m c t hA (by omega)]
    frame_out
    rfl
theorem o7 (c : Dev nD) (t : Fin cfg0.N) (y : S1024x1024.Idx) : (outsAt0 m c t.val t.isLt).2.1 y = ov m c t y := by
  have hn := lt_of_lt_of_eq t.isLt N_0
  refine Eq.trans ?_ (pay2_eq (k0_pay6 (F := Ideal) (iblk m c 2 t)) (iblk m c 4 t) (k0_pay10 (F := Ideal) (iblk m c 0 t) (iblk m c 1 t) (iblk m c 2 t) (iblk m c 3 t)) y)
  by_cases hA : t.val % 8 = 0
  · rw [outsAt0_A m c t hA (by omega)]
    frame_out
  · rw [outsAt0_B m c t hA (by omega)]
    frame_out

/-- The gradient of a row: what arrives plus what comes through the normalisation. -/
def out (A : Fin 8192 → Fin 1024 → EReal) (W : Fin 1024 → Fin 1024 → EReal) (X : Fin 8192 → Fin 1024 → EReal) (G : Fin 1024 → EReal)
    (D : Fin 8192 → Fin 1024 → EReal) (R : Fin 8192) (l : Fin 1024) : EReal :=
  backK (X R) (fun l => dn A W R l * G l) (D R l) l

theorem ov_eq (c : Dev nD) (t : Fin cfg0.N) (r : Fin 1024) (l : Fin 1024) :
    ov m c t (ix2 r l) = out (Aa m c) (Wa m c) (Xa m c) (Ga m c) (Da m c) (at_ t r) l := by
  unfold ov
  rw [pay1_eq]
  unfold out
  have e1 : (fun l => (show FVec Ideal S1024x1024 .f32 from iblk m c 2 t) (ix2 r l)) = Xa m c (at_ t r) := funext fun l => blk2 m c t r l
  have e2 : (fun l => dnv m c t (ix2 r l) * (show FVec Ideal S1x1024 .f32 from iblk m c 3 t) (ix2 0 l)) = fun l => dn (Aa m c) (Wa m c) (at_ t r) l * Ga m c l :=
    funext fun l => congrArg₂ (· * ·) (dnv_eq m c t r l) (blk3 m c t l)
  have e3 := blk4 m c t r l
  exact congr (congr (congrArg₂ backK e1 e2) e3) rfl

/-- The gradient of the values before the next product, in slabs of columns. -/
def next (A : Fin 8192 → Fin 1024 → EReal) (W : Fin 1024 → Fin 1024 → EReal) (X : Fin 8192 → Fin 1024 → EReal) (G : Fin 1024 → EReal)
    (D : Fin 8192 → Fin 1024 → EReal) (E : Fin 1024 → Fin 1024 → EReal) (s : Fin 2) (R : Fin 8192) (k : Fin 512) : EReal :=
  ∑ l, out A W X G D R l * E (col s k) l

/-- The two halves of the rows of the weights. -/
abbrev Rl : Rect S1024x1024 := Rect.unit ![0, 0] ![512, 1024] inb_S1024x1024_S512x1024_0_0
abbrev Rr : Rect S1024x1024 := Rect.unit ![512, 0] ![512, 1024] inb_S1024x1024_S512x1024_512_0
theorem wl (c : Dev nD) (t : Fin cfg0.N) (k : Fin 512) (l : Fin 1024) : (show EReal from (View.ld (iblk m c 5 t) Rl : FVec Ideal S512x1024 .bf16) (ix2 k l)) = Ea m c (col 0 k) l := by
  refine Eq.trans (congrArg (iblk m c 5 t) ?_) (blk5 m c t (col 0 k) l)
  funext a
  match a with
  | ⟨0, _⟩ => exact Fin.ext (by show 0 + 1 * k.val = 0 * 512 + k.val; omega)
  | ⟨1, _⟩ => exact Fin.ext (by show 0 + 1 * l.val = l.val; omega)
theorem wr (c : Dev nD) (t : Fin cfg0.N) (k : Fin 512) (l : Fin 1024) : (show EReal from (View.ld (iblk m c 5 t) Rr : FVec Ideal S512x1024 .bf16) (ix2 k l)) = Ea m c (col 1 k) l := by
  refine Eq.trans (congrArg (iblk m c 5 t) ?_) (blk5 m c t (col 1 k) l)
  funext a
  match a with
  | ⟨0, _⟩ => exact Fin.ext (by show 512 + 1 * k.val = 1 * 512 + k.val; omega)
  | ⟨1, _⟩ => exact Fin.ext (by show 0 + 1 * l.val = l.val; omega)

/-- The two slabs of the next product, as the kernel stores them. -/
abbrev slabs (c : Dev nD) (t : Fin cfg0.N) : List (View.Piece (Elt Ideal) S2x1024x512 .bf16) :=
  [⟨Rect.unit ![1, 0, 0] ![1, 1024, 512] inb_S2x1024x512_S1x1024x512_1_0_0,
      k0_pay4 (F := Ideal) (k0_pay6 (F := Ideal) (iblk m c 2 t)) (iblk m c 4 t) (k0_pay10 (F := Ideal) (iblk m c 0 t) (iblk m c 1 t) (iblk m c 2 t) (iblk m c 3 t)) (View.ld (iblk m c 5 t) Rr)⟩,
    ⟨Rect.unit ![0, 0, 0] ![1, 1024, 512] inb_S2x1024x512_S1x1024x512_0_0_0,
      k0_pay3 (F := Ideal) (k0_pay6 (F := Ideal) (iblk m c 2 t)) (iblk m c 4 t) (k0_pay10 (F := Ideal) (iblk m c 0 t) (iblk m c 1 t) (iblk m c 2 t) (iblk m c 3 t)) (View.ld (iblk m c 5 t) Rl)⟩]
theorem slabs_eq (c : Dev nD) (t : Fin cfg0.N) (y : S2x1024x512.Idx) :
    View.canon (slabs m c t) y = next (Aa m c) (Wa m c) (Xa m c) (Ga m c) (Da m c) (Ea m c) (y 0) (at_ t (y 1)) (y 2) := by
  unfold slabs
  canon_tiles x h
  · have hx : (x 0).val = 0 := by have := (x 0).isLt; omega
    refine (pay4_eq _ _ _ _ x).trans ((Finset.sum_congr rfl fun l _ => congrArg₂ (· * ·) (ov_eq m c t (x 1) l) (wr m c t (x 2) l)).trans ?_)
    have e0 : (1 : Fin 2) = y 0 := Fin.ext (by rw [h0, hx]; rfl)
    have e1 : (x 1 : Fin 1024) = y 1 := Fin.ext h1.symm
    have e2 : (x 2 : Fin 512) = y 2 := Fin.ext h2.symm
    unfold next
    rw [← e0, ← e1, ← e2]
  · have hx : (x 0).val = 0 := by have := (x 0).isLt; omega
    refine (pay3_eq _ _ _ _ x).trans ((Finset.sum_congr rfl fun l _ => congrArg₂ (· * ·) (ov_eq m c t (x 1) l) (wl m c t (x 2) l)).trans ?_)
    have e0 : (0 : Fin 2) = y 0 := Fin.ext (by rw [h0, hx]; rfl)
    have e1 : (x 1 : Fin 1024) = y 1 := Fin.ext h1.symm
    have e2 : (x 2 : Fin 512) = y 2 := Fin.ext h2.symm
    unfold next
    rw [← e0, ← e1, ← e2]

theorem o8 (c : Dev nD) (t : Fin cfg0.N) (y : S2x1024x512.Idx) :
    (outsAt0 m c t.val t.isLt).2.2.1 y = next (Aa m c) (Wa m c) (Xa m c) (Ga m c) (Da m c) (Ea m c) (y 0) (at_ t (y 1)) (y 2) := by
  have hn := lt_of_lt_of_eq t.isLt N_0
  refine Eq.trans ?_ (slabs_eq m c t y)
  by_cases hA : t.val % 8 = 0
  · rw [outsAt0_A m c t hA (by omega)]
    frame_out
    rfl
  · rw [outsAt0_B m c t hA (by omega)]
    frame_out
    rfl

/-- What the tile of point `t` adds to the gradient of the gain. -/
def gpart (c : Dev nD) (t : Fin cfg0.N) (y : S1x1024.Idx) : EReal :=
  ∑ r : Fin 1024, dn (Aa m c) (Wa m c) (at_ t r) (y 1) * (Xa m c (at_ t r) (y 1) * scale (Xa m c (at_ t r)))

theorem gpart_eq (c : Dev nD) (t : Fin cfg0.N) (l : Fin 1024) :
    (∑ r : Fin 1024, dnv m c t (ix2 r l) * ((show FVec Ideal S1024x1024 .f32 from iblk m c 2 t) (ix2 r l) * scale fun k => (show FVec Ideal S1024x1024 .f32 from iblk m c 2 t) (ix2 r k)))
      = gpart m c t (ix2 0 l) := by
  unfold gpart
  refine Finset.sum_congr rfl fun r _ => congrArg₂ (· * ·) (dnv_eq m c t r l) (congrArg₂ (· * ·) (blk2 m c t r l) (congrArg scale ?_))
  exact funext fun k => blk2 m c t r k

theorem etaG (y : S1x1024.Idx) : y = ix2 0 (y 1) := by blk_ext

theorem stepA' (c : Dev nD) (t : Fin cfg0.N) (hA : t.val % 8 = 0) (l : Fin 1024) :
    (outsAt0 m c t.val t.isLt).2.2.2 (ix2 0 l) = gpart m c t (ix2 0 l) := by
  have hn := lt_of_lt_of_eq t.isLt N_0
  refine Eq.trans ?_ (gpart_eq m c t l)
  rw [outsAt0_A m c t hA (by omega)]
  frame_out
  exact pay8_eq _ _ _ _
theorem stepB' (c : Dev nD) (t : Fin cfg0.N) (hA : ¬ t.val % 8 = 0) (l : Fin 1024) :
    (outsAt0 m c t.val t.isLt).2.2.2 (ix2 0 l) = (show FVec Ideal S1x1024 .f32 from (outsAt0 m c (t.val - 1) (Nat.lt_of_le_of_lt (Nat.sub_le _ _) t.isLt)).2.2.2) (ix2 0 l) + gpart m c t (ix2 0 l) := by
  have hn := lt_of_lt_of_eq t.isLt N_0
  refine Eq.trans ?_ (congrArg (_ + ·) (gpart_eq m c t l))
  rw [outsAt0_B m c t hA (by omega)]
  frame_out
  exact (pay9_eq _ _ _ _ _).trans (congrArg (_ + ·) (pay8_eq _ _ _ _))
theorem stepA (c : Dev nD) (t : Fin cfg0.N) (hA : t.val % 8 = 0) (y : S1x1024.Idx) :
    (outsAt0 m c t.val t.isLt).2.2.2 y = (0 : EReal) + gpart m c t y := by
  obtain ⟨l, rfl⟩ : ∃ l : Fin 1024, y = ix2 0 l := ⟨y 1, etaG y⟩
  exact (stepA' m c t hA l).trans (zero_add _).symm
theorem stepB (c : Dev nD) (t : Fin cfg0.N) (hA : ¬ t.val % 8 = 0) (y : S1x1024.Idx) :
    (outsAt0 m c t.val t.isLt).2.2.2 y = (show FVec Ideal S1x1024 .f32 from (outsAt0 m c (t.val - 1) (Nat.lt_of_le_of_lt (Nat.sub_le _ _) t.isLt)).2.2.2) y + gpart m c t y := by
  obtain ⟨l, rfl⟩ : ∃ l : Fin 1024, y = ix2 0 l := ⟨y 1, etaG y⟩
  exact stepB' m c t hA l

theorem etaR (i : S8192x1024.Idx) : i = ix2 (i 0) (i 1) := by blk_ext
theorem etaT (y : S1024x1024.Idx) : y = ix2 (y 0) (y 1) := by blk_ext

theorem final6 (c : Dev nD) : (dats m 0 c).arrAt 6 (cfgs 0).N = fun i : S8192x1024.Idx => out (Aa m c) (Wa m c) (Xa m c) (Ga m c) (Da m c) (i 0) (i 1) := by
  refine (dats m 0 c).arrAt_eq_of_covers 6 _ (by decide +kernel) fun t hf y => ?_
  blk_simp
  rw [after0_6]
  obtain ⟨r, l, rfl⟩ : ∃ (r : Fin 1024) (l : Fin 1024), y = ix2 r l := ⟨y 0, y 1, etaT y⟩
  refine (o6 m c t _).trans ((ov_eq m c t r l).trans ?_)
  have e0 : ((((cfg0.win 6).blk t).view.emb (ix2 r l)) 0 : Fin 8192) = at_ t r := Fin.ext (by blk_simp [idx t, at_])
  have e1 : ((((cfg0.win 6).blk t).view.emb (ix2 r l)) 1 : Fin 1024) = l := Fin.ext (by blk_simp [idx t])
  rw [e0, e1]
theorem final7 (c : Dev nD) : (dats m 0 c).arrAt 7 (cfgs 0).N = fun i : S8192x1024.Idx => out (Aa m c) (Wa m c) (Xa m c) (Ga m c) (Da m c) (i 0) (i 1) := by
  refine (dats m 0 c).arrAt_eq_of_covers 7 _ (by decide +kernel) fun t hf y => ?_
  blk_simp
  rw [after0_7]
  obtain ⟨r, l, rfl⟩ : ∃ (r : Fin 1024) (l : Fin 1024), y = ix2 r l := ⟨y 0, y 1, etaT y⟩
  refine (o7 m c t _).trans ((ov_eq m c t r l).trans ?_)
  have e0 : ((((cfg0.win 7).blk t).view.emb (ix2 r l)) 0 : Fin 8192) = at_ t r := Fin.ext (by blk_simp [idx t, at_])
  have e1 : ((((cfg0.win 7).blk t).view.emb (ix2 r l)) 1 : Fin 1024) = l := Fin.ext (by blk_simp [idx t])
  rw [e0, e1]
theorem etaS (i : S2x8192x512.Idx) : i = ix3 (i 0) (i 1) (i 2) := by blk_ext
theorem final8 (c : Dev nD) : (dats m 0 c).arrAt 8 (cfgs 0).N = fun i : S2x8192x512.Idx => next (Aa m c) (Wa m c) (Xa m c) (Ga m c) (Da m c) (Ea m c) (i 0) (i 1) (i 2) := by
  refine (dats m 0 c).arrAt_eq_of_covers 8 _ (by decide +kernel) fun t hf y => ?_
  blk_simp
  rw [after0_8]
  refine (o8 m c t y).trans ?_
  have e0 : ((((cfg0.win 8).blk t).view.emb y) 0 : Fin 2) = y 0 := Fin.ext (by blk_simp [idx t, at_])
  have e1 : ((((cfg0.win 8).blk t).view.emb y) 1 : Fin 8192) = at_ t (y 1) := Fin.ext (by blk_simp [idx t, at_])
  have e2 : ((((cfg0.win 8).blk t).view.emb y) 2 : Fin 512) = y 2 := Fin.ext (by blk_simp [idx t, at_])
  rw [e0, e1, e2]
/-- The gradient of the gain: the sum over the rows. -/
def gain (A : Fin 8192 → Fin 1024 → EReal) (W : Fin 1024 → Fin 1024 → EReal) (X : Fin 8192 → Fin 1024 → EReal) (l : Fin 1024) : EReal :=
  ∑ R : Fin 8192, dn A W R l * (X R l * scale (X R))

theorem final9 (c : Dev nD) : (dats m 0 c).arrAt 9 (cfgs 0).N = fun i : S1x1024.Idx => gain (Aa m c) (Wa m c) (Xa m c) (i 1) := by
  refine (dats m 0 c).arrAt_eq_of_covers 9 _ (by decide +kernel) fun t hf y => ?_
  have hB := (flush0_9 t).mp hf
  blk_simp
  rw [after0_9,
    Pipeline.eq_sum_fin_of_reset_step_apply_of_flush (fun n h => (outsAt0 m c n h).2.2.2) 8 (fun _ => (0 : EReal)) (gpart m c)
    (fun t h j => stepA m c t h j) (fun t h j => stepB m c t h j) t hB _, zero_add]
  have hN := lt_of_lt_of_eq t.isLt N_0
  have e1 : ((((cfg0.win 9).blk t).view.emb y) 1 : Fin 1024) = y 1 := Fin.ext (by blk_simp [idx t])
  unfold gain gpart
  rw [e1]
  refine Fin.sum_mul_add_congr fun s r hl => ?_
  have e : at_ ⟨8 * (t.val / 8) + s.val, Pipeline.run_point_lt_of_flush t hB s⟩ r = ⟨s.val * 1024 + r.val, hl⟩ := Fin.ext (by show (8 * (t.val / 8) + s.val) * 1024 + r.val = s.val * 1024 + r.val; omega)
  rw [e]
end Cert.Kernel12Ideal.Q

namespace Cert.QPair
open Idealize.ShloMosaic Idealize.ShloMosaic.TcCoe Idealize.SL.Sem Cert.Norms
open Cert.Reference12Ideal Cert.Reference12Ideal.Read in
theorem read37 (x0 x1 x2 x3 x4) (R : Fin 8192) (l : Fin 1024) : val_main_v37 (F := Ideal) x0 x1 x2 x3 x4 (ix2 R l)
    = Cert.Kernel12Ideal.Q.out (fun R f => x0 (ix2 R f)) (fun l f => x1 (ix2 l f)) (fun R l => x2 (ix2 R l)) (fun l => x3 (ix2 0 l)) (fun R l => x4 (ix2 R l)) R l := by
  unfold Cert.Kernel12Ideal.Q.out
  rw [back_eq]
  unfold backR Cert.Norms.slope scale under Cert.Kernel12Ideal.Q.dn
  pointwise [val_main_v0, val_main_v1, val_main_v2, val_main_v3, val_main_v4, val_main_v5, val_main_v6, val_main_v7, val_main_v8, val_main_v9, val_main_v10, val_main_v11, val_main_v12, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_cst, val_main_cst_0, val_main_cst_1, val_main_cst_2, val_main_cst_3, val_main_cst_4, val_main_cst_5, val_main_cst_6]
  simp only [Finset.sum_const, Finset.card_univ, Fintype.card_fin, one_smul]
open Cert.Reference12Ideal Cert.Reference12Ideal.Read in
theorem read41 (x0 x1 x2 x3 x4) (R : Fin 8192) (l : Fin 1024) : val_main_v41 (F := Ideal) x0 x1 x2 x3 x4 (ix2 R l)
    = Cert.Kernel12Ideal.Q.out (fun R f => x0 (ix2 R f)) (fun l f => x1 (ix2 l f)) (fun R l => x2 (ix2 R l)) (fun l => x3 (ix2 0 l)) (fun R l => x4 (ix2 R l)) R l := by
  rw [← read37]
  unfold val_main_v41
  generalize val_main_v37 (F := Ideal) x0 x1 x2 x3 x4 = P
  pointwise
open Cert.Reference12Ideal Cert.Reference12Ideal.Read in
theorem read44 (x0 x1 x2 x3 x4 x5) (s : Fin 2) (R : Fin 8192) (k : Fin 512) : val_main_v44 (F := Ideal) x0 x1 x2 x3 x4 x5 (ix3 s R k)
    = Cert.Kernel12Ideal.Q.next (fun R f => x0 (ix2 R f)) (fun l f => x1 (ix2 l f)) (fun R l => x2 (ix2 R l)) (fun l => x3 (ix2 0 l)) (fun R l => x4 (ix2 R l)) (fun o l => x5 (ix2 o l)) s R k := by
  unfold Cert.Kernel12Ideal.Q.next
  simp only [← read37]
  unfold val_main_v44 val_main_v43 val_main_v42 val_main_v40
  generalize val_main_v37 (F := Ideal) x0 x1 x2 x3 x4 = P
  pointwise
  rfl
open Cert.Reference12Ideal Cert.Reference12Ideal.Read in
theorem read20 (x0 x1 x2) (l : Fin 1024) : val_main_v20 (F := Ideal) x0 x1 x2 (ix2 0 l)
    = Cert.Kernel12Ideal.Q.gain (fun R f => x0 (ix2 R f)) (fun l f => x1 (ix2 l f)) (fun R l => x2 (ix2 R l)) l := by
  unfold Cert.Kernel12Ideal.Q.gain scale under Cert.Kernel12Ideal.Q.dn
  pointwise [val_main_v0, val_main_v1, val_main_v2, val_main_v3, val_main_v4, val_main_v5, val_main_v6, val_main_v7, val_main_v8, val_main_v9, val_main_v10, val_main_v11, val_main_v12, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_cst, val_main_cst_0, val_main_cst_1, val_main_cst_2, val_main_cst_3, val_main_cst_4, val_main_cst_5, val_main_cst_6]
  exact Finset.sum_congr rfl fun R _ => mul_comm _ _

theorem algebraic : Cert.algebraic_Kernel12Ideal_Reference12Ideal := by
  pair_intro
  · run_from Cert.Kernel12Ideal.Gen.run_main m g
  · refine Idealize.ShloMosaic.θ_run_mono (Cert.Reference12Ideal.Value.run m' g') ?_
    intro r hr c
    obtain ⟨h0, h1, h2, h3, hrest⟩ := hr c
    obtain ⟨a0, a1, a2, a3, a4, a5⟩ := hagree c
    refine ⟨h0.trans ?_, h1.trans ?_, h2.trans ?_, h3.trans ?_, hrest⟩
    · clear h0 h1 h2 h3 hrest
      rw [Cert.Reference12Ideal.Read.val_main_v37_eq, Cert.Kernel12Ideal.Q.final6, a0, a1, a2, a3, a4]
      funext i
      rw [Cert.Kernel12Ideal.Q.etaR i]
      exact read37 _ _ _ _ _ (i 0) (i 1)
    · clear h0 h1 h2 h3 hrest
      rw [Cert.Reference12Ideal.Read.val_main_v41_eq, Cert.Kernel12Ideal.Q.final7, a0, a1, a2, a3, a4]
      funext i
      rw [Cert.Kernel12Ideal.Q.etaR i]
      exact read41 _ _ _ _ _ (i 0) (i 1)
    · clear h0 h1 h2 h3 hrest
      rw [Cert.Reference12Ideal.Read.val_main_v44_eq, Cert.Kernel12Ideal.Q.final8, a0, a1, a2, a3, a4, a5]
      funext i
      rw [Cert.Kernel12Ideal.Q.etaS i]
      exact read44 _ _ _ _ _ _ (i 0) (i 1) (i 2)
    · clear h0 h1 h2 h3 hrest
      rw [Cert.Reference12Ideal.Read.val_main_v20_eq, Cert.Kernel12Ideal.Q.final9, a0, a1, a2]
      funext i
      rw [Cert.Kernel12Ideal.Q.etaG i]
      exact read20 _ _ _ (i 1)
end Cert.QPair
-- ==== Proof.WQPair.lean ====
/-
  The gradient of the weights of the product of the queries: the kernel adds up, tile of rows by tile of rows; its array is the
  reference's, at every input.
-/
module

public import proofs.«01_k».proof.Defs
public import proofs.«01_k».proof.Proof.Gen.Kernel13Ideal.Frame
public import proofs.«01_k».proof.Proof.Gen.Reference13Ideal.Read
public import Idealize.ShloMosaic.Lib.Pipeline.ValueKit
public import Idealize.ShloMosaic.Lib.Pipeline.ReadBack
public import Idealize.ShloMosaic.Lib.Pointwise
public import Idealize.ShloMosaic.Lib.Claim
public import proofs.«01_k».proof.Proof.Covers

@[expose] public section
set_option maxRecDepth 16384
noncomputable section
namespace Cert.Kernel13Ideal.WQ
open Cert.Kernel13Ideal Cert.Kernel13Ideal.Gen Idealize.ShloMosaic Idealize.ShloMosaic.TcCoe Idealize.SL.Sem
open Idealize.ShloMosaic.Pipeline (Dat)
variable (m : (ℓ : Loc nD τ sig) → Buf (Elt Ideal) ℓ)
theorem idx : ∀ t : Fin cfg0.N,
    win0_0.index t = ![t.val, 0] ∧ win0_1.index t = ![t.val, 0] ∧ win0_2.index t = ![0, 0] :=
  (by decide +kernel : ∀ t : Fin grid0.N, _)

/-- The values that went in, at a row and a column. -/
def Aa (c : Dev nD) (R : Fin 8192) (k : Fin 1024) : EReal := (show FVec Ideal S8192x1024 .bf16 from m ((c : Thread nD τ).loc main_arg0)) (ix2 R k)
/-- The gradient that arrives. -/
def Ba (c : Dev nD) (R : Fin 8192) (f : Fin 1024) : EReal := (show FVec Ideal S8192x1024 .bf16 from m ((c : Thread nD τ).loc main_arg1)) (ix2 R f)

/-- Row `r` of the tile of point `t`. -/
def at_ (t : Fin cfg0.N) (r : Fin 1024) : Fin 8192 := ⟨t.val * 1024 + r.val, by have := lt_of_lt_of_eq t.isLt N_0; omega⟩

theorem blk0 (c : Dev nD) (t : Fin cfg0.N) (r : Fin 1024) (p q : Fin 1024) (h : q.val = p.val) : (show FVec Ideal S1024x1024 .bf16 from iblk m c 0 t) (ix2 r p) = Aa m c (at_ t r) q := by
  obtain rfl : q = p := Fin.ext h
  unfold Aa
  blk_ext [iblk, V, idx t, at_]
theorem blk1 (c : Dev nD) (t : Fin cfg0.N) (r : Fin 1024) (p q : Fin 1024) (h : q.val = p.val) : (show FVec Ideal S1024x1024 .bf16 from iblk m c 1 t) (ix2 r p) = Ba m c (at_ t r) q := by
  obtain rfl : q = p := Fin.ext h
  unfold Ba
  blk_ext [iblk, V, idx t, at_]

/-- What the tile of point `t` adds to the table. -/
def part (c : Dev nD) (t : Fin cfg0.N) (y : S1024x1024.Idx) : EReal := ∑ r : Fin 1024, Aa m c (at_ t r) (y 0) * Ba m c (at_ t r) (y 1)

theorem idx2 (v w : S1024x1024.Idx) (h0 : (v 0).val = (w 0).val) (h1 : (v 1).val = (w 1).val) : v = w := by
  have e0 : v 0 = w 0 := Fin.ext h0
  have e1 : v 1 = w 1 := Fin.ext h1
  funext a
  match a with
  | 0 => exact e0
  | 1 => exact e1

set_option maxHeartbeats 400000 in
theorem stepA (c : Dev nD) (t : Fin cfg0.N) (hA : t.val % 8 = 0) (y : S1024x1024.Idx) :
    (outsAt0 m c t.val t.isLt).2 y = (0 : EReal) + part m c t y := by
  rw [outsAt0_A m c t hA (by omega)]
  frame_open
  simp (disch := decide) only [↓ View.readCov_skip, ↓ View.readCov_cons_toLoadRect, ↓ View.readCov_fill]
  frame_out
  rw [Cert.Covers.canon_two _ _ _ _ (View.cover_of_tiled_head _ _ _ rfl _)]
  canon_tiles x h
  all_goals
    pointwise [k0_pay1, k0_pay2, k0_pay3, k0_pay4, k0_pay5, k0_pay6]
    unfold part
    refine Finset.sum_congr rfl fun r _ => congrArg₂ (· * ·) (blk0 m c t r _ _ ?_) (blk1 m c t r _ _ ?_)
    · exact h0
    · exact h1

set_option maxHeartbeats 400000 in
theorem stepB (c : Dev nD) (t : Fin cfg0.N) (hA : ¬ t.val % 8 = 0) (y : S1024x1024.Idx) :
    (outsAt0 m c t.val t.isLt).2 y = (show FVec Ideal S1024x1024 .f32 from (outsAt0 m c (t.val - 1) (Nat.lt_of_le_of_lt (Nat.sub_le _ _) t.isLt)).2) y + part m c t y := by
  by_cases hB : t.val % 8 = 7
  · rw [outsAt0_C m c t hA hB]
    frame_out
    canon_tiles x h
    all_goals
      pointwise [k0_pay1, k0_pay2, k0_pay3, k0_pay4, k0_pay5, k0_pay6]
      apply congrArg₂ (· + ·)
      · rw [read_unread_whole]
        refine congrArg _ (idx2 _ _ ?_ ?_)
        · exact h0.symm
        · exact h1.symm
      · unfold part
        refine Finset.sum_congr rfl fun r _ => congrArg₂ (· * ·) (blk0 m c t r _ _ ?_) (blk1 m c t r _ _ ?_)
        · exact h0
        · exact h1
  · rw [outsAt0_B m c t hA hB]
    frame_out
    canon_tiles x h
    all_goals
      pointwise [k0_pay1, k0_pay2, k0_pay3, k0_pay4, k0_pay5, k0_pay6]
      apply congrArg₂ (· + ·)
      · rw [read_unread_whole]
        refine congrArg _ (idx2 _ _ ?_ ?_)
        · exact h0.symm
        · exact h1.symm
      · unfold part
        refine Finset.sum_congr rfl fun r _ => congrArg₂ (· * ·) (blk0 m c t r _ _ ?_) (blk1 m c t r _ _ ?_)
        · exact h0
        · exact h1

set_option maxHeartbeats 400000 in
/-- The last point writes the table out. -/
theorem stepC (c : Dev nD) (t : Fin cfg0.N) (hA : ¬ t.val % 8 = 0) (hB : t.val % 8 = 7) (y : S1024x1024.Idx) (w : S1024x1024.Idx)
    (hw0 : (w 0).val = (y 0).val) (hw1 : (w 1).val = (y 1).val) :
    (outsAt0 m c t.val t.isLt).1 y = (outsAt0 m c t.val t.isLt).2 w := by
  rw [stepB m c t hA w, outsAt0_C m c t hA hB]
  frame_open
  simp (disch := decide) only [↓ View.readCov_skip, ↓ View.readCov_cons_toLoadRect, ↓ View.readCov_fill]
  frame_out
  canon_tiles x h
  all_goals
    pointwise [k0_pay1, k0_pay2, k0_pay3, k0_pay4, k0_pay5, k0_pay6]
    apply congrArg₂ (· + ·)
    · rw [read_unread_whole]
      refine congrArg _ (idx2 _ _ ?_ ?_)
      · exact (hw0.trans h0).symm
      · exact (hw1.trans h1).symm
    · unfold part
      refine Finset.sum_congr rfl fun r _ => congrArg₂ (· * ·) (blk0 m c t r _ _ ?_) (blk1 m c t r _ _ ?_)
      · exact hw0.trans h0
      · exact hw1.trans h1

/-- The gradient of the weights: the sum over the rows. -/
def grad (A : Fin 8192 → Fin 1024 → EReal) (B : Fin 8192 → Fin 1024 → EReal) (k : Fin 1024) (f : Fin 1024) : EReal :=
  ∑ R : Fin 8192, A R k * B R f

set_option maxHeartbeats 1000000 in
theorem final (c : Dev nD) : (dats m 0 c).arrAt 2 (cfgs 0).N = fun i : S1024x1024.Idx => grad (Aa m c) (Ba m c) (i 0) (i 1) := by
  refine (dats m 0 c).arrAt_eq_of_covers 2 _ (by decide +kernel) fun t hf y => ?_
  have hB := (flush0_2 t).mp hf
  blk_simp
  rw [after0_2, stepC m c t (by omega) hB y (ix2 (y 0) (y 1)) rfl rfl,
    Pipeline.eq_sum_fin_of_reset_step_apply_of_flush (fun n h => (outsAt0 m c n h).2) 8 (fun _ => (0 : EReal)) (part m c)
    (fun t h j => stepA m c t h j) (fun t h j => stepB m c t h j) t hB _, zero_add]
  have hN := lt_of_lt_of_eq t.isLt N_0
  have e0 : ((((cfg0.win 2).blk t).view.emb y) 0 : Fin 1024) = y 0 := Fin.ext (by blk_simp [idx t])
  have e1 : ((((cfg0.win 2).blk t).view.emb y) 1 : Fin 1024) = y 1 := Fin.ext (by blk_simp [idx t])
  unfold grad part
  rw [e0, e1]
  refine Fin.sum_mul_add_congr fun s r hl => ?_
  have e : at_ ⟨8 * (t.val / 8) + s.val, Pipeline.run_point_lt_of_flush t hB s⟩ r = ⟨s.val * 1024 + r.val, hl⟩ := Fin.ext (by show (8 * (t.val / 8) + s.val) * 1024 + r.val = s.val * 1024 + r.val; omega)
  rw [e]; rfl

theorem etaR (i : S1024x1024.Idx) : i = ix2 (i 0) (i 1) := by blk_ext

end Cert.Kernel13Ideal.WQ

namespace Cert.WQPair
open Idealize.ShloMosaic Idealize.ShloMosaic.TcCoe Idealize.SL.Sem
open Cert.Reference13Ideal Cert.Reference13Ideal.Read in
theorem read (x0 x1) (k f : Fin 1024) : val_main_v6 (F := Ideal) x0 x1 (ix2 k f)
    = Cert.Kernel13Ideal.WQ.grad (fun R k => x0 (ix2 R k)) (fun R f => x1 (ix2 R f)) k f := by
  unfold Cert.Kernel13Ideal.WQ.grad
  pointwise [val_main_v1, val_main_v3, val_main_v4, val_main_v5, val_main_v6]
  exact Finset.sum_congr rfl fun R _ => mul_comm _ _

theorem algebraic : Cert.algebraic_Kernel13Ideal_Reference13Ideal := by
  pair_intro
  · run_from Cert.Kernel13Ideal.Gen.run_main m g
  · run_from Cert.Reference13Ideal.Value.run m' g'
    rw [Cert.Reference13Ideal.Read.val_main_v6_eq, Cert.Kernel13Ideal.WQ.final]
    funext i
    rw [Cert.Kernel13Ideal.WQ.etaR i]
    exact read _ _ (i 0) (i 1)

end Cert.WQPair
-- ==== Proof.WOutPair.lean ====
/-
  The gradient of the weights of the mixer's output product: the values lie in two slabs of columns; the kernel adds up,
  tile of rows by tile of rows; its array is the reference's, at every input.
-/
module

public import proofs.«01_k».proof.Defs
public import proofs.«01_k».proof.Proof.Gen.Kernel14Ideal.Frame
public import proofs.«01_k».proof.Proof.Gen.Reference14Ideal.Read
public import Idealize.ShloMosaic.Lib.Pipeline.ValueKit
public import Idealize.ShloMosaic.Lib.Pipeline.ReadBack
public import Idealize.ShloMosaic.Lib.Pointwise
public import Idealize.ShloMosaic.Lib.Claim
public import proofs.«01_k».proof.Proof.Covers

@[expose] public section
set_option maxRecDepth 16384
noncomputable section
namespace Cert.Kernel14Ideal.WOut
open Cert.Kernel14Ideal Cert.Kernel14Ideal.Gen Idealize.ShloMosaic Idealize.ShloMosaic.TcCoe Idealize.SL.Sem
open Idealize.ShloMosaic.Pipeline (Dat)
variable (m : (ℓ : Loc nD τ sig) → Buf (Elt Ideal) ℓ)
theorem idx : ∀ t : Fin cfg0.N,
    win0_0.index t = ![0, t.val, 0] ∧ win0_1.index t = ![t.val, 0] ∧ win0_2.index t = ![0, 0] :=
  (by decide +kernel : ∀ t : Fin grid0.N, _)

/-- The values that went in, at a row and a column. -/
def Aa (c : Dev nD) (R : Fin 8192) (k : Fin 1024) : EReal := (show FVec Ideal S2x8192x512 .bf16 from m ((c : Thread nD τ).loc main_arg0)) (ix3 ⟨k.val / 512, by omega⟩ R ⟨k.val % 512, by omega⟩)
/-- The gradient that arrives. -/
def Ba (c : Dev nD) (R : Fin 8192) (f : Fin 1024) : EReal := (show FVec Ideal S8192x1024 .bf16 from m ((c : Thread nD τ).loc main_arg1)) (ix2 R f)

/-- Row `r` of the tile of point `t`. -/
def at_ (t : Fin cfg0.N) (r : Fin 1024) : Fin 8192 := ⟨t.val * 1024 + r.val, by have := lt_of_lt_of_eq t.isLt N_0; omega⟩

theorem blk0 (c : Dev nD) (t : Fin cfg0.N) (r : Fin 1024) (s : Fin 2) (p : Fin 512) (q : Fin 1024) (h : q.val = s.val * 512 + p.val) : (show FVec Ideal S2x1024x512 .bf16 from iblk m c 0 t) (ix3 s r p) = Aa m c (at_ t r) q := by
  have es : (⟨q.val / 512, by omega⟩ : Fin 2) = s := Fin.ext (by show q.val / 512 = s.val; omega)
  have ep : (⟨q.val % 512, by omega⟩ : Fin 512) = p := Fin.ext (by show q.val % 512 = p.val; omega)
  unfold Aa
  rw [es, ep]
  blk_ext [iblk, V, idx t, at_]
theorem blk1 (c : Dev nD) (t : Fin cfg0.N) (r : Fin 1024) (p q : Fin 1024) (h : q.val = p.val) : (show FVec Ideal S1024x1024 .bf16 from iblk m c 1 t) (ix2 r p) = Ba m c (at_ t r) q := by
  obtain rfl : q = p := Fin.ext h
  unfold Ba
  blk_ext [iblk, V, idx t, at_]
/-- The two slabs side by side. -/
theorem cat (c : Dev nD) (t : Fin cfg0.N) (r : Fin 1024) (p q : Fin 1024) (h : q.val = p.val) :
    (if h : p.val < 512 then (show FVec Ideal S2x1024x512 .bf16 from iblk m c 0 t) (ix3 0 r ⟨p.val, h⟩)
      else (show FVec Ideal S2x1024x512 .bf16 from iblk m c 0 t) (ix3 1 r ⟨p.val - 512, by omega⟩)) = Aa m c (at_ t r) q := by
  split
  · exact blk0 m c t r 0 _ _ (by show q.val = 0 * 512 + p.val; omega)
  · exact blk0 m c t r 1 _ _ (by show q.val = 1 * 512 + (p.val - 512); omega)

/-- What the tile of point `t` adds to the table. -/
def part (c : Dev nD) (t : Fin cfg0.N) (y : S1024x1024.Idx) : EReal := ∑ r : Fin 1024, Aa m c (at_ t r) (y 0) * Ba m c (at_ t r) (y 1)

theorem idx2 (v w : S1024x1024.Idx) (h0 : (v 0).val = (w 0).val) (h1 : (v 1).val = (w 1).val) : v = w := by
  have e0 : v 0 = w 0 := Fin.ext h0
  have e1 : v 1 = w 1 := Fin.ext h1
  funext a
  match a with
  | 0 => exact e0
  | 1 => exact e1

set_option maxHeartbeats 400000 in
theorem stepA (c : Dev nD) (t : Fin cfg0.N) (hA : t.val % 8 = 0) (y : S1024x1024.Idx) :
    (outsAt0 m c t.val t.isLt).2 y = (0 : EReal) + part m c t y := by
  rw [outsAt0_A m c t hA (by omega)]
  frame_open
  simp (disch := decide) only [↓ View.readCov_skip, ↓ View.readCov_cons_toLoadRect, ↓ View.readCov_fill]
  frame_out
  rw [Cert.Covers.canon_two _ _ _ _ (View.cover_of_tiled_head _ _ _ rfl _)]
  canon_tiles x h
  all_goals
    pointwise [k0_pay1, k0_pay2, k0_pay3, k0_pay4, k0_pay5, k0_pay6]
    unfold part
    refine Finset.sum_congr rfl fun r _ => congrArg₂ (· * ·) (cat m c t r _ _ ?_) (blk1 m c t r _ _ ?_)
    · exact h0
    · exact h1

set_option maxHeartbeats 400000 in
theorem stepB (c : Dev nD) (t : Fin cfg0.N) (hA : ¬ t.val % 8 = 0) (y : S1024x1024.Idx) :
    (outsAt0 m c t.val t.isLt).2 y = (show FVec Ideal S1024x1024 .f32 from (outsAt0 m c (t.val - 1) (Nat.lt_of_le_of_lt (Nat.sub_le _ _) t.isLt)).2) y + part m c t y := by
  by_cases hB : t.val % 8 = 7
  · rw [outsAt0_C m c t hA hB]
    frame_out
    canon_tiles x h
    all_goals
      pointwise [k0_pay1, k0_pay2, k0_pay3, k0_pay4, k0_pay5, k0_pay6]
      apply congrArg₂ (· + ·)
      · rw [read_unread_whole]
        refine congrArg _ (idx2 _ _ ?_ ?_)
        · exact h0.symm
        · exact h1.symm
      · unfold part
        refine Finset.sum_congr rfl fun r _ => congrArg₂ (· * ·) (cat m c t r _ _ ?_) (blk1 m c t r _ _ ?_)
        · exact h0
        · exact h1
  · rw [outsAt0_B m c t hA hB]
    frame_out
    canon_tiles x h
    all_goals
      pointwise [k0_pay1, k0_pay2, k0_pay3, k0_pay4, k0_pay5, k0_pay6]
      apply congrArg₂ (· + ·)
      · rw [read_unread_whole]
        refine congrArg _ (idx2 _ _ ?_ ?_)
        · exact h0.symm
        · exact h1.symm
      · unfold part
        refine Finset.sum_congr rfl fun r _ => congrArg₂ (· * ·) (cat m c t r _ _ ?_) (blk1 m c t r _ _ ?_)
        · exact h0
        · exact h1

set_option maxHeartbeats 400000 in
/-- The last point writes the table out. -/
theorem stepC (c : Dev nD) (t : Fin cfg0.N) (hA : ¬ t.val % 8 = 0) (hB : t.val % 8 = 7) (y : S1024x1024.Idx) (w : S1024x1024.Idx)
    (hw0 : (w 0).val = (y 0).val) (hw1 : (w 1).val = (y 1).val) :
    (outsAt0 m c t.val t.isLt).1 y = (outsAt0 m c t.val t.isLt).2 w := by
  rw [stepB m c t hA w, outsAt0_C m c t hA hB]
  frame_open
  simp (disch := decide) only [↓ View.readCov_skip, ↓ View.readCov_cons_toLoadRect, ↓ View.readCov_fill]
  frame_out
  canon_tiles x h
  all_goals
    pointwise [k0_pay1, k0_pay2, k0_pay3, k0_pay4, k0_pay5, k0_pay6]
    apply congrArg₂ (· + ·)
    · rw [read_unread_whole]
      refine congrArg _ (idx2 _ _ ?_ ?_)
      · exact (hw0.trans h0).symm
      · exact (hw1.trans h1).symm
    · unfold part
      refine Finset.sum_congr rfl fun r _ => congrArg₂ (· * ·) (cat m c t r _ _ ?_) (blk1 m c t r _ _ ?_)
      · exact hw0.trans h0
      · exact hw1.trans h1

/-- The gradient of the weights: the sum over the rows. -/
def grad (A : Fin 8192 → Fin 1024 → EReal) (B : Fin 8192 → Fin 1024 → EReal) (k : Fin 1024) (f : Fin 1024) : EReal :=
  ∑ R : Fin 8192, A R k * B R f

set_option maxHeartbeats 1000000 in
theorem final (c : Dev nD) : (dats m 0 c).arrAt 2 (cfgs 0).N = fun i : S1024x1024.Idx => grad (Aa m c) (Ba m c) (i 0) (i 1) := by
  refine (dats m 0 c).arrAt_eq_of_covers 2 _ (by decide +kernel) fun t hf y => ?_
  have hB := (flush0_2 t).mp hf
  blk_simp
  rw [after0_2, stepC m c t (by omega) hB y (ix2 (y 0) (y 1)) rfl rfl,
    Pipeline.eq_sum_fin_of_reset_step_apply_of_flush (fun n h => (outsAt0 m c n h).2) 8 (fun _ => (0 : EReal)) (part m c)
    (fun t h j => stepA m c t h j) (fun t h j => stepB m c t h j) t hB _, zero_add]
  have hN := lt_of_lt_of_eq t.isLt N_0
  have e0 : ((((cfg0.win 2).blk t).view.emb y) 0 : Fin 1024) = y 0 := Fin.ext (by blk_simp [idx t])
  have e1 : ((((cfg0.win 2).blk t).view.emb y) 1 : Fin 1024) = y 1 := Fin.ext (by blk_simp [idx t])
  unfold grad part
  rw [e0, e1]
  refine Fin.sum_mul_add_congr fun s r hl => ?_
  have e : at_ ⟨8 * (t.val / 8) + s.val, Pipeline.run_point_lt_of_flush t hB s⟩ r = ⟨s.val * 1024 + r.val, hl⟩ := Fin.ext (by show (8 * (t.val / 8) + s.val) * 1024 + r.val = s.val * 1024 + r.val; omega)
  rw [e]; rfl

theorem etaR (i : S1024x1024.Idx) : i = ix2 (i 0) (i 1) := by blk_ext

end Cert.Kernel14Ideal.WOut

namespace Cert.WOutPair
open Idealize.ShloMosaic Idealize.ShloMosaic.TcCoe Idealize.SL.Sem
open Cert.Reference14Ideal Cert.Reference14Ideal.Read in
theorem read (x0 x1) (k f : Fin 1024) : val_main_v8 (F := Ideal) x0 x1 (ix2 k f)
    = Cert.Kernel14Ideal.WOut.grad (fun R k => x0 (ix3 ⟨k.val / 512, by omega⟩ R ⟨k.val % 512, by omega⟩)) (fun R f => x1 (ix2 R f)) k f := by
  unfold Cert.Kernel14Ideal.WOut.grad
  pointwise [val_main_v1, val_main_v2, val_main_v3, val_main_v5, val_main_v6, val_main_v7, val_main_v8]
  exact Finset.sum_congr rfl fun R _ => mul_comm _ _

theorem algebraic : Cert.algebraic_Kernel14Ideal_Reference14Ideal := by
  pair_intro
  · run_from Cert.Kernel14Ideal.Gen.run_main m g
  · run_from Cert.Reference14Ideal.Value.run m' g'
    rw [Cert.Reference14Ideal.Read.val_main_v8_eq, Cert.Kernel14Ideal.WOut.final]
    funext i
    rw [Cert.Kernel14Ideal.WOut.etaR i]
    exact read _ _ (i 0) (i 1)

end Cert.WOutPair
-- ==== Proof.WOPair.lean ====
/-
  The gradient of the weights of the product after the attention: the kernel adds up, tile of rows by tile of rows; its array is the
  reference's, at every input.
-/
module

public import proofs.«01_k».proof.Defs
public import proofs.«01_k».proof.Proof.Gen.Kernel15Ideal.Frame
public import proofs.«01_k».proof.Proof.Gen.Reference15Ideal.Read
public import Idealize.ShloMosaic.Lib.Pipeline.ValueKit
public import Idealize.ShloMosaic.Lib.Pipeline.ReadBack
public import Idealize.ShloMosaic.Lib.Pointwise
public import Idealize.ShloMosaic.Lib.Claim
public import proofs.«01_k».proof.Proof.Covers

@[expose] public section
set_option maxRecDepth 16384
noncomputable section
namespace Cert.Kernel15Ideal.WO
open Cert.Kernel15Ideal Cert.Kernel15Ideal.Gen Idealize.ShloMosaic Idealize.ShloMosaic.TcCoe Idealize.SL.Sem
open Idealize.ShloMosaic.Pipeline (Dat)
variable (m : (ℓ : Loc nD τ sig) → Buf (Elt Ideal) ℓ)
theorem idx : ∀ t : Fin cfg0.N,
    win0_0.index t = ![t.val, 0] ∧ win0_1.index t = ![t.val, 0] ∧ win0_2.index t = ![0, 0] :=
  (by decide +kernel : ∀ t : Fin grid0.N, _)

/-- The values that went in, at a row and a column. -/
def Aa (c : Dev nD) (R : Fin 8192) (k : Fin 1024) : EReal := (show FVec Ideal S8192x1024 .bf16 from m ((c : Thread nD τ).loc main_arg0)) (ix2 R k)
/-- The gradient that arrives. -/
def Ba (c : Dev nD) (R : Fin 8192) (f : Fin 1024) : EReal := (show FVec Ideal S8192x1024 .bf16 from m ((c : Thread nD τ).loc main_arg1)) (ix2 R f)

/-- Row `r` of the tile of point `t`. -/
def at_ (t : Fin cfg0.N) (r : Fin 1024) : Fin 8192 := ⟨t.val * 1024 + r.val, by have := lt_of_lt_of_eq t.isLt N_0; omega⟩

theorem blk0 (c : Dev nD) (t : Fin cfg0.N) (r : Fin 1024) (p q : Fin 1024) (h : q.val = p.val) : (show FVec Ideal S1024x1024 .bf16 from iblk m c 0 t) (ix2 r p) = Aa m c (at_ t r) q := by
  obtain rfl : q = p := Fin.ext h
  unfold Aa
  blk_ext [iblk, V, idx t, at_]
theorem blk1 (c : Dev nD) (t : Fin cfg0.N) (r : Fin 1024) (p q : Fin 1024) (h : q.val = p.val) : (show FVec Ideal S1024x1024 .bf16 from iblk m c 1 t) (ix2 r p) = Ba m c (at_ t r) q := by
  obtain rfl : q = p := Fin.ext h
  unfold Ba
  blk_ext [iblk, V, idx t, at_]

/-- What the tile of point `t` adds to the table. -/
def part (c : Dev nD) (t : Fin cfg0.N) (y : S1024x1024.Idx) : EReal := ∑ r : Fin 1024, Aa m c (at_ t r) (y 0) * Ba m c (at_ t r) (y 1)

theorem idx2 (v w : S1024x1024.Idx) (h0 : (v 0).val = (w 0).val) (h1 : (v 1).val = (w 1).val) : v = w := by
  have e0 : v 0 = w 0 := Fin.ext h0
  have e1 : v 1 = w 1 := Fin.ext h1
  funext a
  match a with
  | 0 => exact e0
  | 1 => exact e1

set_option maxHeartbeats 400000 in
theorem stepA (c : Dev nD) (t : Fin cfg0.N) (hA : t.val % 8 = 0) (y : S1024x1024.Idx) :
    (outsAt0 m c t.val t.isLt).2 y = (0 : EReal) + part m c t y := by
  rw [outsAt0_A m c t hA (by omega)]
  frame_open
  simp (disch := decide) only [↓ View.readCov_skip, ↓ View.readCov_cons_toLoadRect, ↓ View.readCov_fill]
  frame_out
  rw [Cert.Covers.canon_two _ _ _ _ (View.cover_of_tiled_head _ _ _ rfl _)]
  canon_tiles x h
  all_goals
    pointwise [k0_pay1, k0_pay2, k0_pay3, k0_pay4, k0_pay5, k0_pay6]
    unfold part
    refine Finset.sum_congr rfl fun r _ => congrArg₂ (· * ·) (blk0 m c t r _ _ ?_) (blk1 m c t r _ _ ?_)
    · exact h0
    · exact h1

set_option maxHeartbeats 400000 in
theorem stepB (c : Dev nD) (t : Fin cfg0.N) (hA : ¬ t.val % 8 = 0) (y : S1024x1024.Idx) :
    (outsAt0 m c t.val t.isLt).2 y = (show FVec Ideal S1024x1024 .f32 from (outsAt0 m c (t.val - 1) (Nat.lt_of_le_of_lt (Nat.sub_le _ _) t.isLt)).2) y + part m c t y := by
  by_cases hB : t.val % 8 = 7
  · rw [outsAt0_C m c t hA hB]
    frame_out
    canon_tiles x h
    all_goals
      pointwise [k0_pay1, k0_pay2, k0_pay3, k0_pay4, k0_pay5, k0_pay6]
      apply congrArg₂ (· + ·)
      · rw [read_unread_whole]
        refine congrArg _ (idx2 _ _ ?_ ?_)
        · exact h0.symm
        · exact h1.symm
      · unfold part
        refine Finset.sum_congr rfl fun r _ => congrArg₂ (· * ·) (blk0 m c t r _ _ ?_) (blk1 m c t r _ _ ?_)
        · exact h0
        · exact h1
  · rw [outsAt0_B m c t hA hB]
    frame_out
    canon_tiles x h
    all_goals
      pointwise [k0_pay1, k0_pay2, k0_pay3, k0_pay4, k0_pay5, k0_pay6]
      apply congrArg₂ (· + ·)
      · rw [read_unread_whole]
        refine congrArg _ (idx2 _ _ ?_ ?_)
        · exact h0.symm
        · exact h1.symm
      · unfold part
        refine Finset.sum_congr rfl fun r _ => congrArg₂ (· * ·) (blk0 m c t r _ _ ?_) (blk1 m c t r _ _ ?_)
        · exact h0
        · exact h1

set_option maxHeartbeats 400000 in
/-- The last point writes the table out. -/
theorem stepC (c : Dev nD) (t : Fin cfg0.N) (hA : ¬ t.val % 8 = 0) (hB : t.val % 8 = 7) (y : S1024x1024.Idx) (w : S1024x1024.Idx)
    (hw0 : (w 0).val = (y 0).val) (hw1 : (w 1).val = (y 1).val) :
    (outsAt0 m c t.val t.isLt).1 y = (outsAt0 m c t.val t.isLt).2 w := by
  rw [stepB m c t hA w, outsAt0_C m c t hA hB]
  frame_open
  simp (disch := decide) only [↓ View.readCov_skip, ↓ View.readCov_cons_toLoadRect, ↓ View.readCov_fill]
  frame_out
  canon_tiles x h
  all_goals
    pointwise [k0_pay1, k0_pay2, k0_pay3, k0_pay4, k0_pay5, k0_pay6]
    apply congrArg₂ (· + ·)
    · rw [read_unread_whole]
      refine congrArg _ (idx2 _ _ ?_ ?_)
      · exact (hw0.trans h0).symm
      · exact (hw1.trans h1).symm
    · unfold part
      refine Finset.sum_congr rfl fun r _ => congrArg₂ (· * ·) (blk0 m c t r _ _ ?_) (blk1 m c t r _ _ ?_)
      · exact hw0.trans h0
      · exact hw1.trans h1

/-- The gradient of the weights: the sum over the rows. -/
def grad (A : Fin 8192 → Fin 1024 → EReal) (B : Fin 8192 → Fin 1024 → EReal) (k : Fin 1024) (f : Fin 1024) : EReal :=
  ∑ R : Fin 8192, A R k * B R f

set_option maxHeartbeats 1000000 in
theorem final (c : Dev nD) : (dats m 0 c).arrAt 2 (cfgs 0).N = fun i : S1024x1024.Idx => grad (Aa m c) (Ba m c) (i 0) (i 1) := by
  refine (dats m 0 c).arrAt_eq_of_covers 2 _ (by decide +kernel) fun t hf y => ?_
  have hB := (flush0_2 t).mp hf
  blk_simp
  rw [after0_2, stepC m c t (by omega) hB y (ix2 (y 0) (y 1)) rfl rfl,
    Pipeline.eq_sum_fin_of_reset_step_apply_of_flush (fun n h => (outsAt0 m c n h).2) 8 (fun _ => (0 : EReal)) (part m c)
    (fun t h j => stepA m c t h j) (fun t h j => stepB m c t h j) t hB _, zero_add]
  have hN := lt_of_lt_of_eq t.isLt N_0
  have e0 : ((((cfg0.win 2).blk t).view.emb y) 0 : Fin 1024) = y 0 := Fin.ext (by blk_simp [idx t])
  have e1 : ((((cfg0.win 2).blk t).view.emb y) 1 : Fin 1024) = y 1 := Fin.ext (by blk_simp [idx t])
  unfold grad part
  rw [e0, e1]
  refine Fin.sum_mul_add_congr fun s r hl => ?_
  have e : at_ ⟨8 * (t.val / 8) + s.val, Pipeline.run_point_lt_of_flush t hB s⟩ r = ⟨s.val * 1024 + r.val, hl⟩ := Fin.ext (by show (8 * (t.val / 8) + s.val) * 1024 + r.val = s.val * 1024 + r.val; omega)
  rw [e]; rfl

theorem etaR (i : S1024x1024.Idx) : i = ix2 (i 0) (i 1) := by blk_ext

end Cert.Kernel15Ideal.WO

namespace Cert.WOPair
open Idealize.ShloMosaic Idealize.ShloMosaic.TcCoe Idealize.SL.Sem
open Cert.Reference15Ideal Cert.Reference15Ideal.Read in
theorem read (x0 x1) (k f : Fin 1024) : val_main_v6 (F := Ideal) x0 x1 (ix2 k f)
    = Cert.Kernel15Ideal.WO.grad (fun R k => x0 (ix2 R k)) (fun R f => x1 (ix2 R f)) k f := by
  unfold Cert.Kernel15Ideal.WO.grad
  pointwise [val_main_v1, val_main_v3, val_main_v4, val_main_v5, val_main_v6]
  exact Finset.sum_congr rfl fun R _ => mul_comm _ _

theorem algebraic : Cert.algebraic_Kernel15Ideal_Reference15Ideal := by
  pair_intro
  · run_from Cert.Kernel15Ideal.Gen.run_main m g
  · run_from Cert.Reference15Ideal.Value.run m' g'
    rw [Cert.Reference15Ideal.Read.val_main_v6_eq, Cert.Kernel15Ideal.WO.final]
    funext i
    rw [Cert.Kernel15Ideal.WO.etaR i]
    exact read _ _ (i 0) (i 1)

end Cert.WOPair
-- ==== Proof.WKvPair.lean ====
/-
  The gradient of the weights of keys and values: the kernel adds up the product of the transposed normalised memory
  with the gradient, 256 columns at a time, and writes the table out in eight slabs of columns; its array is the
  reference's, at every input.
-/
module

public import proofs.«01_k».proof.Defs
public import proofs.«01_k».proof.Proof.Gen.Kernel16Ideal.Frame
public import proofs.«01_k».proof.Proof.Gen.Reference16Ideal.Read
public import Idealize.ShloMosaic.Lib.Pipeline.ValueKit
public import Idealize.ShloMosaic.Lib.Pipeline.ReadBack
public import Idealize.ShloMosaic.Lib.Pointwise
public import Idealize.ShloMosaic.Lib.Claim
public import proofs.«01_k».proof.Proof.Covers

@[expose] public section
set_option maxRecDepth 16384
noncomputable section
namespace Cert.Kernel16Ideal.WKv
open Cert.Kernel16Ideal Cert.Kernel16Ideal.Gen Idealize.ShloMosaic Idealize.ShloMosaic.TcCoe Idealize.SL.Sem
open Idealize.ShloMosaic.Pipeline (Dat)
variable (m : (ℓ : Loc nD τ sig) → Buf (Elt Ideal) ℓ)
theorem idx : ∀ t : Fin cfg0.N,
    win0_0.index t = ![0, 0] ∧ win0_1.index t = ![0, 0, 0] ∧ win0_2.index t = ![0, 0, 0] :=
  (by decide +kernel : ∀ t : Fin grid0.N, _)

/-- The normalised rows of the memory. -/
def Aa (c : Dev nD) (R : Fin 512) (l : Fin 1024) : EReal := (show FVec Ideal S512x1024 .bf16 from m ((c : Thread nD τ).loc main_arg0)) (ix2 R l)
/-- The gradient of the keys (slot 0) and of the values (slot 1). -/
def Da (c : Dev nD) (s : Fin 2) (R : Fin 512) (k : Fin 1024) : EReal := (show FVec Ideal S2x512x1024 .f32 from m ((c : Thread nD τ).loc main_arg1)) (ix3 s R k)
/-- The gradients of keys and values side by side. -/
def flat (D : Fin 2 → Fin 512 → Fin 1024 → EReal) (R : Fin 512) (q : Fin 2048) : EReal := D ⟨q.val / 1024, by omega⟩ R ⟨q.val % 1024, by omega⟩
/-- Column `k` of slab `s` of the weights. -/
def wcol (s : Fin 8) (k : Fin 256) : Fin 2048 := ⟨s.val * 256 + k.val, by omega⟩

theorem blk0 (c : Dev nD) (t : Fin cfg0.N) (r : Fin 512) (p q : Fin 1024) (h : q.val = p.val) : (show FVec Ideal S512x1024 .bf16 from iblk m c 0 t) (ix2 r p) = Aa m c r q := by
  obtain rfl : q = p := Fin.ext h
  unfold Aa
  blk_ext [iblk, V, idx t]
theorem blk1 (c : Dev nD) (t : Fin cfg0.N) (s : Fin 2) (r : Fin 512) (p : Fin 1024) (q : Fin 2048) (h : q.val = s.val * 1024 + p.val) :
    (show FVec Ideal S2x512x1024 .f32 from iblk m c 1 t) (ix3 s r p) = flat (Da m c) r q := by
  unfold flat
  have e1 : s = ⟨q.val / 1024, by omega⟩ := Fin.ext (by show s.val = q.val / 1024; omega)
  have e2 : p = ⟨q.val % 1024, by omega⟩ := Fin.ext (by show p.val = q.val % 1024; omega)
  rw [← e1, ← e2]
  unfold Da
  blk_ext [iblk, V, idx t]

/-- The gradient of the weights: the sum over the rows. -/
def grad (A : Fin 512 → Fin 1024 → EReal) (D : Fin 2 → Fin 512 → Fin 1024 → EReal) (l : Fin 1024) (q : Fin 2048) : EReal := ∑ R : Fin 512, A R l * flat D R q

set_option maxHeartbeats 400000 in
theorem o2 (c : Dev nD) (t : Fin cfg0.N) (y : S8x1024x256.Idx) : outsAt0 m c t y = grad (Aa m c) (Da m c) (y 1) (wcol (y 0) (y 2)) := by
  unfold outsAt0
  frame_open
  simp (disch := decide) only [↓ View.readCov_skip, ↓ View.readCov_cons_toLoadRect, ↓ View.readCov_fill]
  frame_out
  canon_tiles x h
  all_goals
    have hx : (x 0).val = 0 := Nat.lt_one_iff.mp (x 0).isLt
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20]
    unfold grad
    refine Finset.sum_congr rfl fun r _ => congrArg₂ (· * ·) (blk0 m c t r _ _ ?_) (blk1 m c t _ r _ _ ?_)
    · exact h1
    · unfold wcol
      dsimp only
      omega

theorem etaS (i : S8x1024x256.Idx) : i = ix3 (i 0) (i 1) (i 2) := by blk_ext

theorem final2 (c : Dev nD) : (dats m 0 c).arrAt 2 (cfgs 0).N = fun i : S8x1024x256.Idx => grad (Aa m c) (Da m c) (i 1) (wcol (i 0) (i 2)) := by
  refine (dats m 0 c).arrAt_eq_of_covers 2 _ (by decide +kernel) fun t hf y => ?_
  blk_simp
  rw [after0_2]
  refine (o2 m c t y).trans ?_
  have e0 : ((((cfg0.win 2).blk t).view.emb y) 0 : Fin 8) = y 0 := Fin.ext (by blk_simp [idx t])
  have e1 : ((((cfg0.win 2).blk t).view.emb y) 1 : Fin 1024) = y 1 := Fin.ext (by blk_simp [idx t])
  have e2 : ((((cfg0.win 2).blk t).view.emb y) 2 : Fin 256) = y 2 := Fin.ext (by blk_simp [idx t])
  rw [e0, e1, e2]
end Cert.Kernel16Ideal.WKv

namespace Cert.WKvPair
open Idealize.ShloMosaic Idealize.ShloMosaic.TcCoe Idealize.SL.Sem
open Cert.Reference16Ideal Cert.Reference16Ideal.Read in
theorem read1 (x1) (R : Fin 512) (q : Fin 2048) : val_main_v1 (F := Ideal) x1 (ix2 R q) = Cert.Kernel16Ideal.WKv.flat (fun s R k => x1 (ix3 s R k)) R q := by
  unfold Cert.Kernel16Ideal.WKv.flat
  pointwise [val_main_v0, val_main_v1]
open Cert.Reference16Ideal Cert.Reference16Ideal.Read in
theorem read (x0 x1) (s : Fin 8) (l : Fin 1024) (k : Fin 256) : val_main_v11 (F := Ideal) x0 x1 (ix3 s l k)
    = Cert.Kernel16Ideal.WKv.grad (fun R l => x0 (ix2 R l)) (fun s R k => x1 (ix3 s R k)) l (Cert.Kernel16Ideal.WKv.wcol s k) := by
  unfold Cert.Kernel16Ideal.WKv.grad
  simp only [← read1]
  unfold val_main_v11 val_main_v10 val_main_v9 val_main_v8 val_main_v7 val_main_v3 val_main_v2
  generalize val_main_v1 (F := Ideal) x1 = P
  pointwise [val_main_v5]
  exact Finset.sum_congr rfl fun R _ => mul_comm _ _

theorem algebraic : Cert.algebraic_Kernel16Ideal_Reference16Ideal := by
  pair_intro
  · run_from Cert.Kernel16Ideal.Gen.run_main m g
  · refine Idealize.ShloMosaic.θ_run_mono (Cert.Reference16Ideal.Value.run m' g') ?_
    intro r hr c
    obtain ⟨h0, hrest⟩ := hr c
    obtain ⟨a0, a1⟩ := hagree c
    refine ⟨h0.trans ?_, hrest⟩
    clear h0 hrest
    rw [Cert.Reference16Ideal.Read.val_main_v11_eq, Cert.Kernel16Ideal.WKv.final2, a0, a1]
    funext i
    rw [Cert.Kernel16Ideal.WKv.etaS i]
    exact read _ _ (i 0) (i 1) (i 2)
end Cert.WKvPair
-- ==== Proof.KvPair.lean ====
/-
  The gradient of the gain of the memory's normalisation, back through the product of keys and values: the kernel adds
  up the product with the transposed weights, eight slabs of columns one after the other, and sums over the rows; its
  array is the reference's, at every input.
-/
module

public import proofs.«01_k».proof.Defs
public import proofs.«01_k».proof.Proof.Gen.Kernel17Ideal.Frame
public import proofs.«01_k».proof.Proof.Gen.Reference17Ideal.Read
public import Idealize.ShloMosaic.Lib.Pipeline.ValueKit
public import Idealize.ShloMosaic.Lib.Pipeline.ReadBack
public import Idealize.ShloMosaic.Lib.Pointwise
public import Idealize.ShloMosaic.Lib.Claim
public import proofs.«01_k».proof.Proof.Norms

@[expose] public section
set_option maxRecDepth 16384
noncomputable section
namespace Cert.Kernel17Ideal.Kv
open Cert.Kernel17Ideal Cert.Kernel17Ideal.Gen Idealize.ShloMosaic Idealize.ShloMosaic.TcCoe Idealize.SL.Sem Cert.Norms
open Idealize.ShloMosaic.Pipeline (Dat)
variable (m : (ℓ : Loc nD τ sig) → Buf (Elt Ideal) ℓ)
theorem idx : ∀ t : Fin cfg0.N,
    win0_0.index t = ![0, 0, 0] ∧ win0_1.index t = ![0, 0, 0] ∧ win0_2.index t = ![0, 0] ∧ win0_3.index t = ![0, 0] ∧ win0_4.index t = ![0, 0] :=
  (by decide +kernel : ∀ t : Fin grid0.N, _)

/-- The gradient of the keys (slot 0) and of the values (slot 1). -/
abbrev Da (c : Dev nD) (s : Fin 2) (R : Fin 512) (k : Fin 1024) : EReal := (show FVec Ideal S2x512x1024 .f32 from m ((c : Thread nD τ).loc main_arg0)) (ix3 s R k)
/-- The weights of keys and values. -/
abbrev Wa (c : Dev nD) (l : Fin 1024) (f : Fin 2048) : EReal := (show FVec Ideal S1024x2048 .f32 from m ((c : Thread nD τ).loc main_arg1)) (ix2 l f)
/-- The memory's rows. -/
abbrev Xa (c : Dev nD) (R : Fin 512) (l : Fin 1024) : EReal := (show FVec Ideal S512x1024 .f32 from m ((c : Thread nD τ).loc main_arg2)) (ix2 R l)

/-- Column `k` of slab `s` of the weights. -/
def wcol (s : Fin 8) (k : Fin 256) : Fin 2048 := ⟨s.val * 256 + k.val, by omega⟩
/-- The gradients of keys and values side by side. -/
def flat (D : Fin 2 → Fin 512 → Fin 1024 → EReal) (R : Fin 512) (q : Fin 2048) : EReal := D ⟨q.val / 1024, by omega⟩ R ⟨q.val % 1024, by omega⟩

theorem V2 (c : Dev nD) (s : Fin 8) (l : Fin 1024) (k : Fin 256) : (show FVec Ideal S8x1024x256 .bf16 from V m c main_v2) (ix3 s l k) = Wa m c l (wcol s k) := by
  simp only [V, hostOps0, List.flatten_cons, List.flatten_nil, List.append_nil, List.cons_append, List.nil_append]
  entry_read
  pointwise
  rfl

theorem blk0 (c : Dev nD) (t : Fin cfg0.N) (s : Fin 2) (r : Fin 512) (k : Fin 1024) : (show FVec Ideal S2x512x1024 .f32 from iblk m c 0 t) (ix3 s r k) = Da m c s r k := by
  blk_ext [iblk, V, idx t]
theorem blk1 (c : Dev nD) (t : Fin cfg0.N) (s : Fin 8) (l : Fin 1024) (k : Fin 256) : (show FVec Ideal S8x1024x256 .bf16 from iblk m c 1 t) (ix3 s l k) = Wa m c l (wcol s k) := by
  refine Eq.trans ?_ (V2 m c s l k)
  blk_ext [iblk, idx t]
theorem blk2 (c : Dev nD) (t : Fin cfg0.N) (r : Fin 512) (l : Fin 1024) : (show FVec Ideal S512x1024 .f32 from iblk m c 2 t) (ix2 r l) = Xa m c r l := by
  blk_ext [iblk, V, idx t]

/-- The gradient at the normalised row. -/
def dn (D : Fin 2 → Fin 512 → Fin 1024 → EReal) (W : Fin 1024 → Fin 2048 → EReal) (R : Fin 512) (l : Fin 1024) : EReal := ∑ q, flat D R q * W l q
/-- The gradient of the gain: the sum over the rows. -/
def gain (D : Fin 2 → Fin 512 → Fin 1024 → EReal) (W : Fin 1024 → Fin 2048 → EReal) (X : Fin 512 → Fin 1024 → EReal) (l : Fin 1024) : EReal :=
  ∑ R : Fin 512, dn D W R l * (X R l * scale (X R))

/-- One slab's share of the product with the transposed weights. -/
def share (a : FVec Ideal S1x512x256 .f32) (w : FVec Ideal S1x1024x256 .bf16) (r : Fin 512) (l : Fin 1024) : EReal := ∑ k : Fin 256, a (ix3 0 r k) * w (ix3 0 l k)
theorem pay3_eq (a0 : FVec Ideal S1x512x256 .f32) (w0 : FVec Ideal S1x1024x256 .bf16) (a1 : FVec Ideal S1x512x256 .f32) (w1 : FVec Ideal S1x1024x256 .bf16)
    (a2 : FVec Ideal S1x512x256 .f32) (w2 : FVec Ideal S1x1024x256 .bf16) (a3 : FVec Ideal S1x512x256 .f32) (w3 : FVec Ideal S1x1024x256 .bf16) (r : Fin 512) (l : Fin 1024) :
    (show EReal from k0_pay3 (F := Ideal) a0 w0 a1 w1 a2 w2 a3 w3 (ix2 r l)) = share a0 w0 r l + share a1 w1 r l + share a2 w2 r l + share a3 w3 r l := by
  unfold share
  pointwise [k0_pay3]
theorem pay4_eq (v : FVec Ideal S512x1024 .f32) (a0 : FVec Ideal S1x512x256 .f32) (w0 : FVec Ideal S1x1024x256 .bf16) (a1 : FVec Ideal S1x512x256 .f32) (w1 : FVec Ideal S1x1024x256 .bf16)
    (a2 : FVec Ideal S1x512x256 .f32) (w2 : FVec Ideal S1x1024x256 .bf16) (a3 : FVec Ideal S1x512x256 .f32) (w3 : FVec Ideal S1x1024x256 .bf16) (r : Fin 512) (l : Fin 1024) :
    (show EReal from k0_pay4 (F := Ideal) v a0 w0 a1 w1 a2 w2 a3 w3 (ix2 r l)) = v (ix2 r l) + share a0 w0 r l + share a1 w1 r l + share a2 w2 r l + share a3 w3 r l := by
  unfold share
  pointwise [k0_pay4]
theorem pay1_eq (d x : FVec Ideal S512x1024 .f32) (l : Fin 1024) :
    (show EReal from k0_pay1 (F := Ideal) d x (k0_pay5 (F := Ideal) x) (Scalar.ofBits .f32 0x44800000#32) (ix2 0 l)) = ∑ r : Fin 512, d (ix2 r l) * (x (ix2 r l) * scale fun k : Fin 1024 => x (ix2 r k)) := by
  unfold scale under
  pointwise [k0_pay1, k0_pay5]

/-- The slab of weights `s`, as loaded. -/
theorem wslot (c : Dev nD) (t : Fin cfg0.N) (s : Fin 8) (B : ∀ a, (![s.val, 0, 0] : Fin 3 → ℕ) a + S1x1024x256.size a ≤ S8x1024x256.size a) (l : Fin 1024) (k : Fin 256) :
    (show EReal from (View.ld (iblk m c 1 t) (Rect.unit (s := S8x1024x256) ![s.val, 0, 0] S1x1024x256.size B) : FVec Ideal S1x1024x256 .bf16) (ix3 0 l k)) = Wa m c l (wcol s k) := by
  refine Eq.trans (congrArg (iblk m c 1 t) ?_) (blk1 m c t s l k)
  funext a
  match a with
  | ⟨0, _⟩ => exact Fin.ext (by show s.val + 1 * 0 = s.val; omega)
  | ⟨1, _⟩ => exact Fin.ext (by show 0 + 1 * l.val = l.val; omega)
  | ⟨2, _⟩ => exact Fin.ext (by show 0 + 1 * k.val = k.val; omega)
/-- Columns `b` and on of slot `a` of the gradient, as loaded. -/
theorem dslot (c : Dev nD) (t : Fin cfg0.N) (a : Fin 2) (b : ℕ) (hb : b + 256 ≤ 1024) (B : ∀ i, (![a.val, 0, b] : Fin 3 → ℕ) i + S1x512x256.size i ≤ S2x512x1024.size i) (r : Fin 512) (k : Fin 256) :
    (show EReal from (View.ld (iblk m c 0 t) (Rect.unit (s := S2x512x1024) ![a.val, 0, b] S1x512x256.size B) : FVec Ideal S1x512x256 .f32) (ix3 0 r k)) = Da m c a r ⟨b + k.val, by omega⟩ := by
  refine Eq.trans (congrArg (iblk m c 0 t) ?_) (blk0 m c t a r ⟨b + k.val, by omega⟩)
  funext i
  match i with
  | ⟨0, _⟩ => exact Fin.ext (by show a.val + 1 * 0 = a.val; omega)
  | ⟨1, _⟩ => exact Fin.ext (by show 0 + 1 * r.val = r.val; omega)
  | ⟨2, _⟩ => exact Fin.ext (by show b + 1 * k.val = b + k.val; omega)
theorem share_eq (c : Dev nD) (t : Fin cfg0.N) (s : Fin 8) (a : Fin 2) (b : ℕ) (hb : b + 256 ≤ 1024) (hs : s.val * 256 = a.val * 1024 + b)
    (B : ∀ i, (![a.val, 0, b] : Fin 3 → ℕ) i + S1x512x256.size i ≤ S2x512x1024.size i) (B' : ∀ a, (![s.val, 0, 0] : Fin 3 → ℕ) a + S1x1024x256.size a ≤ S8x1024x256.size a) (r : Fin 512) (l : Fin 1024) :
    share (View.ld (iblk m c 0 t) (Rect.unit (s := S2x512x1024) ![a.val, 0, b] S1x512x256.size B)) (View.ld (iblk m c 1 t) (Rect.unit (s := S8x1024x256) ![s.val, 0, 0] S1x1024x256.size B')) r l
      = ∑ k, flat (Da m c) r (wcol s k) * Wa m c l (wcol s k) := by
  unfold share
  refine Finset.sum_congr rfl fun k _ => congrArg₂ (· * ·) ((dslot m c t a b hb B r k).trans ?_) (wslot m c t s B' l k)
  unfold flat
  have e1 : a = ⟨(wcol s k).val / 1024, by omega⟩ := Fin.ext (by show a.val = (s.val * 256 + k.val) / 1024; omega)
  have e2 : (⟨b + k.val, by omega⟩ : Fin 1024) = ⟨(wcol s k).val % 1024, by omega⟩ := Fin.ext (by show b + k.val = (s.val * 256 + k.val) % 1024; omega)
  rw [e2, ← e1]

theorem slabs (f : Fin 2048 → EReal) :
    ∑ k, f (wcol 0 k) + ∑ k, f (wcol 1 k) + ∑ k, f (wcol 2 k) + ∑ k, f (wcol 3 k) + ∑ k, f (wcol 4 k) + ∑ k, f (wcol 5 k) + ∑ k, f (wcol 6 k) + ∑ k, f (wcol 7 k) = ∑ q, f q := by
  rw [← Fin.sum_univ_eight (fun s => ∑ k, f (wcol s k))]
  exact Fin.sum_mul_add_congr fun s k h => rfl

theorem ld2 (c : Dev nD) (t : Fin cfg0.N) : View.ld (iblk m c 2 t) (Rect.unit (s := S512x1024) ![0, 0] S512x1024.size inb_S512x1024_S512x1024_0_0) = iblk m c 2 t := View.ld_unit_zero (funext fun a => by fin_cases a <;> rfl) _ _

theorem o4 (c : Dev nD) (t : Fin cfg0.N) (l : Fin 1024) : outsAt0 m c t (ix2 0 l) = gain (Da m c) (Wa m c) (Xa m c) l := by
  unfold outsAt0
  frame_out
  refine (pay1_eq _ _ l).trans ?_
  unfold gain
  refine Finset.sum_congr rfl fun r _ => congrArg₂ (· * ·) ?_ (congrArg₂ (· * ·) (blk2 m c t r l) (congrArg scale (funext fun k => blk2 m c t r k)))
  refine (pay4_eq _ _ _ _ _ _ _ _ _ r l).trans ?_
  refine Eq.trans ?_ (slabs fun q => flat (Da m c) r q * Wa m c l q)
  refine congrArg₂ (· + ·) (congrArg₂ (· + ·) (congrArg₂ (· + ·) (congrArg₂ (· + ·) ((pay3_eq _ _ _ _ _ _ _ _ r l).trans ?_) ?_) ?_) ?_) ?_
  · refine congrArg₂ (· + ·) (congrArg₂ (· + ·) (congrArg₂ (· + ·) ?_ ?_) ?_) ?_
    · exact share_eq m c t 0 0 0 (by omega) rfl _ _ r l
    · exact share_eq m c t 1 0 256 (by omega) rfl _ _ r l
    · exact share_eq m c t 2 0 512 (by omega) rfl _ _ r l
    · exact share_eq m c t 3 0 768 (by omega) rfl _ _ r l
  · exact share_eq m c t 4 1 0 (by omega) rfl _ _ r l
  · exact share_eq m c t 5 1 256 (by omega) rfl _ _ r l
  · exact share_eq m c t 6 1 512 (by omega) rfl _ _ r l
  · exact share_eq m c t 7 1 768 (by omega) rfl _ _ r l

theorem etaG (y : S1x1024.Idx) : y = ix2 0 (y 1) := by blk_ext

theorem final4 (c : Dev nD) : (dats m 0 c).arrAt 4 (cfgs 0).N = fun i : S1x1024.Idx => gain (Da m c) (Wa m c) (Xa m c) (i 1) := by
  refine (dats m 0 c).arrAt_eq_of_covers 4 _ (by decide +kernel) fun t hf y => ?_
  blk_simp
  rw [after0_4]
  obtain ⟨l, rfl⟩ : ∃ l : Fin 1024, y = ix2 0 l := ⟨y 1, etaG y⟩
  refine (o4 m c t l).trans ?_
  have e1 : ((((cfg0.win 4).blk t).view.emb (ix2 0 l)) 1 : Fin 1024) = l := Fin.ext (by blk_simp [idx t])
  rw [e1]
end Cert.Kernel17Ideal.Kv

namespace Cert.KvPair
open Idealize.ShloMosaic Idealize.ShloMosaic.TcCoe Idealize.SL.Sem Cert.Norms
open Cert.Reference17Ideal Cert.Reference17Ideal.Read in
theorem read1 (x0) (R : Fin 512) (q : Fin 2048) : val_main_v1 (F := Ideal) x0 (ix2 R q) = Cert.Kernel17Ideal.Kv.flat (fun s R k => x0 (ix3 s R k)) R q := by
  unfold Cert.Kernel17Ideal.Kv.flat
  pointwise [val_main_v0, val_main_v1]
open Cert.Reference17Ideal Cert.Reference17Ideal.Read in
theorem read18 (x0 x1 x2) (l : Fin 1024) : val_main_v18 (F := Ideal) x0 x1 x2 (ix2 0 l)
    = Cert.Kernel17Ideal.Kv.gain (fun s R k => x0 (ix3 s R k)) (fun l f => x1 (ix2 l f)) (fun R l => x2 (ix2 R l)) l := by
  unfold Cert.Kernel17Ideal.Kv.gain scale under Cert.Kernel17Ideal.Kv.dn
  simp only [← read1]
  unfold val_main_v18 val_main_v17 val_main_v16 val_main_v15
  generalize val_main_v1 (F := Ideal) x0 = P
  pointwise [val_main_v2, val_main_v3, val_main_v4, val_main_v5, val_main_v6, val_main_v7, val_main_v8, val_main_v9, val_main_v10, val_main_v11, val_main_cst, val_main_cst_0, val_main_cst_1, val_main_cst_2]
  exact Finset.sum_congr rfl fun R _ => mul_comm _ _

theorem algebraic : Cert.algebraic_Kernel17Ideal_Reference17Ideal := by
  pair_intro
  · run_from Cert.Kernel17Ideal.Gen.run_main m g
  · refine Idealize.ShloMosaic.θ_run_mono (Cert.Reference17Ideal.Value.run m' g') ?_
    intro r hr c
    obtain ⟨h0, hrest⟩ := hr c
    obtain ⟨a0, a1, a2, a3⟩ := hagree c
    refine ⟨h0.trans ?_, hrest⟩
    clear h0 hrest
    rw [Cert.Reference17Ideal.Read.val_main_v18_eq, Cert.Kernel17Ideal.Kv.final4, a0, a1, a2]
    funext i
    rw [Cert.Kernel17Ideal.Kv.etaG i]
    exact read18 _ _ _ (i 1)
end Cert.KvPair
-- ==== Proof.AttnFPair.lean ====
/-
  Softmax attention over a short memory: the kernel takes a tile of rows and a sequence's keys and values at a time, one
  head after another, and multiplies by the reciprocal of a row's total where the reference divides by it. On finite
  inputs its array is the reference's.
-/
module

public import proofs.«01_k».proof.Proof.Gen.Kernel18Ideal.Frame
public import proofs.«01_k».proof.Proof.Gen.Kernel18Ideal.Launch
public import proofs.«01_k».proof.Proof.Gen.Reference18Ideal.Read
public import proofs.«01_k».proof.Proof.Gen.Reference18Ideal.Run
public import proofs.«01_k».proof.Defs
public import Idealize.ShloMosaic.Lib.Pipeline.ValueKit
public import Idealize.ShloMosaic.Lib.Pipeline.ReadBack
public import Idealize.ShloMosaic.Lib.Pointwise
public import proofs.«01_k».proof.Proof.Gen.Pre_attnf_finite
public import Idealize.ShloMosaic.Lib.Claim
public import proofs.«01_k».proof.Proof.AttnSpec

@[expose] public section
set_option maxRecDepth 16384
noncomputable section
namespace Cert.Kernel18Ideal.AttnF
open Cert.Kernel18Ideal Cert.Kernel18Ideal.Gen Idealize.ShloMosaic Idealize.ShloMosaic.TcCoe Idealize.SL.Sem
open Idealize.ShloMosaic.Pipeline (Dat)
open Cert.Reals Cert.AttnSpec

/-- The attention's result: the values, weighted by the probabilities of the row's head. -/
def mix (Q : Fin 8192 → Fin 1024 → EReal) (KV : Fin 2 → Fin 512 → Fin 1024 → EReal) (R : Fin 8192) (c : Fin 1024) : EReal :=
  ∑ j, prob (sc Q KV R (headOf c)) j * KV 1 (mrow (seqOf R) j) c

theorem prob1 (q k) : k0_pay5 (F := Ideal) q k = k0_pay4 q k := rfl
theorem prob2 (q k) : k0_pay6 (F := Ideal) q k = k0_pay4 q k := rfl
theorem prob3 (q k) : k0_pay7 (F := Ideal) q k = k0_pay4 q k := rfl
theorem out1 (p v) : k0_pay1 (F := Ideal) p v = k0_pay8 p v := rfl
theorem out2 (p v) : k0_pay2 (F := Ideal) p v = k0_pay8 p v := rfl
theorem out3 (p v) : k0_pay3 (F := Ideal) p v = k0_pay8 p v := rfl

theorem prob_tile (q : FVec Ideal S1024x256 .bf16) (k : FVec Ideal S1x256x256 .bf16) (r : Fin 1024) (j : Fin 256) :
    (show EReal from k0_pay4 (F := Ideal) q k (ix2 r j)) = prob (score (fun d => q (ix2 r d)) fun j d => k (ix3 0 j d)) j := by
  pointwise [k0_pay4]
  rw [bits_sixteenth, bits_neg_inf]; rfl

theorem head (Q : Fin 8192 → Fin 1024 → EReal) (KV : Fin 2 → Fin 512 → Fin 1024 → EReal) (q : FVec Ideal S1024x256 .bf16) (k v : FVec Ideal S1x256x256 .bf16)
    (h : Fin 4) (R : Fin 8192) (x : S1024x256.Idx) (c : Fin 1024) (hc : c.val = h.val * 256 + (x 1).val)
    (hq : ∀ d, q (ix2 (x 0) d) = Q R (col h d)) (hk : ∀ j d, k (ix3 0 j d) = KV 0 (mrow (seqOf R) j) (col h d))
    (hv : ∀ j d, v (ix3 0 j d) = KV 1 (mrow (seqOf R) j) (col h d)) :
    (show EReal from k0_pay8 (F := Ideal) (k0_pay4 (F := Ideal) q k) v x) = mix Q KV R c := by
  have hx : (x 1).val < 256 := (x 1).isLt
  have hh : headOf c = h := Fin.ext (by show c.val / 256 = h.val; omega)
  have hcol : c = col h (x 1) := Fin.ext hc
  have hp : ∀ j : Fin 256, (show EReal from k0_pay4 (F := Ideal) q k (ix2 (x 0) j)) = prob (sc Q KV R h) j := fun j => by
    refine (prob_tile q k (x 0) j).trans ?_
    unfold sc
    rw [show (fun d => q (ix2 (x 0) d)) = fun d => Q R (col h d) from funext hq,
      show (fun j d => k (ix3 0 j d)) = fun j d => KV 0 (mrow (seqOf R) j) (col h d) from funext fun j => funext (hk j)]
  unfold mix
  rw [hh, hcol]
  simp only [← hp]
  generalize k0_pay4 (F := Ideal) q k = P
  pointwise [k0_pay8]
  exact Finset.sum_congr rfl fun j _ => congrArg (_ * ·) (hv j (x 1))

variable (m : (ℓ : Loc nD τ sig) → Buf (Elt Ideal) ℓ)

theorem idx : ∀ t : Fin cfg0.N,
    win0_0.index t = ![t.val, 0] ∧ win0_1.index t = ![0, t.val / 4, 0] ∧ win0_2.index t = ![t.val, 0] :=
  (by decide +kernel : ∀ t : Fin grid0.N, _)

/-- The queries, at a row and a column. -/
abbrev Qa (c : Dev nD) (R : Fin 8192) (l : Fin 1024) : EReal := (show FVec Ideal S8192x1024 .bf16 from m ((c : Thread nD τ).loc main_arg0)) (ix2 R l)
/-- The keys and the values. -/
abbrev KVa (c : Dev nD) (s : Fin 2) (J : Fin 512) (l : Fin 1024) : EReal := (show FVec Ideal S2x512x1024 .bf16 from m ((c : Thread nD τ).loc main_arg1)) (ix3 s J l)

/-- Row `r` of the tile of point `t`. -/
def at_ (t : Fin cfg0.N) (r : Fin 1024) : Fin 8192 := ⟨t.val * 1024 + r.val, by have := lt_of_lt_of_eq t.isLt N_0; omega⟩

theorem blk0 (c : Dev nD) (t : Fin cfg0.N) (r : Fin 1024) (l : Fin 1024) :
    (show FVec Ideal S1024x1024 .bf16 from iblk m c 0 t) (ix2 r l) = Qa m c (at_ t r) l := by
  blk_ext [iblk, V, idx t, Qa, at_]
theorem blk1 (c : Dev nD) (t : Fin cfg0.N) (r : Fin 1024) (s : Fin 2) (j : Fin 256) (l : Fin 1024) :
    (show FVec Ideal S2x256x1024 .bf16 from iblk m c 1 t) (ix3 s j l) = KVa m c s (mrow (seqOf (at_ t r)) j) l := by
  have : (t.val * 1024 + r.val) / 4096 = t.val / 4 := by omega
  blk_ext [iblk, V, idx t, KVa, at_, mrow, seqOf, this]

theorem o2 (c : Dev nD) (t : Fin cfg0.N) (y : S1024x1024.Idx) : out0_2 (F := Ideal) (iblk m c 0 t) (iblk m c 1 t) y = mix (Qa m c) (KVa m c) (at_ t (y 0)) (y 1) := by
  unfold out0_2
  canon_tiles x h
  all_goals try simp only [prob1, prob2, prob3, out1, out2, out3]
  · refine head (Qa m c) (KVa m c) _ _ _ 3 (at_ t (y 0)) x (y 1) (by simp only [h1]; first | rfl | simp) (fun d => ?_) (fun j d => ?_) (fun j d => ?_)
    · pointwise; exact (blk0 m c t (x 0) _).trans (congrArg₂ _ (congrArg _ (Fin.ext h0.symm)) (Fin.ext (by simp [col])))
    · pointwise; exact (blk1 m c t (y 0) _ _ _).trans (congrArg _ (Fin.ext (by simp [col])))
    · pointwise; exact (blk1 m c t (y 0) _ _ _).trans (congrArg _ (Fin.ext (by simp [col])))
  · refine head (Qa m c) (KVa m c) _ _ _ 2 (at_ t (y 0)) x (y 1) (by simp only [h1]; first | rfl | simp) (fun d => ?_) (fun j d => ?_) (fun j d => ?_)
    · pointwise; exact (blk0 m c t (x 0) _).trans (congrArg₂ _ (congrArg _ (Fin.ext h0.symm)) (Fin.ext (by simp [col])))
    · pointwise; exact (blk1 m c t (y 0) _ _ _).trans (congrArg _ (Fin.ext (by simp [col])))
    · pointwise; exact (blk1 m c t (y 0) _ _ _).trans (congrArg _ (Fin.ext (by simp [col])))
  · refine head (Qa m c) (KVa m c) _ _ _ 1 (at_ t (y 0)) x (y 1) (by simp only [h1]; first | rfl | simp) (fun d => ?_) (fun j d => ?_) (fun j d => ?_)
    · pointwise; exact (blk0 m c t (x 0) _).trans (congrArg₂ _ (congrArg _ (Fin.ext h0.symm)) (Fin.ext (by simp [col])))
    · pointwise; exact (blk1 m c t (y 0) _ _ _).trans (congrArg _ (Fin.ext (by simp [col])))
    · pointwise; exact (blk1 m c t (y 0) _ _ _).trans (congrArg _ (Fin.ext (by simp [col])))
  · refine head (Qa m c) (KVa m c) _ _ _ 0 (at_ t (y 0)) x (y 1) (by simp only [h1]; first | rfl | simp) (fun d => ?_) (fun j d => ?_) (fun j d => ?_)
    · pointwise; exact (blk0 m c t (x 0) _).trans (congrArg₂ _ (congrArg _ (Fin.ext h0.symm)) (Fin.ext (by simp [col])))
    · pointwise; exact (blk1 m c t (y 0) _ _ _).trans (congrArg _ (Fin.ext (by simp [col])))
    · pointwise; exact (blk1 m c t (y 0) _ _ _).trans (congrArg _ (Fin.ext (by simp [col])))

theorem etaR (i : S8192x1024.Idx) : i = ix2 (i 0) (i 1) := by blk_ext
theorem final2 (c : Dev nD) : (dats m 0 c).arrAt 2 (cfgs 0).N = fun i : S8192x1024.Idx => mix (Qa m c) (KVa m c) (i 0) (i 1) := by
  refine (dats m 0 c).arrAt_eq_of_covers 2 _ (by decide +kernel) fun t hf y => ?_
  blk_simp
  rw [after0_2]
  refine (o2 m c t y).trans ?_
  have e0 : ((((cfg0.win 2).blk t).view.emb y) 0 : Fin 8192) = at_ t (y 0) := Fin.ext (by blk_simp [idx t, at_])
  have e1 : ((((cfg0.win 2).blk t).view.emb y) 1 : Fin 1024) = y 1 := Fin.ext (by blk_simp [idx t])
  rw [e0, e1]
end Cert.Kernel18Ideal.AttnF

namespace Cert.Reference18Ideal.AttnF
open Cert.Reference18Ideal Cert.Reference18Ideal.Gen Cert.Reference18Ideal.Read Idealize.ShloMosaic Idealize.ShloMosaic.TcCoe Idealize.SL.Sem
open Cert.Reals Cert.AttnSpec

variable (x0 : FVec Ideal S8192x1024 .bf16) (x1 : FVec Ideal S2x512x1024 .bf16)

abbrev Qr (R : Fin 8192) (l : Fin 1024) : EReal := x0 (ix2 R l)
abbrev KVr (s : Fin 2) (J : Fin 512) (l : Fin 1024) : EReal := x1 (ix3 s J l)

theorem div16 (x : EReal) : Ideal.div x (Ideal.ofBits .f32 0x41800000#32) = x * ((1 / 16 : ℝ) : EReal) := by
  rw [bits_sixteen, Ideal.div_coe (by norm_num : (16 : ℝ) ≠ 0)]
  try norm_num

/-- Scores divided by sixteen. -/
theorem scores (b : Fin 2) (h : Fin 4) (t : Fin 4096) (j : Fin 256) :
    val_main_v11 (F := Ideal) x0 x1 (ix4 b h t j) = sc (Qr x0) (KVr x1) (pos b t) h j := by
  pointwise [val_main_v11, val_main_v10, val_main_v9, val_main_v2, val_main_v0, val_main_v5, val_main_v4, val_main_v3, val_main_v1, val_main_cst]
  rw [div16]
  have e : seqOf (pos b t) = b := Fin.ext (by show (b.val * 4096 + t.val) / 4096 = b.val; omega)
  unfold sc score
  rw [e]; rfl

theorem maxs (b : Fin 2) (h : Fin 4) (t : Fin 4096) :
    val_main_v12 (F := Ideal) x0 x1 (ix3 b h t) = Finset.univ.fold max ⊥ (sc (Qr x0) (KVr x1) (pos b t) h) := by
  unfold val_main_v12
  pointwise
  rw [show val_main_cst_0 (F := Ideal) (Shape.Idx.first h_S_) = ⊥ from bits_neg_inf]
  exact congrArg (Finset.fold max ⊥ · Finset.univ) (funext fun j => scores x0 x1 b h t j)

theorem m14 (b : Fin 2) (h : Fin 4) (t : Fin 4096) :
    val_main_v14 (F := Ideal) x0 x1 (ix3 b h t) = Finset.univ.fold max ⊥ (sc (Qr x0) (KVr x1) (pos b t) h) := by
  rw [val_main_v14_apply, maxs]
  pointwise [val_main_v13, val_main_cst_1]
  rw [bits_neg_inf, max_eq_right bot_le]

theorem v17 (b : Fin 2) (h : Fin 4) (t : Fin 4096) (j : Fin 256) :
    val_main_v17 (F := Ideal) x0 x1 (ix4 b h t j) = sc (Qr x0) (KVr x1) (pos b t) h j - Finset.univ.fold max ⊥ (sc (Qr x0) (KVr x1) (pos b t) h) := by
  have e : idx_main_v15 (idx_main_v16 (ix4 b h t j)) = ix3 b h t := by
    blk_ext
  rw [val_main_v17_apply, val_main_v16_apply, val_main_v15_apply, scores, e, m14]
  rfl

theorem exps (b : Fin 2) (h : Fin 4) (t : Fin 4096) (j : Fin 256) :
    val_main_v18 (F := Ideal) x0 x1 (ix4 b h t j) = ex (sc (Qr x0) (KVr x1) (pos b t) h) j := by
  rw [val_main_v18_apply, v17]; rfl

theorem probs (b : Fin 2) (h : Fin 4) (t : Fin 4096) (j : Fin 256) :
    val_main_v22 (F := Ideal) x0 x1 (ix4 b h t j) = prob' (sc (Qr x0) (KVr x1) (pos b t) h) j := by
  pointwise [val_main_v22, val_main_v21, val_main_v20, val_main_v19, val_main_cst_2, exps]
  rfl

variable {x0 x1}
variable (h0 : ∀ R l, Fin' (Qr x0 R l)) (h1 : ∀ s J l, Fin' (KVr x1 s J l))
include h0 h1

theorem prob_at (b : Fin 2) (h : Fin 4) (t : Fin 4096) (j : Fin 256) :
    val_main_v22 (F := Ideal) x0 x1 (ix4 b h t j) = prob (sc (Qr x0) (KVr x1) (pos b t) h) j := by
  exact (probs x0 x1 b h t j).trans (prob_eq (by norm_num) _ (fun j => fin_mul (fin_sum _ _ fun d => fin_mul (h0 _ _) (h1 _ _ _)) (fin_coe _)) j)

theorem read26 (R : Fin 8192) (l : Fin 1024) :
    val_main_v26 (F := Ideal) x0 x1 (ix2 R l) = Cert.Kernel18Ideal.AttnF.mix (Qr x0) (KVr x1) R l := by
  pointwise [val_main_v26, val_main_v25, val_main_v24, val_main_v23, val_main_v8, val_main_v7, val_main_v6, val_main_v1]
  have e : pos ⟨R.val / 4096, by omega⟩ ⟨R.val % 4096, by omega⟩ = R := Fin.ext (by show R.val / 4096 * 4096 + R.val % 4096 = R.val; omega)
  unfold Cert.Kernel18Ideal.AttnF.mix
  refine Finset.sum_congr rfl fun j _ => ?_
  rw [prob_at h0 h1, e, mul_comm]; rfl
end Cert.Reference18Ideal.AttnF

namespace Cert.AttnFPair
open Idealize.ShloMosaic Idealize.ShloMosaic.TcCoe Idealize.SL.Sem Cert.Reals Cert.AttnSpec

section
variable (m : (ℓ : Loc Cert.Kernel18Ideal.nD Cert.Kernel18Ideal.τ Cert.Kernel18Ideal.sig) → Buf (Elt Ideal) ℓ)
variable (hpre : Cert.Pre_Kernel18Ideal_attnf_finite m) (c : Dev Cert.Kernel18Ideal.nD)
include hpre

theorem finQ (R : Fin 8192) (l : Fin 1024) : Fin' (Cert.Kernel18Ideal.AttnF.Qa m c R l) := by
  have h := congrFun (hpre c).1 (ix2 R l)
  pointwise [Cert.Pre_attnf_finite.fn] at h
  exact fin_of_bit h

theorem finKV (s : Fin 2) (J : Fin 512) (l : Fin 1024) : Fin' (Cert.Kernel18Ideal.AttnF.KVa m c s J l) := by
  have h := congrFun (hpre c).2 (ix3 s J l)
  pointwise [Cert.Pre_attnf_finite.fn] at h
  exact fin_of_bit h

end

theorem algebraic : Cert.algebraic_Kernel18Ideal_Reference18Ideal_pre_attnf_finite := by
  pair_intro
  · run_from Cert.Kernel18Ideal.Gen.run_main m g
  · refine Idealize.ShloMosaic.θ_run_mono (Cert.Reference18Ideal.Value.run m' g') ?_
    intro r hr c
    obtain ⟨h0, hrest⟩ := hr c
    obtain ⟨a0, a1⟩ := hagree c
    refine ⟨h0.trans ?_, hrest⟩
    rw [Cert.Reference18Ideal.Read.val_main_v26_eq, Cert.Kernel18Ideal.AttnF.final2, a0, a1]
    funext i
    rw [Cert.Kernel18Ideal.AttnF.etaR i]
    exact Cert.Reference18Ideal.AttnF.read26 (finQ m hpre c) (finKV m hpre c) (i 0) (i 1)

end Cert.AttnFPair
-- ==== Proof.OutQPair.lean ====
/-
  The mixer's output product, added to the tokens, the normalisation behind it and the product of the queries: the
  values that arrive lie in two slabs of columns; the kernel adds the product tile by tile, two column blocks at a
  time, normalises the rows it has just stored and multiplies them; its three arrays are the reference's, at every input.
-/
module

public import proofs.«01_k».proof.Defs
public import proofs.«01_k».proof.Proof.Gen.Kernel19Ideal.Frame
public import proofs.«01_k».proof.Proof.Gen.Reference19Ideal.Read
public import Idealize.ShloMosaic.Lib.Pipeline.ValueKit
public import Idealize.ShloMosaic.Lib.Pipeline.ReadBack
public import Idealize.ShloMosaic.Lib.Pointwise
public import Idealize.ShloMosaic.Lib.Claim
public import proofs.«01_k».proof.Proof.Norms

@[expose] public section
set_option maxRecDepth 16384
noncomputable section
namespace Cert.Kernel19Ideal.OutQ
open Cert.Kernel19Ideal Cert.Kernel19Ideal.Gen Idealize.ShloMosaic Idealize.ShloMosaic.TcCoe Idealize.SL.Sem Cert.Norms
open Idealize.ShloMosaic.Pipeline (Dat)
variable (m : (ℓ : Loc nD τ sig) → Buf (Elt Ideal) ℓ)
theorem idx : ∀ t : Fin cfg0.N,
    win0_0.index t = ![0, t.val, 0] ∧ win0_1.index t = ![0, 0] ∧ win0_2.index t = ![t.val, 0] ∧ win0_3.index t = ![0, 0]
      ∧ win0_4.index t = ![0, 0] ∧ win0_5.index t = ![t.val, 0] ∧ win0_6.index t = ![t.val, 0] ∧ win0_7.index t = ![t.val, 0] :=
  (by decide +kernel : ∀ t : Fin grid0.N, _)

/-- The mixer's output, at a row and a column. -/
abbrev Oa (c : Dev nD) (R : Fin 8192) (k : Fin 1024) : EReal := (show FVec Ideal S2x8192x512 .bf16 from m ((c : Thread nD τ).loc main_arg0)) (ix3 ⟨k.val / 512, by omega⟩ R ⟨k.val % 512, by omega⟩)
/-- The weights. -/
abbrev Wa (c : Dev nD) (k l : Fin 1024) : EReal := (show FVec Ideal S1024x1024 .f32 from m ((c : Thread nD τ).loc main_arg1)) (ix2 k l)
/-- The tokens beside the product. -/
abbrev Ha (c : Dev nD) (R : Fin 8192) (l : Fin 1024) : EReal := (show FVec Ideal S8192x1024 .f32 from m ((c : Thread nD τ).loc main_arg2)) (ix2 R l)
/-- The gain of the normalisation. -/
abbrev Ga (c : Dev nD) (l : Fin 1024) : EReal := (show FVec Ideal S1x1024 .f32 from m ((c : Thread nD τ).loc main_arg3)) (ix2 0 l)

/-- The weights of the queries. -/
abbrev Qa (c : Dev nD) (k l : Fin 1024) : EReal := (show FVec Ideal S1024x1024 .f32 from m ((c : Thread nD τ).loc main_arg4)) (ix2 k l)

/-- Row `r` of the tile of point `t`. -/
def at_ (t : Fin cfg0.N) (r : Fin 1024) : Fin 8192 := ⟨t.val * 1024 + r.val, by have := lt_of_lt_of_eq t.isLt N_0; omega⟩

/-- The tokens with the product added. -/
def tok (O : Fin 8192 → Fin 1024 → EReal) (W : Fin 1024 → Fin 1024 → EReal) (H : Fin 8192 → Fin 1024 → EReal)
    (R : Fin 8192) (l : Fin 1024) : EReal := H R l + ∑ k, O R k * W k l
/-- The rows normalised. -/
def nrm (X : Fin 8192 → Fin 1024 → EReal) (G : Fin 1024 → EReal) (R : Fin 8192) (l : Fin 1024) : EReal :=
  X R l * scale (X R) * G l
/-- Rows multiplied by the weights of the queries. -/
def qry (N : Fin 8192 → Fin 1024 → EReal) (Q : Fin 1024 → Fin 1024 → EReal) (R : Fin 8192) (l : Fin 1024) : EReal :=
  ∑ k, N R k * Q k l

theorem V1 (c : Dev nD) (k l : Fin 1024) : (show FVec Ideal S1024x1024 .bf16 from V m c main_v1) (ix2 k l) = Qa m c k l := by
  simp only [V, hostOps0, List.flatten_cons, List.flatten_nil, List.append_nil, List.cons_append, List.nil_append]
  entry_read
  pointwise
theorem V0 (c : Dev nD) (k l : Fin 1024) : (show FVec Ideal S1024x1024 .bf16 from V m c main_v0) (ix2 k l) = Wa m c k l := by
  simp only [V, hostOps0, List.flatten_cons, List.flatten_nil, List.append_nil, List.cons_append, List.nil_append]
  entry_read
  pointwise

theorem etaT (y : S1024x1024.Idx) : y = ix2 (y 0) (y 1) := by blk_ext
theorem etaH (y : S1024x512.Idx) : y = ix2 (y 0) (y 1) := by blk_ext
theorem etaR (i : S8192x1024.Idx) : i = ix2 (i 0) (i 1) := by blk_ext

theorem blk0 (c : Dev nD) (t : Fin cfg0.N) (r : Fin 1024) (s : Fin 2) (p : Fin 512) (q : Fin 1024) (h : q.val = s.val * 512 + p.val) : (show FVec Ideal S2x1024x512 .bf16 from iblk m c 0 t) (ix3 s r p) = Oa m c (at_ t r) q := by
  have es : (⟨q.val / 512, by omega⟩ : Fin 2) = s := Fin.ext (by show q.val / 512 = s.val; omega)
  have ep : (⟨q.val % 512, by omega⟩ : Fin 512) = p := Fin.ext (by show q.val % 512 = p.val; omega)
  unfold Oa
  rw [es, ep]
  blk_ext [iblk, V, idx t, at_]
theorem blk1 (c : Dev nD) (t : Fin cfg0.N) (y : S1024x1024.Idx) : (show FVec Ideal S1024x1024 .bf16 from iblk m c 1 t) y = Wa m c (y 0) (y 1) := by
  rw [etaT y]
  refine Eq.trans ?_ (V0 m c (y 0) (y 1))
  blk_ext [iblk, idx t, at_]
theorem blk2 (c : Dev nD) (t : Fin cfg0.N) (y : S1024x1024.Idx) : (show FVec Ideal S1024x1024 .f32 from iblk m c 2 t) y = Ha m c (at_ t (y 0)) (y 1) := by
  rw [etaT y]
  blk_ext [iblk, V, idx t, at_]
theorem blk3 (c : Dev nD) (t : Fin cfg0.N) (l : Fin 1024) : (show FVec Ideal S1x1024 .f32 from iblk m c 3 t) (ix2 0 l) = Ga m c l := by
  blk_ext [iblk, V, idx t, at_]
theorem blk4 (c : Dev nD) (t : Fin cfg0.N) (y : S1024x1024.Idx) : (show FVec Ideal S1024x1024 .bf16 from iblk m c 4 t) y = Qa m c (y 0) (y 1) := by
  rw [etaT y]
  refine Eq.trans ?_ (V1 m c (y 0) (y 1))
  blk_ext [iblk, idx t, at_]

/-- The tokens of the tile of point `t`. -/
def tokv (c : Dev nD) (t : Fin cfg0.N) : FVec Ideal S1024x1024 .f32 := fun y => tok (Oa m c) (Wa m c) (Ha m c) (at_ t (y 0)) (y 1)

theorem pay1_eq (x : FVec Ideal S1024x1024 .f32) (g : FVec Ideal S1x1024 .f32) (r l : Fin 1024) :
    (show EReal from k0_pay1 (F := Ideal) (k0_pay7 (F := Ideal) x) g (ix2 r l)) = x (ix2 r l) * scale (fun k : Fin 1024 => (show EReal from x (ix2 r k))) * g (ix2 0 l) := by
  unfold scale under
  pointwise [k0_pay1, k0_pay7]
theorem pay2_eq (x : FVec Ideal S1024x1024 .f32) (g : FVec Ideal S1x1024 .f32) (w : FVec Ideal S1024x512 .bf16) (r : Fin 1024) (l : Fin 512) :
    (show EReal from k0_pay2 (F := Ideal) x g w (ix2 r l)) = ∑ k : Fin 1024, (show EReal from k0_pay1 (F := Ideal) x g (ix2 r k)) * w (ix2 k l) := by
  unfold k0_pay2
  generalize k0_pay1 (F := Ideal) x g = P
  pointwise
theorem pay3_eq (x : FVec Ideal S1024x1024 .f32) (g : FVec Ideal S1x1024 .f32) (w : FVec Ideal S1024x512 .bf16) (r : Fin 1024) (l : Fin 512) :
    (show EReal from k0_pay3 (F := Ideal) x g w (ix2 r l)) = ∑ k : Fin 1024, (show EReal from k0_pay1 (F := Ideal) x g (ix2 r k)) * w (ix2 k l) := by
  unfold k0_pay3
  generalize k0_pay1 (F := Ideal) x g = P
  pointwise

/-- The two column blocks of the tokens, the last stored first. -/
abbrev pieces (c : Dev nD) (t : Fin cfg0.N) : List (View.Piece (Elt Ideal) S1024x1024 .f32) :=
  [⟨Rect.unit ![0, 512] ![1024, 512] inb_S1024x1024_S1024x512_0_512,
      k0_pay6 (F := Ideal) (View.ld (iblk m c 0 t) (Rect.unit ![0, 0, 0] ![1, 1024, 512] inb_S2x1024x512_S1x1024x512_0_0_0)) (View.ld (iblk m c 0 t) (Rect.unit ![1, 0, 0] ![1, 1024, 512] inb_S2x1024x512_S1x1024x512_1_0_0))
        (View.ld (iblk m c 2 t) (Rect.unit ![0, 512] ![1024, 512] inb_S1024x1024_S1024x512_0_512))
        (View.ld (iblk m c 1 t) (Rect.unit ![0, 512] ![1024, 512] inb_S1024x1024_S1024x512_0_512))⟩,
    ⟨Rect.unit ![0, 0] ![1024, 512] inb_S1024x1024_S1024x512_0_0,
      k0_pay5 (F := Ideal) (View.ld (iblk m c 0 t) (Rect.unit ![0, 0, 0] ![1, 1024, 512] inb_S2x1024x512_S1x1024x512_0_0_0)) (View.ld (iblk m c 0 t) (Rect.unit ![1, 0, 0] ![1, 1024, 512] inb_S2x1024x512_S1x1024x512_1_0_0))
        (View.ld (iblk m c 2 t) (Rect.unit ![0, 0] ![1024, 512] inb_S1024x1024_S1024x512_0_0))
        (View.ld (iblk m c 1 t) (Rect.unit ![0, 0] ![1024, 512] inb_S1024x1024_S1024x512_0_0))⟩]

/-- A column of the left and of the right block. -/
def le (l : Fin 512) : Fin 1024 := ⟨l.val, by omega⟩
def ri (l : Fin 512) : Fin 1024 := ⟨512 + l.val, by omega⟩
theorem columns (f : Fin 1024 → EReal) : ∑ k : Fin 512, f (le k) + ∑ k : Fin 512, f (ri k) = ∑ k, f k :=
  (Fin.sum_univ_add (a := 512) (b := 512) f).symm

theorem canon2 (c : Dev nD) (t : Fin cfg0.N) (y : S1024x1024.Idx) : View.canon (pieces m c t) y = tokv m c t y := by
  unfold pieces
  canon_tiles x h
  all_goals
    pointwise [k0_pay4, k0_pay5, k0_pay6]
    unfold tokv tok
    refine congrArg₂ (· + ·) ((blk2 m c t _).trans (congrArg₂ (Ha m c) (Fin.ext ?_) (Fin.ext ?_)))
      (Eq.trans (congrArg₂ (· + ·)
        (Finset.sum_congr rfl fun k _ => congrArg₂ (· * ·) ((blk0 m c t _ 0 k (le k) (by show k.val = 0 * 512 + k.val; omega)).trans (congrArg₂ (Oa m c) (Fin.ext ?_) rfl))
          ((blk1 m c t _).trans (congrArg₂ (Wa m c) (Fin.ext ?_) (Fin.ext ?_))))
        (Finset.sum_congr rfl fun k _ => congrArg₂ (· * ·) ((blk0 m c t _ 1 k (ri k) (by show 512 + k.val = 1 * 512 + k.val; omega)).trans (congrArg₂ (Oa m c) (Fin.ext ?_) rfl))
          ((blk1 m c t _).trans (congrArg₂ (Wa m c) (Fin.ext ?_) (Fin.ext ?_)))))
        (columns fun k : Fin 1024 => Oa m c (at_ t (y 0)) k * Wa m c k (y 1)))
    all_goals first | rfl | exact h1.symm | exact congrArg (t.val * 1024 + ·) h0.symm

/-- The whole tile. -/
abbrev Rall : Rect S1024x1024 := Rect.unit ![0, 0] ![1024, 1024] inb_S1024x1024_S1024x1024_0_0
/-- The tile of tokens, read back after both stores. -/
def xr (c : Dev nD) (t : Fin cfg0.N) : FVec Ideal S1024x1024 .f32 :=
  (ms0_5 t).view.readCov (Val := Elt Ideal) (pieces m c t) Rall.toLoadRect
theorem xr_eq (c : Dev nD) (t : Fin cfg0.N) : xr m c t = tokv m c t := by
  unfold xr
  rw [View.readCov_eq_canon']
  refine funext fun j => (canon2 m c t _).trans (congrArg (tokv m c t) ?_)
  funext a
  match a with
  | ⟨0, _⟩ => exact Fin.ext (by show 0 + 1 * (j 0).val = (j 0).val; omega)
  | ⟨1, _⟩ => exact Fin.ext (by show 0 + 1 * (j 1).val = (j 1).val; omega)

/-- The normalised rows, from the arguments. -/
def Nm (c : Dev nD) (R : Fin 8192) (l : Fin 1024) : EReal := nrm (fun R l => tok (Oa m c) (Wa m c) (Ha m c) R l) (Ga m c) R l
/-- The normalised rows of the tile, stored. -/
def nv (c : Dev nD) (t : Fin cfg0.N) : FVec Ideal S1024x1024 .bf16 := k0_pay1 (F := Ideal) (k0_pay7 (F := Ideal) (xr m c t)) (iblk m c 3 t)
theorem nv_eq (c : Dev nD) (t : Fin cfg0.N) (r l : Fin 1024) : (show EReal from nv m c t (ix2 r l)) = Nm m c (at_ t r) l := by
  unfold nv
  refine (pay1_eq _ _ r l).trans ?_
  rw [xr_eq]
  unfold Nm nrm
  exact congrArg (_ * ·) (blk3 m c t l)

theorem o5 (c : Dev nD) (t : Fin cfg0.N) (y : S1024x1024.Idx) : (outsAt0 m c t).1 y = tokv m c t y := by
  refine Eq.trans ?_ (canon2 m c t y)
  unfold outsAt0
  frame_out
  rfl
theorem o6 (c : Dev nD) (t : Fin cfg0.N) (y : S1024x1024.Idx) : (outsAt0 m c t).2.1 y = Nm m c (at_ t (y 0)) (y 1) := by
  obtain ⟨r, l, rfl⟩ : ∃ r l : Fin 1024, y = ix2 r l := ⟨y 0, y 1, etaT y⟩
  refine Eq.trans ?_ (nv_eq m c t r l)
  unfold outsAt0
  frame_out
  rfl

/-- The two column blocks of the weights of the queries. -/
abbrev Rl : Rect S1024x1024 := Rect.unit ![0, 0] ![1024, 512] inb_S1024x1024_S1024x512_0_0
abbrev Rr : Rect S1024x1024 := Rect.unit ![0, 512] ![1024, 512] inb_S1024x1024_S1024x512_0_512
theorem ql (c : Dev nD) (t : Fin cfg0.N) (k : Fin 1024) (l : Fin 512) : (show EReal from (View.ld (iblk m c 4 t) Rl : FVec Ideal S1024x512 .bf16) (ix2 k l)) = Qa m c k (le l) := by
  refine (blk4 m c t (Rl.idx (ix2 k l : S1024x512.Idx))).trans (congrArg₂ (Qa m c) (Fin.ext ?_) (Fin.ext ?_))
  · show 0 + 1 * k.val = k.val; omega
  · show 0 + 1 * l.val = l.val; omega
theorem qr (c : Dev nD) (t : Fin cfg0.N) (k : Fin 1024) (l : Fin 512) : (show EReal from (View.ld (iblk m c 4 t) Rr : FVec Ideal S1024x512 .bf16) (ix2 k l)) = Qa m c k (ri l) := by
  refine (blk4 m c t (Rr.idx (ix2 k l : S1024x512.Idx))).trans (congrArg₂ (Qa m c) (Fin.ext ?_) (Fin.ext ?_))
  · show 0 + 1 * k.val = k.val; omega
  · show 512 + 1 * l.val = 512 + l.val; omega

theorem h2 (c : Dev nD) (t : Fin cfg0.N) (r : Fin 1024) (l : Fin 512) :
    (show EReal from k0_pay2 (F := Ideal) (k0_pay7 (F := Ideal) (xr m c t)) (iblk m c 3 t) (View.ld (iblk m c 4 t) Rl) (ix2 r l)) = qry (fun R l => Nm m c R l) (Qa m c) (at_ t r) (le l) := by
  refine (pay2_eq _ _ _ r l).trans (Finset.sum_congr rfl fun k _ => congrArg₂ (· * ·) (nv_eq m c t r k) (ql m c t k l))
theorem h3 (c : Dev nD) (t : Fin cfg0.N) (r : Fin 1024) (l : Fin 512) :
    (show EReal from k0_pay3 (F := Ideal) (k0_pay7 (F := Ideal) (xr m c t)) (iblk m c 3 t) (View.ld (iblk m c 4 t) Rr) (ix2 r l)) = qry (fun R l => Nm m c R l) (Qa m c) (at_ t r) (ri l) := by
  refine (pay3_eq _ _ _ r l).trans (Finset.sum_congr rfl fun k _ => congrArg₂ (· * ·) (nv_eq m c t r k) (qr m c t k l))

/-- Two stores of column blocks that hold the columns of one array are that array. -/
theorem two_blocks {e : EltTy} (P Q : Vec Ideal S1024x512 e) (f : Fin 1024 → Fin 1024 → Elt Ideal e)
    (hP : ∀ r l, P (ix2 r l) = f r (ri l)) (hQ : ∀ r l, Q (ix2 r l) = f r (le l)) (y : S1024x1024.Idx) :
    View.canon (Val := Elt Ideal) [⟨Rr, P⟩, ⟨Rl, Q⟩] y = f (y 0) (y 1) := by
  canon_tiles x h
  · rw [etaH x]
    exact (hP _ _).trans (congrArg₂ f (Fin.ext (h0.symm.trans (by rfl))) (Fin.ext (h1.symm.trans (by rfl))))
  · rw [etaH x]
    exact (hQ _ _).trans (congrArg₂ f (Fin.ext (h0.symm.trans (by rfl))) (Fin.ext (h1.symm.trans (by rfl))))

theorem o7 (c : Dev nD) (t : Fin cfg0.N) (y : S1024x1024.Idx) : (outsAt0 m c t).2.2 y = qry (fun R l => Nm m c R l) (Qa m c) (at_ t (y 0)) (y 1) := by
  refine Eq.trans ?_ (two_blocks (e := .bf16) (k0_pay3 (F := Ideal) (k0_pay7 (F := Ideal) (xr m c t)) (iblk m c 3 t) (View.ld (iblk m c 4 t) Rr)) (k0_pay2 (F := Ideal) (k0_pay7 (F := Ideal) (xr m c t)) (iblk m c 3 t) (View.ld (iblk m c 4 t) Rl))
    (fun r l => qry (fun R l => Nm m c R l) (Qa m c) (at_ t r) l) (h3 m c t) (h2 m c t) y)
  unfold outsAt0
  frame_out
  rfl

theorem final5 (c : Dev nD) : (dats m 0 c).arrAt 5 (cfgs 0).N = fun i : S8192x1024.Idx => tok (Oa m c) (Wa m c) (Ha m c) (i 0) (i 1) := by
  refine (dats m 0 c).arrAt_eq_of_covers 5 _ (by decide +kernel) fun t hf y => ?_
  blk_simp
  rw [after0_5]
  refine (o5 m c t y).trans ?_
  have e0 : ((((cfg0.win 5).blk t).view.emb y) 0 : Fin 8192) = at_ t (y 0) := Fin.ext (by blk_simp [idx t, at_])
  have e1 : ((((cfg0.win 5).blk t).view.emb y) 1 : Fin 1024) = y 1 := Fin.ext (by blk_simp [idx t])
  rw [e0, e1]
  rfl
theorem final6 (c : Dev nD) : (dats m 0 c).arrAt 6 (cfgs 0).N = fun i : S8192x1024.Idx => Nm m c (i 0) (i 1) := by
  refine (dats m 0 c).arrAt_eq_of_covers 6 _ (by decide +kernel) fun t hf y => ?_
  blk_simp
  rw [after0_6]
  refine (o6 m c t y).trans ?_
  have e0 : ((((cfg0.win 6).blk t).view.emb y) 0 : Fin 8192) = at_ t (y 0) := Fin.ext (by blk_simp [idx t, at_])
  have e1 : ((((cfg0.win 6).blk t).view.emb y) 1 : Fin 1024) = y 1 := Fin.ext (by blk_simp [idx t])
  rw [e0, e1]
theorem final7 (c : Dev nD) : (dats m 0 c).arrAt 7 (cfgs 0).N = fun i : S8192x1024.Idx => qry (fun R l => Nm m c R l) (Qa m c) (i 0) (i 1) := by
  refine (dats m 0 c).arrAt_eq_of_covers 7 _ (by decide +kernel) fun t hf y => ?_
  blk_simp
  rw [after0_7]
  refine (o7 m c t y).trans ?_
  have e0 : ((((cfg0.win 7).blk t).view.emb y) 0 : Fin 8192) = at_ t (y 0) := Fin.ext (by blk_simp [idx t, at_])
  have e1 : ((((cfg0.win 7).blk t).view.emb y) 1 : Fin 1024) = y 1 := Fin.ext (by blk_simp [idx t])
  rw [e0, e1]
end Cert.Kernel19Ideal.OutQ

namespace Cert.OutQPair
open Idealize.ShloMosaic Idealize.ShloMosaic.TcCoe Idealize.SL.Sem Cert.Norms Cert.Kernel19Ideal.OutQ
open Cert.Reference19Ideal Cert.Reference19Ideal.Read in
theorem read4 (x0 x1 x2) (R : Fin 8192) (l : Fin 1024) : val_main_v4 (F := Ideal) x0 x1 x2 (ix2 R l)
    = tok (fun R k => x0 (ix3 ⟨k.val / 512, by omega⟩ R ⟨k.val % 512, by omega⟩)) (fun k l => x1 (ix2 k l)) (fun R l => x2 (ix2 R l)) R l := by
  unfold tok
  pointwise [val_main_v0, val_main_v1, val_main_v2, val_main_v3, val_main_v4]
open Cert.Reference19Ideal Cert.Reference19Ideal.Read in
theorem read16 (x0 x1 x2 x3) (R : Fin 8192) (l : Fin 1024) : val_main_v16 (F := Ideal) x0 x1 x2 x3 (ix2 R l)
    = nrm (fun R l => tok (fun R k => x0 (ix3 ⟨k.val / 512, by omega⟩ R ⟨k.val % 512, by omega⟩)) (fun k l => x1 (ix2 k l)) (fun R l => x2 (ix2 R l)) R l) (fun l => x3 (ix2 0 l)) R l := by
  simp only [← read4]
  unfold nrm scale under
  unfold val_main_v16 val_main_v14 val_main_v13 val_main_v12 val_main_v11 val_main_v9 val_main_v7 val_main_v6 val_main_v5
  generalize val_main_v4 (F := Ideal) x0 x1 x2 = P
  pointwise [val_main_v15, val_main_v8, val_main_v10, val_main_cst, val_main_cst_0, val_main_cst_1]
open Cert.Reference19Ideal Cert.Reference19Ideal.Read in
theorem read17 (x0 x1 x2 x3) (R : Fin 8192) (l : Fin 1024) : val_main_v17 (F := Ideal) x0 x1 x2 x3 (ix2 R l)
    = nrm (fun R l => tok (fun R k => x0 (ix3 ⟨k.val / 512, by omega⟩ R ⟨k.val % 512, by omega⟩)) (fun k l => x1 (ix2 k l)) (fun R l => x2 (ix2 R l)) R l) (fun l => x3 (ix2 0 l)) R l := by
  rw [← read16]
  unfold val_main_v17
  generalize val_main_v16 (F := Ideal) x0 x1 x2 x3 = P
  pointwise
open Cert.Reference19Ideal Cert.Reference19Ideal.Read in
theorem read19 (x0 x1 x2 x3 x4) (R : Fin 8192) (l : Fin 1024) : val_main_v19 (F := Ideal) x0 x1 x2 x3 x4 (ix2 R l)
    = qry (fun R l => nrm (fun R l => tok (fun R k => x0 (ix3 ⟨k.val / 512, by omega⟩ R ⟨k.val % 512, by omega⟩)) (fun k l => x1 (ix2 k l)) (fun R l => x2 (ix2 R l)) R l) (fun l => x3 (ix2 0 l)) R l) (fun k l => x4 (ix2 k l)) R l := by
  simp only [← read16]
  unfold qry val_main_v19 val_main_v18
  generalize val_main_v16 (F := Ideal) x0 x1 x2 x3 = P
  pointwise

theorem algebraic : Cert.algebraic_Kernel19Ideal_Reference19Ideal := by
  pair_intro
  · run_from Cert.Kernel19Ideal.Gen.run_main m g
  · refine Idealize.ShloMosaic.θ_run_mono (Cert.Reference19Ideal.Value.run m' g') ?_
    intro r hr c
    obtain ⟨h0, h1, h2, hrest⟩ := hr c
    obtain ⟨a0, a1, a2, a3, a4⟩ := hagree c
    refine ⟨h0.trans ?_, h1.trans ?_, h2.trans ?_, hrest⟩
    · clear h0 h1 h2 hrest
      rw [Cert.Reference19Ideal.Read.val_main_v4_eq, Cert.Kernel19Ideal.OutQ.final5, a0, a1, a2]
      funext i
      rw [Cert.Kernel19Ideal.OutQ.etaR i]
      exact read4 _ _ _ (i 0) (i 1)
    · clear h0 h1 h2 hrest
      rw [Cert.Reference19Ideal.Read.val_main_v17_eq, Cert.Kernel19Ideal.OutQ.final6, a0, a1, a2, a3]
      funext i
      rw [Cert.Kernel19Ideal.OutQ.etaR i]
      exact read17 _ _ _ _ (i 0) (i 1)
    · clear h0 h1 h2 hrest
      rw [Cert.Reference19Ideal.Read.val_main_v19_eq, Cert.Kernel19Ideal.OutQ.final7, a0, a1, a2, a3, a4]
      funext i
      rw [Cert.Kernel19Ideal.OutQ.etaR i]
      exact read19 _ _ _ _ _ (i 0) (i 1)
end Cert.OutQPair
-- ==== Proof.KvFPair.lean ====
/-
  The keys and the values of the memory: its rows normalised, then one product, eight slabs of columns one after the
  other. The kernel's two arrays, the product and the normalised rows, are the reference's, at every input.
-/
module

public import proofs.«01_k».proof.Defs
public import proofs.«01_k».proof.Proof.Gen.Kernel20Ideal.Frame
public import proofs.«01_k».proof.Proof.Gen.Reference20Ideal.Read
public import Idealize.ShloMosaic.Lib.Pipeline.ValueKit
public import Idealize.ShloMosaic.Lib.Pipeline.ReadBack
public import Idealize.ShloMosaic.Lib.Pointwise
public import Idealize.ShloMosaic.Lib.Claim
public import proofs.«01_k».proof.Proof.Norms

@[expose] public section
set_option maxRecDepth 16384
noncomputable section
namespace Cert.Kernel20Ideal.KvF
open Cert.Kernel20Ideal Cert.Kernel20Ideal.Gen Idealize.ShloMosaic Idealize.ShloMosaic.TcCoe Idealize.SL.Sem Cert.Norms
open Idealize.ShloMosaic.Pipeline (Dat)
variable (m : (ℓ : Loc nD τ sig) → Buf (Elt Ideal) ℓ)
theorem idx : ∀ t : Fin cfg0.N,
    win0_0.index t = ![0, 0] ∧ win0_1.index t = ![0, 0] ∧ win0_2.index t = ![0, 0, 0] ∧ win0_3.index t = ![0, 0, 0] ∧ win0_4.index t = ![0, 0] :=
  (by decide +kernel : ∀ t : Fin grid0.N, _)

/-- The memory's rows. -/
abbrev Xa (c : Dev nD) (R : Fin 512) (l : Fin 1024) : EReal := (show FVec Ideal S512x1024 .f32 from m ((c : Thread nD τ).loc main_arg0)) (ix2 R l)
/-- The gain of the normalisation. -/
abbrev Ga (c : Dev nD) (l : Fin 1024) : EReal := (show FVec Ideal S1x1024 .f32 from m ((c : Thread nD τ).loc main_arg1)) (ix2 0 l)
/-- The weights of keys and values. -/
abbrev Wa (c : Dev nD) (l : Fin 1024) (f : Fin 2048) : EReal := (show FVec Ideal S1024x2048 .f32 from m ((c : Thread nD τ).loc main_arg2)) (ix2 l f)

/-- Column `k` of slab `s` of the weights. -/
def wcol (s : Fin 8) (k : Fin 256) : Fin 2048 := ⟨s.val * 256 + k.val, by omega⟩
/-- Column `k` of the keys (slot 0) or of the values (slot 1). -/
def col (s : Fin 2) (k : Fin 1024) : Fin 2048 := ⟨s.val * 1024 + k.val, by omega⟩

theorem V2 (c : Dev nD) (s : Fin 8) (l : Fin 1024) (k : Fin 256) : (show FVec Ideal S8x1024x256 .bf16 from V m c main_v2) (ix3 s l k) = Wa m c l (wcol s k) := by
  simp only [V, hostOps0, List.flatten_cons, List.flatten_nil, List.append_nil, List.cons_append, List.nil_append]
  entry_read
  pointwise
  rfl

theorem blk0 (c : Dev nD) (t : Fin cfg0.N) (r : Fin 512) (l : Fin 1024) : (show FVec Ideal S512x1024 .f32 from iblk m c 0 t) (ix2 r l) = Xa m c r l := by
  blk_ext [iblk, V, idx t]
theorem blk1 (c : Dev nD) (t : Fin cfg0.N) (l : Fin 1024) : (show FVec Ideal S1x1024 .f32 from iblk m c 1 t) (ix2 0 l) = Ga m c l := by
  blk_ext [iblk, V, idx t]
theorem blk2 (c : Dev nD) (t : Fin cfg0.N) (s : Fin 8) (l : Fin 1024) (k : Fin 256) : (show FVec Ideal S8x1024x256 .bf16 from iblk m c 2 t) (ix3 s l k) = Wa m c l (wcol s k) := by
  refine Eq.trans ?_ (V2 m c s l k)
  blk_ext [iblk, idx t]

/-- The normalised row, with its gain. -/
def normed {n : ℕ} (X : Fin n → Fin 1024 → EReal) (G : Fin 1024 → EReal) (R : Fin n) (l : Fin 1024) : EReal := X R l * scale (X R) * G l
/-- The product of the normalised rows, keys and values apart. -/
def act (X : Fin 512 → Fin 1024 → EReal) (G : Fin 1024 → EReal) (W : Fin 1024 → Fin 2048 → EReal) (s : Fin 2) (R : Fin 512) (k : Fin 1024) : EReal :=
  ∑ l, normed X G R l * W l (col s k)

theorem pay3_eq (x : FVec Ideal S512x1024 .f32) (g : FVec Ideal S1x1024 .f32) (r : Fin 512) (l : Fin 1024) :
    (show EReal from k0_pay3 (F := Ideal) x g (ix2 r l)) = normed (fun r l => x (ix2 r l)) (fun l => g (ix2 0 l)) r l := by
  unfold normed scale under
  pointwise [k0_pay3]
theorem ld0 (c : Dev nD) (t : Fin cfg0.N) : View.ld (iblk m c 0 t) r0_0 = iblk m c 0 t := View.ld_unit_zero (funext fun a => by fin_cases a <;> rfl) _ _
theorem ld1 (c : Dev nD) (t : Fin cfg0.N) : View.ld (iblk m c 1 t) r0_1 = iblk m c 1 t := View.ld_unit_zero (funext fun a => by fin_cases a <;> rfl) _ _
theorem nrm (c : Dev nD) (t : Fin cfg0.N) (r : Fin 512) (l : Fin 1024) :
    (show EReal from k0_pay3 (F := Ideal) (iblk m c 0 t) (iblk m c 1 t) (ix2 r l)) = normed (Xa m c) (Ga m c) r l := by
  refine (pay3_eq _ _ r l).trans ?_
  unfold normed
  exact congrArg₂ (· * ·) (congrArg₂ (· * ·) (blk0 m c t r l) (congrArg scale (funext fun k => blk0 m c t r k))) (blk1 m c t l)

theorem pay1_eq (n : FVec Ideal S512x1024 .bf16) (w : FVec Ideal S1x1024x256 .bf16) (x : S1x512x256.Idx) :
    (show EReal from k0_pay1 (F := Ideal) n w x) = ∑ l : Fin 1024, n (ix2 (x 1) l) * w (ix3 0 l (x 2)) := by
  have hx : (x 0).val = 0 := Nat.lt_one_iff.mp (x 0).isLt
  pointwise [k0_pay1]
theorem p2 (n w) : k0_pay2 (F := Ideal) n w = k0_pay1 n w := rfl
theorem p4 (x g w) : k0_pay4 (F := Ideal) x g w = k0_pay1 (k0_pay3 x g) w := rfl
theorem p5 (x g w) : k0_pay5 (F := Ideal) x g w = k0_pay1 (k0_pay3 x g) w := rfl
theorem p6 (n w) : k0_pay6 (F := Ideal) n w = k0_pay1 n w := rfl
theorem p7 (n w) : k0_pay7 (F := Ideal) n w = k0_pay1 n w := rfl
theorem p8 (n w) : k0_pay8 (F := Ideal) n w = k0_pay1 n w := rfl
theorem p9 (n w) : k0_pay9 (F := Ideal) n w = k0_pay1 n w := rfl

/-- The slab of weights `s`, as loaded. -/
theorem slot (c : Dev nD) (t : Fin cfg0.N) (s : Fin 8) (B : ∀ a, (![s.val, 0, 0] : Fin 3 → ℕ) a + S1x1024x256.size a ≤ S8x1024x256.size a) (l : Fin 1024) (k : Fin 256) :
    (show EReal from (View.ld (iblk m c 2 t) (Rect.unit (s := S8x1024x256) ![s.val, 0, 0] S1x1024x256.size B) : FVec Ideal S1x1024x256 .bf16) (ix3 0 l k)) = Wa m c l (wcol s k) := by
  refine Eq.trans (congrArg (iblk m c 2 t) ?_) (blk2 m c t s l k)
  funext a
  match a with
  | ⟨0, _⟩ => exact Fin.ext (by show s.val + 1 * 0 = s.val; omega)
  | ⟨1, _⟩ => exact Fin.ext (by show 0 + 1 * l.val = l.val; omega)
  | ⟨2, _⟩ => exact Fin.ext (by show 0 + 1 * k.val = k.val; omega)

/-- One piece of the product. -/
theorem piece (c : Dev nD) (t : Fin cfg0.N) (s : Fin 8) (B : ∀ a, (![s.val, 0, 0] : Fin 3 → ℕ) a + S1x1024x256.size a ≤ S8x1024x256.size a) (x : S1x512x256.Idx)
    (y : S2x512x1024.Idx) (h1 : (y 1).val = (x 1).val) (h : (y 0).val * 1024 + (y 2).val = s.val * 256 + (x 2).val) :
    (show EReal from k0_pay1 (F := Ideal) (k0_pay3 (F := Ideal) (View.ld (iblk m c 0 t) r0_0) (View.ld (iblk m c 1 t) r0_1)) (View.ld (iblk m c 2 t) (Rect.unit (s := S8x1024x256) ![s.val, 0, 0] S1x1024x256.size B)) x)
      = act (Xa m c) (Ga m c) (Wa m c) (y 0) (y 1) (y 2) := by
  rw [ld0, ld1]
  refine (pay1_eq _ _ x).trans ?_
  have e1 : (y 1 : Fin 512) = x 1 := Fin.ext h1
  have e2 : col (y 0) (y 2) = wcol s (x 2) := Fin.ext h
  unfold act
  rw [e1, e2]
  exact Finset.sum_congr rfl fun l _ => congrArg₂ (· * ·) (nrm m c t (x 1) l) (slot m c t s B l (x 2))

theorem o3 (c : Dev nD) (t : Fin cfg0.N) (y : S2x512x1024.Idx) :
    out0_3 (F := Ideal) (iblk m c 0 t) (iblk m c 1 t) (iblk m c 2 t) y = act (Xa m c) (Ga m c) (Wa m c) (y 0) (y 1) (y 2) := by
  unfold out0_3
  simp only [k0_pay10, p2, p4, p5, p6, p7, p8, p9]
  canon_tiles x h
  · exact piece m c t 7 _ x y h1 (by have := Nat.lt_one_iff.mp (x 0).isLt; rw [h0, h2]; simp; try omega)
  · exact piece m c t 6 _ x y h1 (by have := Nat.lt_one_iff.mp (x 0).isLt; rw [h0, h2]; simp; try omega)
  · exact piece m c t 5 _ x y h1 (by have := Nat.lt_one_iff.mp (x 0).isLt; rw [h0, h2]; simp; try omega)
  · exact piece m c t 4 _ x y h1 (by have := Nat.lt_one_iff.mp (x 0).isLt; rw [h0, h2]; simp; try omega)
  · exact piece m c t 3 _ x y h1 (by have := Nat.lt_one_iff.mp (x 0).isLt; rw [h0, h2]; simp; try omega)
  · exact piece m c t 2 _ x y h1 (by have := Nat.lt_one_iff.mp (x 0).isLt; rw [h0, h2]; simp; try omega)
  · exact piece m c t 1 _ x y h1 (by have := Nat.lt_one_iff.mp (x 0).isLt; rw [h0, h2]; simp; try omega)
  · exact piece m c t 0 _ x y h1 (by have := Nat.lt_one_iff.mp (x 0).isLt; rw [h0, h2]; simp; try omega)
theorem o4 (c : Dev nD) (t : Fin cfg0.N) (y : S512x1024.Idx) :
    out0_4 (F := Ideal) (iblk m c 0 t) (iblk m c 1 t) (iblk m c 2 t) y = k0_pay3 (F := Ideal) (iblk m c 0 t) (iblk m c 1 t) y := by
  unfold out0_4
  frame_out

theorem etaR (i : S2x512x1024.Idx) : i = ix3 (i 0) (i 1) (i 2) := by blk_ext
theorem etaT (y : S512x1024.Idx) : y = ix2 (y 0) (y 1) := by blk_ext
theorem final3 (c : Dev nD) : (dats m 0 c).arrAt 3 (cfgs 0).N = fun i : S2x512x1024.Idx => act (Xa m c) (Ga m c) (Wa m c) (i 0) (i 1) (i 2) := by
  refine (dats m 0 c).arrAt_eq_of_covers 3 _ (by decide +kernel) fun t hf y => ?_
  blk_simp
  rw [after0_3]
  refine (o3 m c t y).trans ?_
  have e0 : ((((cfg0.win 3).blk t).view.emb y) 0 : Fin 2) = y 0 := Fin.ext (by blk_simp [idx t])
  have e1 : ((((cfg0.win 3).blk t).view.emb y) 1 : Fin 512) = y 1 := Fin.ext (by blk_simp [idx t])
  have e2 : ((((cfg0.win 3).blk t).view.emb y) 2 : Fin 1024) = y 2 := Fin.ext (by blk_simp [idx t])
  rw [e0, e1, e2]
theorem final4 (c : Dev nD) : (dats m 0 c).arrAt 4 (cfgs 0).N = fun i : S512x1024.Idx => normed (Xa m c) (Ga m c) (i 0) (i 1) := by
  refine (dats m 0 c).arrAt_eq_of_covers 4 _ (by decide +kernel) fun t hf y => ?_
  blk_simp
  rw [after0_4]
  obtain ⟨r, l, rfl⟩ : ∃ (r : Fin 512) (l : Fin 1024), y = ix2 r l := ⟨y 0, y 1, etaT y⟩
  refine (o4 m c t _).trans ((nrm m c t r l).trans ?_)
  have e0 : ((((cfg0.win 4).blk t).view.emb (ix2 r l)) 0 : Fin 512) = r := Fin.ext (by blk_simp [idx t])
  have e1 : ((((cfg0.win 4).blk t).view.emb (ix2 r l)) 1 : Fin 1024) = l := Fin.ext (by blk_simp [idx t])
  rw [e0, e1]
end Cert.Kernel20Ideal.KvF

namespace Cert.KvFPair
open Idealize.ShloMosaic Idealize.ShloMosaic.TcCoe Idealize.SL.Sem Cert.Norms
open Cert.Reference20Ideal Cert.Reference20Ideal.Read in
theorem read11 (x0 x1) (R : Fin 512) (l : Fin 1024) : val_main_v11 (F := Ideal) x0 x1 (ix2 R l)
    = Cert.Kernel20Ideal.KvF.normed (fun R l => x0 (ix2 R l)) (fun l => x1 (ix2 0 l)) R l := by
  unfold Cert.Kernel20Ideal.KvF.normed scale under
  pointwise [val_main_v0, val_main_v1, val_main_v2, val_main_v3, val_main_v4, val_main_v5, val_main_v6, val_main_v7, val_main_v8, val_main_v9, val_main_v10, val_main_v11, val_main_cst, val_main_cst_0, val_main_cst_1]
open Cert.Reference20Ideal Cert.Reference20Ideal.Read in
theorem read15 (x0 x1 x2) (s : Fin 2) (R : Fin 512) (k : Fin 1024) : val_main_v15 (F := Ideal) x0 x1 x2 (ix3 s R k)
    = Cert.Kernel20Ideal.KvF.act (fun R l => x0 (ix2 R l)) (fun l => x1 (ix2 0 l)) (fun l f => x2 (ix2 l f)) s R k := by
  unfold Cert.Kernel20Ideal.KvF.act
  simp only [← read11]
  unfold val_main_v15 val_main_v14 val_main_v13 val_main_v12
  generalize val_main_v11 (F := Ideal) x0 x1 = P
  pointwise
  rfl
open Cert.Reference20Ideal Cert.Reference20Ideal.Read in
theorem read16 (x0 x1) (R : Fin 512) (l : Fin 1024) : val_main_v16 (F := Ideal) x0 x1 (ix2 R l)
    = Cert.Kernel20Ideal.KvF.normed (fun R l => x0 (ix2 R l)) (fun l => x1 (ix2 0 l)) R l := by
  rw [← read11]
  unfold val_main_v16
  generalize val_main_v11 (F := Ideal) x0 x1 = P
  pointwise

theorem algebraic : Cert.algebraic_Kernel20Ideal_Reference20Ideal := by
  pair_intro
  · run_from Cert.Kernel20Ideal.Gen.run_main m g
  · refine Idealize.ShloMosaic.θ_run_mono (Cert.Reference20Ideal.Value.run m' g') ?_
    intro r hr c
    obtain ⟨h0, h1, hrest⟩ := hr c
    obtain ⟨a0, a1, a2⟩ := hagree c
    refine ⟨h0.trans ?_, h1.trans ?_, hrest⟩
    · clear h0 h1 hrest
      rw [Cert.Reference20Ideal.Read.val_main_v15_eq, Cert.Kernel20Ideal.KvF.final3, a0, a1, a2]
      funext i
      rw [Cert.Kernel20Ideal.KvF.etaR i]
      exact read15 _ _ _ (i 0) (i 1) (i 2)
    · clear h0 h1 hrest
      rw [Cert.Reference20Ideal.Read.val_main_v16_eq, Cert.Kernel20Ideal.KvF.final4, a0, a1]
      funext i
      rw [Cert.Kernel20Ideal.KvF.etaT i]
      exact read16 _ _ (i 0) (i 1)
end Cert.KvFPair
-- ==== Proof.OProjPair.lean ====
/-
  The product out of the attention, added to the tokens, and the normalisation behind it: the kernel adds the product
  tile by tile, two column blocks at a time, and normalises the rows it has just stored; its two arrays are the
  reference's, at every input.
-/
module

public import proofs.«01_k».proof.Defs
public import proofs.«01_k».proof.Proof.Gen.Kernel21Ideal.Frame
public import proofs.«01_k».proof.Proof.Gen.Reference21Ideal.Read
public import Idealize.ShloMosaic.Lib.Pipeline.ValueKit
public import Idealize.ShloMosaic.Lib.Pipeline.ReadBack
public import Idealize.ShloMosaic.Lib.Pointwise
public import Idealize.ShloMosaic.Lib.Claim
public import proofs.«01_k».proof.Proof.Norms

@[expose] public section
set_option maxRecDepth 16384
noncomputable section
namespace Cert.Kernel21Ideal.OProj
open Cert.Kernel21Ideal Cert.Kernel21Ideal.Gen Idealize.ShloMosaic Idealize.ShloMosaic.TcCoe Idealize.SL.Sem Cert.Norms
open Idealize.ShloMosaic.Pipeline (Dat)
variable (m : (ℓ : Loc nD τ sig) → Buf (Elt Ideal) ℓ)
theorem idx : ∀ t : Fin cfg0.N,
    win0_0.index t = ![t.val, 0] ∧ win0_1.index t = ![0, 0] ∧ win0_2.index t = ![t.val, 0] ∧ win0_3.index t = ![0, 0]
      ∧ win0_4.index t = ![t.val, 0] ∧ win0_5.index t = ![t.val, 0] :=
  (by decide +kernel : ∀ t : Fin grid0.N, _)

/-- The attention's output. -/
abbrev Oa (c : Dev nD) (R : Fin 8192) (k : Fin 1024) : EReal := (show FVec Ideal S8192x1024 .bf16 from m ((c : Thread nD τ).loc main_arg0)) (ix2 R k)
/-- The weights. -/
abbrev Wa (c : Dev nD) (k l : Fin 1024) : EReal := (show FVec Ideal S1024x1024 .f32 from m ((c : Thread nD τ).loc main_arg1)) (ix2 k l)
/-- The tokens beside the product. -/
abbrev Ha (c : Dev nD) (R : Fin 8192) (l : Fin 1024) : EReal := (show FVec Ideal S8192x1024 .f32 from m ((c : Thread nD τ).loc main_arg2)) (ix2 R l)
/-- The gain of the normalisation. -/
abbrev Ga (c : Dev nD) (l : Fin 1024) : EReal := (show FVec Ideal S1x1024 .f32 from m ((c : Thread nD τ).loc main_arg3)) (ix2 0 l)

/-- Row `r` of the tile of point `t`. -/
def at_ (t : Fin cfg0.N) (r : Fin 1024) : Fin 8192 := ⟨t.val * 1024 + r.val, by have := lt_of_lt_of_eq t.isLt N_0; omega⟩

/-- The tokens with the product added. -/
def tok (O : Fin 8192 → Fin 1024 → EReal) (W : Fin 1024 → Fin 1024 → EReal) (H : Fin 8192 → Fin 1024 → EReal)
    (R : Fin 8192) (l : Fin 1024) : EReal := H R l + ∑ k, O R k * W k l
/-- The rows normalised. -/
def nrm (X : Fin 8192 → Fin 1024 → EReal) (G : Fin 1024 → EReal) (R : Fin 8192) (l : Fin 1024) : EReal :=
  X R l * scale (X R) * G l

theorem V0 (c : Dev nD) (k l : Fin 1024) : (show FVec Ideal S1024x1024 .bf16 from V m c main_v0) (ix2 k l) = Wa m c k l := by
  simp only [V, hostOps0, List.flatten_cons, List.flatten_nil, List.append_nil, List.cons_append, List.nil_append]
  entry_read
  pointwise

theorem etaT (y : S1024x1024.Idx) : y = ix2 (y 0) (y 1) := by blk_ext
theorem etaH (y : S1024x512.Idx) : y = ix2 (y 0) (y 1) := by blk_ext
theorem etaR (i : S8192x1024.Idx) : i = ix2 (i 0) (i 1) := by blk_ext

theorem blk0 (c : Dev nD) (t : Fin cfg0.N) (y : S1024x1024.Idx) : (show FVec Ideal S1024x1024 .bf16 from iblk m c 0 t) y = Oa m c (at_ t (y 0)) (y 1) := by
  rw [etaT y]
  blk_ext [iblk, V, idx t, at_]
theorem blk1 (c : Dev nD) (t : Fin cfg0.N) (y : S1024x1024.Idx) : (show FVec Ideal S1024x1024 .bf16 from iblk m c 1 t) y = Wa m c (y 0) (y 1) := by
  rw [etaT y]
  refine Eq.trans ?_ (V0 m c (y 0) (y 1))
  blk_ext [iblk, idx t, at_]
theorem blk2 (c : Dev nD) (t : Fin cfg0.N) (y : S1024x1024.Idx) : (show FVec Ideal S1024x1024 .f32 from iblk m c 2 t) y = Ha m c (at_ t (y 0)) (y 1) := by
  rw [etaT y]
  blk_ext [iblk, V, idx t, at_]
theorem blk3 (c : Dev nD) (t : Fin cfg0.N) (l : Fin 1024) : (show FVec Ideal S1x1024 .f32 from iblk m c 3 t) (ix2 0 l) = Ga m c l := by
  blk_ext [iblk, V, idx t, at_]

/-- The tokens of the tile of point `t`. -/
def tokv (c : Dev nD) (t : Fin cfg0.N) : FVec Ideal S1024x1024 .f32 := fun y => tok (Oa m c) (Wa m c) (Ha m c) (at_ t (y 0)) (y 1)

theorem pay3_eq (x : FVec Ideal S1024x1024 .f32) (g : FVec Ideal S1x1024 .f32) (r l : Fin 1024) :
    (show EReal from k0_pay3 (F := Ideal) x g (ix2 r l)) = x (ix2 r l) * scale (fun k : Fin 1024 => (show EReal from x (ix2 r k))) * g (ix2 0 l) := by
  unfold scale under
  pointwise [k0_pay3]

/-- The two column blocks of the tokens, the last stored first. -/
abbrev pieces (c : Dev nD) (t : Fin cfg0.N) : List (View.Piece (Elt Ideal) S1024x1024 .f32) :=
  [⟨Rect.unit ![0, 512] ![1024, 512] inb_S1024x1024_S1024x512_0_512,
      k0_pay2 (F := Ideal) (iblk m c 0 t)
        (View.ld (iblk m c 2 t) (Rect.unit ![0, 512] ![1024, 512] inb_S1024x1024_S1024x512_0_512))
        (View.ld (iblk m c 1 t) (Rect.unit ![0, 512] ![1024, 512] inb_S1024x1024_S1024x512_0_512))⟩,
    ⟨Rect.unit ![0, 0] ![1024, 512] inb_S1024x1024_S1024x512_0_0,
      k0_pay1 (F := Ideal) (iblk m c 0 t)
        (View.ld (iblk m c 2 t) (Rect.unit ![0, 0] ![1024, 512] inb_S1024x1024_S1024x512_0_0))
        (View.ld (iblk m c 1 t) (Rect.unit ![0, 0] ![1024, 512] inb_S1024x1024_S1024x512_0_0))⟩]

theorem canon2 (c : Dev nD) (t : Fin cfg0.N) (y : S1024x1024.Idx) : View.canon (pieces m c t) y = tokv m c t y := by
  unfold pieces
  canon_tiles x h
  all_goals
    pointwise [k0_pay1, k0_pay2]
    unfold tokv tok
    refine congrArg₂ (· + ·) ((blk2 m c t _).trans (congrArg₂ (Ha m c) (Fin.ext ?_) (Fin.ext ?_)))
      (Finset.sum_congr rfl fun f _ => congrArg₂ (· * ·) ((blk0 m c t _).trans (congrArg₂ (Oa m c) (Fin.ext ?_) (Fin.ext ?_)))
        ((blk1 m c t _).trans (congrArg₂ (Wa m c) (Fin.ext ?_) (Fin.ext ?_))))
    all_goals first | rfl | exact h1.symm | exact congrArg (t.val * 1024 + ·) h0.symm

/-- The whole tile. -/
abbrev Rall : Rect S1024x1024 := Rect.unit ![0, 0] ![1024, 1024] inb_S1024x1024_S1024x1024_0_0
/-- The tile of tokens, read back after both stores. -/
def xr (c : Dev nD) (t : Fin cfg0.N) : FVec Ideal S1024x1024 .f32 :=
  (ms0_4 t).view.readCov (Val := Elt Ideal) (pieces m c t) Rall.toLoadRect
theorem xr_eq (c : Dev nD) (t : Fin cfg0.N) : xr m c t = tokv m c t := by
  unfold xr
  rw [View.readCov_eq_canon']
  refine funext fun j => (canon2 m c t _).trans (congrArg (tokv m c t) ?_)
  funext a
  match a with
  | ⟨0, _⟩ => exact Fin.ext (by show 0 + 1 * (j 0).val = (j 0).val; omega)
  | ⟨1, _⟩ => exact Fin.ext (by show 0 + 1 * (j 1).val = (j 1).val; omega)

theorem o4 (c : Dev nD) (t : Fin cfg0.N) (y : S1024x1024.Idx) : (outsAt0 m c t).1 y = tokv m c t y := by
  refine Eq.trans ?_ (canon2 m c t y)
  unfold outsAt0
  frame_out
  rfl
theorem h3 (c : Dev nD) (t : Fin cfg0.N) (r l : Fin 1024) :
    (show EReal from k0_pay3 (F := Ideal) (xr m c t) (iblk m c 3 t) (ix2 r l)) = nrm (fun R l => tok (Oa m c) (Wa m c) (Ha m c) R l) (Ga m c) (at_ t r) l := by
  refine (pay3_eq _ _ r l).trans ?_
  rw [xr_eq]
  unfold nrm
  exact congrArg (_ * ·) (blk3 m c t l)
theorem o5 (c : Dev nD) (t : Fin cfg0.N) (y : S1024x1024.Idx) : (outsAt0 m c t).2 y = nrm (fun R l => tok (Oa m c) (Wa m c) (Ha m c) R l) (Ga m c) (at_ t (y 0)) (y 1) := by
  obtain ⟨r, l, rfl⟩ : ∃ r l : Fin 1024, y = ix2 r l := ⟨y 0, y 1, etaT y⟩
  refine Eq.trans ?_ (h3 m c t r l)
  unfold outsAt0
  frame_out
  rfl

theorem final4 (c : Dev nD) : (dats m 0 c).arrAt 4 (cfgs 0).N = fun i : S8192x1024.Idx => tok (Oa m c) (Wa m c) (Ha m c) (i 0) (i 1) := by
  refine (dats m 0 c).arrAt_eq_of_covers 4 _ (by decide +kernel) fun t hf y => ?_
  blk_simp
  rw [after0_4]
  refine (o4 m c t y).trans ?_
  have e0 : ((((cfg0.win 4).blk t).view.emb y) 0 : Fin 8192) = at_ t (y 0) := Fin.ext (by blk_simp [idx t, at_])
  have e1 : ((((cfg0.win 4).blk t).view.emb y) 1 : Fin 1024) = y 1 := Fin.ext (by blk_simp [idx t])
  rw [e0, e1]
  rfl
theorem final5 (c : Dev nD) : (dats m 0 c).arrAt 5 (cfgs 0).N = fun i : S8192x1024.Idx => nrm (fun R l => tok (Oa m c) (Wa m c) (Ha m c) R l) (Ga m c) (i 0) (i 1) := by
  refine (dats m 0 c).arrAt_eq_of_covers 5 _ (by decide +kernel) fun t hf y => ?_
  blk_simp
  rw [after0_5]
  refine (o5 m c t y).trans ?_
  have e0 : ((((cfg0.win 5).blk t).view.emb y) 0 : Fin 8192) = at_ t (y 0) := Fin.ext (by blk_simp [idx t, at_])
  have e1 : ((((cfg0.win 5).blk t).view.emb y) 1 : Fin 1024) = y 1 := Fin.ext (by blk_simp [idx t])
  rw [e0, e1]
end Cert.Kernel21Ideal.OProj

namespace Cert.OProjPair
open Idealize.ShloMosaic Idealize.ShloMosaic.TcCoe Idealize.SL.Sem Cert.Norms Cert.Kernel21Ideal.OProj
open Cert.Reference21Ideal Cert.Reference21Ideal.Read in
theorem read2 (x0 x1 x2) (R : Fin 8192) (l : Fin 1024) : val_main_v2 (F := Ideal) x0 x1 x2 (ix2 R l)
    = tok (fun R k => x0 (ix2 R k)) (fun k l => x1 (ix2 k l)) (fun R l => x2 (ix2 R l)) R l := by
  unfold tok
  pointwise [val_main_v0, val_main_v1, val_main_v2]
open Cert.Reference21Ideal Cert.Reference21Ideal.Read in
theorem read15 (x0 x1 x2 x3) (R : Fin 8192) (l : Fin 1024) : val_main_v15 (F := Ideal) x0 x1 x2 x3 (ix2 R l)
    = nrm (fun R l => tok (fun R k => x0 (ix2 R k)) (fun k l => x1 (ix2 k l)) (fun R l => x2 (ix2 R l)) R l) (fun l => x3 (ix2 0 l)) R l := by
  simp only [← read2]
  unfold nrm scale under
  unfold val_main_v15 val_main_v14 val_main_v12 val_main_v11 val_main_v10 val_main_v9 val_main_v7 val_main_v5 val_main_v4 val_main_v3
  generalize val_main_v2 (F := Ideal) x0 x1 x2 = P
  pointwise [val_main_v13, val_main_v6, val_main_v8, val_main_cst, val_main_cst_0, val_main_cst_1]

theorem algebraic : Cert.algebraic_Kernel21Ideal_Reference21Ideal := by
  pair_intro
  · run_from Cert.Kernel21Ideal.Gen.run_main m g
  · refine Idealize.ShloMosaic.θ_run_mono (Cert.Reference21Ideal.Value.run m' g') ?_
    intro r hr c
    obtain ⟨h0, h1, hrest⟩ := hr c
    obtain ⟨a0, a1, a2, a3⟩ := hagree c
    refine ⟨h0.trans ?_, h1.trans ?_, hrest⟩
    · clear h0 h1 hrest
      rw [Cert.Reference21Ideal.Read.val_main_v2_eq, Cert.Kernel21Ideal.OProj.final4, a0, a1, a2]
      funext i
      rw [Cert.Kernel21Ideal.OProj.etaR i]
      exact read2 _ _ _ (i 0) (i 1)
    · clear h0 h1 hrest
      rw [Cert.Reference21Ideal.Read.val_main_v15_eq, Cert.Kernel21Ideal.OProj.final5, a0, a1, a2, a3]
      funext i
      rw [Cert.Kernel21Ideal.OProj.etaR i]
      exact read15 _ _ _ _ (i 0) (i 1)
end Cert.OProjPair
-- ==== Proof.PrePair.lean ====
/-
  The normalisation that opens the step: each row divided by the root of its mean square, times the gain. The kernel
  takes a tile of rows at a time; its array is the reference's, at every input.
-/
module

public import proofs.«01_k».proof.Defs
public import proofs.«01_k».proof.Proof.Gen.Kernel22Ideal.Frame
public import proofs.«01_k».proof.Proof.Gen.Reference22Ideal.Read
public import Idealize.ShloMosaic.Lib.Pipeline.ValueKit
public import Idealize.ShloMosaic.Lib.Pipeline.ReadBack
public import Idealize.ShloMosaic.Lib.Pointwise
public import Idealize.ShloMosaic.Lib.Claim
public import proofs.«01_k».proof.Proof.Norms

@[expose] public section
set_option maxRecDepth 16384
noncomputable section
namespace Cert.Kernel22Ideal.Pre
open Cert.Kernel22Ideal Cert.Kernel22Ideal.Gen Idealize.ShloMosaic Idealize.ShloMosaic.TcCoe Idealize.SL.Sem Cert.Norms
open Idealize.ShloMosaic.Pipeline (Dat)
variable (m : (ℓ : Loc nD τ sig) → Buf (Elt Ideal) ℓ)
theorem idx : ∀ t : Fin cfg0.N,
    win0_0.index t = ![t.val, 0] ∧ win0_1.index t = ![0, 0] ∧ win0_3.index t = ![t.val, 0] :=
  (by decide +kernel : ∀ t : Fin grid0.N, _)

/-- The tokens. -/
abbrev Xa (c : Dev nD) (R : Fin 8192) (l : Fin 1024) : EReal := (show FVec Ideal S8192x1024 .f32 from m ((c : Thread nD τ).loc main_arg0)) (ix2 R l)
/-- The gain of the normalisation. -/
abbrev Ga (c : Dev nD) (l : Fin 1024) : EReal := (show FVec Ideal S1x1024 .f32 from m ((c : Thread nD τ).loc main_arg1)) (ix2 0 l)

/-- Row `r` of the tile of point `t`. -/
def at_ (t : Fin cfg0.N) (r : Fin 1024) : Fin 8192 := ⟨t.val * 1024 + r.val, by have := lt_of_lt_of_eq t.isLt N_0; omega⟩
theorem blk0 (c : Dev nD) (t : Fin cfg0.N) (r : Fin 1024) (l : Fin 1024) : (show FVec Ideal S1024x1024 .f32 from iblk m c 0 t) (ix2 r l) = Xa m c (at_ t r) l := by
  blk_ext [iblk, V, idx t, at_]
theorem blk1 (c : Dev nD) (t : Fin cfg0.N) (l : Fin 1024) : (show FVec Ideal S1x1024 .f32 from iblk m c 1 t) (ix2 0 l) = Ga m c l := by
  blk_ext [iblk, V, idx t, at_]

/-- The normalised row, with its gain. -/
def normed {n : ℕ} (X : Fin n → Fin 1024 → EReal) (G : Fin 1024 → EReal) (R : Fin n) (l : Fin 1024) : EReal := X R l * scale (X R) * G l

theorem pay1_eq (x : FVec Ideal S1024x1024 .f32) (g : FVec Ideal S1x1024 .f32) (r l : Fin 1024) :
    (show EReal from k0_pay1 (F := Ideal) x g (ix2 r l)) = normed (fun r l => x (ix2 r l)) (fun l => g (ix2 0 l)) r l := by
  unfold normed scale under
  pointwise [k0_pay1]
theorem tile (x : FVec Ideal S1024x1024 .f32) (g : FVec Ideal S1x1024 .f32) (z : FVec Ideal S8x128 .f32) (y : S1024x1024.Idx) :
    out0_3 (F := Ideal) x g z y = k0_pay1 (F := Ideal) x g y := by
  unfold out0_3
  frame_out

theorem etaR (i : S8192x1024.Idx) : i = ix2 (i 0) (i 1) := by blk_ext
theorem etaT (y : S1024x1024.Idx) : y = ix2 (y 0) (y 1) := by blk_ext
theorem final3 (c : Dev nD) : (dats m 0 c).arrAt 3 (cfgs 0).N = fun i : S8192x1024.Idx => normed (Xa m c) (Ga m c) (i 0) (i 1) := by
  refine (dats m 0 c).arrAt_eq_of_covers 3 _ (by decide +kernel) fun t hf y => ?_
  blk_simp
  rw [after0_3]
  obtain ⟨r, l, rfl⟩ : ∃ (r : Fin 1024) (l : Fin 1024), y = ix2 r l := ⟨y 0, y 1, etaT y⟩
  refine (tile _ _ _ _).trans ((pay1_eq _ _ r l).trans ?_)
  have e0 : ((((cfg0.win 3).blk t).view.emb (ix2 r l)) 0 : Fin 8192) = at_ t r := Fin.ext (by blk_simp [idx t, at_])
  have e1 : ((((cfg0.win 3).blk t).view.emb (ix2 r l)) 1 : Fin 1024) = l := Fin.ext (by blk_simp [idx t])
  rw [e0, e1]
  unfold normed
  exact congrArg₂ (· * ·) (congrArg₂ (· * ·) (blk0 m c t r l) (congrArg scale (funext fun k => blk0 m c t r k))) (blk1 m c t l)
end Cert.Kernel22Ideal.Pre

namespace Cert.PrePair
open Idealize.ShloMosaic Idealize.ShloMosaic.TcCoe Idealize.SL.Sem Cert.Norms
open Cert.Reference22Ideal Cert.Reference22Ideal.Read in
theorem read (x0 x1) (R : Fin 8192) (l : Fin 1024) : val_main_v12 (F := Ideal) x0 x1 (ix2 R l)
    = Cert.Kernel22Ideal.Pre.normed (fun R l => x0 (ix2 R l)) (fun l => x1 (ix2 0 l)) R l := by
  unfold Cert.Kernel22Ideal.Pre.normed scale under
  pointwise [val_main_v0, val_main_v1, val_main_v2, val_main_v3, val_main_v4, val_main_v5, val_main_v6, val_main_v7, val_main_v8, val_main_v9, val_main_v10, val_main_v11, val_main_v12, val_main_cst, val_main_cst_0, val_main_cst_1]

theorem algebraic : Cert.algebraic_Kernel22Ideal_Reference22Ideal := by
  pair_intro
  · run_from Cert.Kernel22Ideal.Gen.run_main m g
  · refine Idealize.ShloMosaic.θ_run_mono (Cert.Reference22Ideal.Value.run m' g') ?_
    intro r hr c
    obtain ⟨h0, hrest⟩ := hr c
    obtain ⟨a0, a1⟩ := hagree c
    refine ⟨h0.trans ?_, hrest⟩
    rw [Cert.Reference22Ideal.Read.val_main_v12_eq, Cert.Kernel22Ideal.Pre.final3, a0, a1]
    funext i
    rw [Cert.Kernel22Ideal.Pre.etaR i]
    exact read _ _ (i 0) (i 1)
end Cert.PrePair
-- ==== Proof.lean ====
/- The claims about the calls of the training step. -/
module

public import proofs.«01_k».proof.Defs
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Reference21Ideal
public import proofs.«01_k».proof.Proof.Gen.Reference21Ideal.Run
public import proofs.«01_k».proof.Proof.Gen.Reference21Ideal.Read
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Reference22Ideal
public import proofs.«01_k».proof.Proof.Gen.Reference22Ideal.Run
public import proofs.«01_k».proof.Proof.Gen.Reference22Ideal.Read
public import proofs.«01_k».proof.Proof.Gen.Pre_attn_finite
public import proofs.«01_k».proof.Proof.Gen.Pre_attnf_finite
public import proofs.«01_k».proof.Proof.AttnPair
public import proofs.«01_k».proof.Proof.DownPair
public import proofs.«01_k».proof.Proof.WDownPair
public import proofs.«01_k».proof.Proof.WUpPair
public import proofs.«01_k».proof.Proof.UpPair
public import proofs.«01_k».proof.Proof.InPair
public import proofs.«01_k».proof.Proof.WInPair
public import proofs.«01_k».proof.Proof.LossPair
public import proofs.«01_k».proof.Proof.UpFPair
public import proofs.«01_k».proof.Proof.InFPair
public import proofs.«01_k».proof.Proof.QPair
public import proofs.«01_k».proof.Proof.WQPair
public import proofs.«01_k».proof.Proof.WOutPair
public import proofs.«01_k».proof.Proof.WOPair
public import proofs.«01_k».proof.Proof.WKvPair
public import proofs.«01_k».proof.Proof.KvPair
public import proofs.«01_k».proof.Proof.AttnFPair
public import proofs.«01_k».proof.Proof.OutQPair
public import proofs.«01_k».proof.Proof.KvFPair
public import proofs.«01_k».proof.Proof.OProjPair
public import proofs.«01_k».proof.Proof.PrePair
public import Idealize.ShloMosaic.Adequacy
public import Idealize.ShloMosaic.Init
public import Idealize.ShloMosaic.Lib.Claim

@[expose] public section

noncomputable section

namespace Cert.Proof

open Idealize.ShloMosaic Idealize.SL.Sem

/-- The reference of the 1. pair runs to its end and leaves its arguments as they were. -/
theorem frame_reference2 : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

/-- The reference of the 2. pair runs to its end and leaves its arguments as they were. -/
theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The reference of the 3. pair runs to its end and leaves its arguments as they were. -/
theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The reference of the 4. pair runs to its end and leaves its arguments as they were. -/
theorem frame_reference5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The reference of the 5. pair runs to its end and leaves its arguments as they were. -/
theorem frame_reference6 : Cert.quiescent_Reference6Ideal := fun m ρ _ =>
  (θ_run Cert.Reference6Ideal.defs _ _).mono (fun r h => ⟨fun c => (h c).2.2.2.2, sem_eq_zero_of_no_sems (by decide) r.2⟩)
    (Cert.Reference6Ideal.Value.run (F := Ideal) m ρ)

/-- The reference of the 6. pair runs to its end and leaves its arguments as they were. -/
theorem frame_reference7 : Cert.quiescent_Reference7Ideal := fun m ρ _ =>
  (θ_run Cert.Reference7Ideal.defs _ _).mono (fun r h => ⟨fun c => (h c).2.2, sem_eq_zero_of_no_sems (by decide) r.2⟩)
    (Cert.Reference7Ideal.Value.run (F := Ideal) m ρ)

/-- The reference of the 7. pair runs to its end and leaves its arguments as they were. -/
theorem frame_reference8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- The reference of the 8. pair runs to its end and leaves its arguments as they were. -/
theorem frame_reference9 : Cert.quiescent_Reference9Ideal := fun m ρ _ =>
  (θ_run Cert.Reference9Ideal.defs _ _).mono (fun r h => ⟨fun c => (h c).2.2.2.2, sem_eq_zero_of_no_sems (by decide) r.2⟩)
    (Cert.Reference9Ideal.Value.run (F := Ideal) m ρ)

/-- The reference of the 9. pair runs to its end and leaves its arguments as they were. -/
theorem frame_reference10 : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

/-- The reference of the 10. pair runs to its end and leaves its arguments as they were. -/
theorem frame_reference11 : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

/-- The reference of the 11. pair runs to its end and leaves its arguments as they were. -/
theorem frame_reference12 : Cert.quiescent_Reference12Ideal := fun m ρ _ =>
  (θ_run Cert.Reference12Ideal.defs _ _).mono (fun r h => ⟨fun c => (h c).2.2.2.2, sem_eq_zero_of_no_sems (by decide) r.2⟩)
    (Cert.Reference12Ideal.Value.run (F := Ideal) m ρ)

/-- The reference of the 12. pair runs to its end and leaves its arguments as they were. -/
theorem frame_reference13 : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

/-- The reference of the 13. pair runs to its end and leaves its arguments as they were. -/
theorem frame_reference14 : Cert.quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)

/-- The reference of the 14. pair runs to its end and leaves its arguments as they were. -/
theorem frame_reference15 : Cert.quiescent_Reference15Ideal := fun m ρ _ =>
  (θ_run Cert.Reference15Ideal.defs _ _).mono (fun r h => ⟨fun c => (h c).2, sem_eq_zero_of_no_sems (by decide) r.2⟩)
    (Cert.Reference15Ideal.Value.run (F := Ideal) m ρ)

/-- The reference of the 15. pair runs to its end and leaves its arguments as they were. -/
theorem frame_reference16 : Cert.quiescent_Reference16Ideal := fun m ρ _ =>
  (θ_run Cert.Reference16Ideal.defs _ _).mono (fun r h => ⟨fun c => (h c).2, sem_eq_zero_of_no_sems (by decide) r.2⟩)
    (Cert.Reference16Ideal.Value.run (F := Ideal) m ρ)

/-- The reference of the 16. pair runs to its end and leaves its arguments as they were. -/
theorem frame_reference17 : Cert.quiescent_Reference17Ideal := fun m ρ _ =>
  (θ_run Cert.Reference17Ideal.defs _ _).mono (fun r h => ⟨fun c => (h c).2, sem_eq_zero_of_no_sems (by decide) r.2⟩)
    (Cert.Reference17Ideal.Value.run (F := Ideal) m ρ)

/-- The reference of the 17. pair runs to its end and leaves its arguments as they were. -/
theorem frame_reference18 : Cert.quiescent_Reference18Ideal := fun m ρ _ =>
  (θ_run Cert.Reference18Ideal.defs _ _).mono (fun r h => ⟨fun c => (h c).2, sem_eq_zero_of_no_sems (by decide) r.2⟩)
    (Cert.Reference18Ideal.Value.run (F := Ideal) m ρ)

/-- The reference of the 18. pair runs to its end and leaves its arguments as they were. -/
theorem frame_reference19 : Cert.quiescent_Reference19Ideal := fun m ρ _ =>
  (θ_run Cert.Reference19Ideal.defs _ _).mono (fun r h => ⟨fun c => (h c).2.2.2, sem_eq_zero_of_no_sems (by decide) r.2⟩)
    (Cert.Reference19Ideal.Value.run (F := Ideal) m ρ)

/-- The reference of the 19. pair runs to its end and leaves its arguments as they were. -/
theorem frame_reference20 : Cert.quiescent_Reference20Ideal := fun m ρ _ =>
  (θ_run Cert.Reference20Ideal.defs _ _).mono (fun r h => ⟨fun c => (h c).2.2, sem_eq_zero_of_no_sems (by decide) r.2⟩)
    (Cert.Reference20Ideal.Value.run (F := Ideal) m ρ)

/-- The reference of the 20. pair runs to its end and leaves its arguments as they were. -/
theorem frame_reference21 : Cert.quiescent_Reference21Ideal := fun m ρ _ =>
  (θ_run Cert.Reference21Ideal.defs _ _).mono (fun r h => ⟨fun c => (h c).2.2, sem_eq_zero_of_no_sems (by decide) r.2⟩)
    (Cert.Reference21Ideal.Value.run (F := Ideal) m ρ)

/-- The reference of the 21. pair runs to its end and leaves its arguments as they were. -/
theorem frame_reference22 : Cert.quiescent_Reference22Ideal := fun m ρ _ =>
  (θ_run Cert.Reference22Ideal.defs _ _).mono (fun r h => ⟨fun c => (h c).2, sem_eq_zero_of_no_sems (by decide) r.2⟩)
    (Cert.Reference22Ideal.Value.run (F := Ideal) m ρ)

theorem claim : Cert.Claim :=
  ⟨Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Reference9Ideal.Gen.facts,
    Cert.Kernel10.Gen.facts,
    Cert.Kernel10Ideal.Gen.facts,
    Cert.Reference10Ideal.Gen.facts,
    Cert.Kernel11.Gen.facts,
    Cert.Kernel11Ideal.Gen.facts,
    Cert.Reference11Ideal.Gen.facts,
    Cert.Kernel12.Gen.facts,
    Cert.Kernel12Ideal.Gen.facts,
    Cert.Reference12Ideal.Gen.facts,
    Cert.Kernel13.Gen.facts,
    Cert.Kernel13Ideal.Gen.facts,
    Cert.Reference13Ideal.Gen.facts,
    Cert.Kernel14.Gen.facts,
    Cert.Kernel14Ideal.Gen.facts,
    Cert.Reference14Ideal.Gen.facts,
    Cert.Kernel15.Gen.facts,
    Cert.Kernel15Ideal.Gen.facts,
    Cert.Reference15Ideal.Gen.facts,
    Cert.Kernel16.Gen.facts,
    Cert.Kernel16Ideal.Gen.facts,
    Cert.Reference16Ideal.Gen.facts,
    Cert.Kernel17.Gen.facts,
    Cert.Kernel17Ideal.Gen.facts,
    Cert.Reference17Ideal.Gen.facts,
    Cert.Kernel18.Gen.facts,
    Cert.Kernel18Ideal.Gen.facts,
    Cert.Reference18Ideal.Gen.facts,
    Cert.Kernel19.Gen.facts,
    Cert.Kernel19Ideal.Gen.facts,
    Cert.Reference19Ideal.Gen.facts,
    Cert.Kernel20.Gen.facts,
    Cert.Kernel20Ideal.Gen.facts,
    Cert.Reference20Ideal.Gen.facts,
    Cert.Kernel21.Gen.facts,
    Cert.Kernel21Ideal.Gen.facts,
    Cert.Reference21Ideal.Gen.facts,
    Cert.Kernel22.Gen.facts,
    Cert.Kernel22Ideal.Gen.facts,
    Cert.Reference22Ideal.Gen.facts,
    Cert.Pre_attn_finite.Gen.facts,
    Cert.Pre_attnf_finite.Gen.facts,
    fun m ρ _ => Cert.Kernel2.Gen.frame m ρ,
    fun m ρ _ => Cert.Kernel2Ideal.Gen.frame m ρ,
    fun m ρ _ => Cert.Kernel2Ideal.Gen.frame m ρ,
    frame_reference2,
    fun m ρ _ => frame_reference2 m ρ trivial,
    fun m ρ _ => Cert.Kernel3.Gen.frame m ρ,
    fun m ρ _ => Cert.Kernel3Ideal.Gen.frame m ρ,
    frame_reference3,
    fun m ρ _ => Cert.Kernel4.Gen.frame m ρ,
    fun m ρ _ => Cert.Kernel4Ideal.Gen.frame m ρ,
    frame_reference4,
    fun m ρ _ => Cert.Kernel5.Gen.frame m ρ,
    fun m ρ _ => Cert.Kernel5Ideal.Gen.frame m ρ,
    frame_reference5,
    fun m ρ _ => Cert.Kernel6.Gen.frame m ρ,
    fun m ρ _ => Cert.Kernel6Ideal.Gen.frame m ρ,
    frame_reference6,
    fun m ρ _ => Cert.Kernel7.Gen.frame m ρ,
    fun m ρ _ => Cert.Kernel7Ideal.Gen.frame m ρ,
    frame_reference7,
    fun m ρ _ => Cert.Kernel8.Gen.frame m ρ,
    fun m ρ _ => Cert.Kernel8Ideal.Gen.frame m ρ,
    frame_reference8,
    fun m ρ _ => Cert.Kernel9.Gen.frame m ρ,
    fun m ρ _ => Cert.Kernel9Ideal.Gen.frame m ρ,
    frame_reference9,
    fun m ρ _ => Cert.Kernel10.Gen.frame m ρ,
    fun m ρ _ => Cert.Kernel10Ideal.Gen.frame m ρ,
    frame_reference10,
    fun m ρ _ => Cert.Kernel11.Gen.frame m ρ,
    fun m ρ _ => Cert.Kernel11Ideal.Gen.frame m ρ,
    frame_reference11,
    fun m ρ _ => Cert.Kernel12.Gen.frame m ρ,
    fun m ρ _ => Cert.Kernel12Ideal.Gen.frame m ρ,
    frame_reference12,
    fun m ρ _ => Cert.Kernel13.Gen.frame m ρ,
    fun m ρ _ => Cert.Kernel13Ideal.Gen.frame m ρ,
    frame_reference13,
    fun m ρ _ => Cert.Kernel14.Gen.frame m ρ,
    fun m ρ _ => Cert.Kernel14Ideal.Gen.frame m ρ,
    frame_reference14,
    fun m ρ _ => Cert.Kernel15.Gen.frame m ρ,
    fun m ρ _ => Cert.Kernel15Ideal.Gen.frame m ρ,
    frame_reference15,
    fun m ρ _ => Cert.Kernel16.Gen.frame m ρ,
    fun m ρ _ => Cert.Kernel16Ideal.Gen.frame m ρ,
    frame_reference16,
    fun m ρ _ => Cert.Kernel17.Gen.frame m ρ,
    fun m ρ _ => Cert.Kernel17Ideal.Gen.frame m ρ,
    frame_reference17,
    fun m ρ _ => Cert.Kernel18.Gen.frame m ρ,
    fun m ρ _ => Cert.Kernel18Ideal.Gen.frame m ρ,
    fun m ρ _ => Cert.Kernel18Ideal.Gen.frame m ρ,
    frame_reference18,
    fun m ρ _ => frame_reference18 m ρ trivial,
    fun m ρ _ => Cert.Kernel19.Gen.frame m ρ,
    fun m ρ _ => Cert.Kernel19Ideal.Gen.frame m ρ,
    frame_reference19,
    fun m ρ _ => Cert.Kernel20.Gen.frame m ρ,
    fun m ρ _ => Cert.Kernel20Ideal.Gen.frame m ρ,
    frame_reference20,
    fun m ρ _ => Cert.Kernel21.Gen.frame m ρ,
    fun m ρ _ => Cert.Kernel21Ideal.Gen.frame m ρ,
    frame_reference21,
    fun m ρ _ => Cert.Kernel22.Gen.frame m ρ,
    fun m ρ _ => Cert.Kernel22Ideal.Gen.frame m ρ,
    frame_reference22,
    trivial,
    Cert.AttnPair.algebraic,
    trivial,
    Cert.DownPair.algebraic,
    trivial,
    Cert.WDownPair.algebraic,
    trivial,
    Cert.WUpPair.algebraic,
    trivial,
    Cert.UpPair.algebraic,
    trivial,
    Cert.InPair.algebraic,
    trivial,
    Cert.WInPair.algebraic,
    trivial,
    Cert.LossPair.algebraic,
    trivial,
    Cert.UpFPair.algebraic,
    trivial,
    Cert.InFPair.algebraic,
    trivial,
    Cert.QPair.algebraic,
    trivial,
    Cert.WQPair.algebraic,
    trivial,
    Cert.WOutPair.algebraic,
    trivial,
    Cert.WOPair.algebraic,
    trivial,
    Cert.WKvPair.algebraic,
    trivial,
    Cert.KvPair.algebraic,
    trivial,
    Cert.AttnFPair.algebraic,
    trivial,
    Cert.OutQPair.algebraic,
    trivial,
    Cert.KvFPair.algebraic,
    trivial,
    Cert.OProjPair.algebraic,
    trivial,
    Cert.PrePair.algebraic⟩

end Cert.Proof

end
